-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mlstm [hPre_finite_mlstm : Cert.Pre_finite_mlstm.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mlstm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mlstm [hPre_finite_mlstm : Cert.Pre_finite_mlstm.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mlstm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_mlstm [hKernel5Ideal : Cert.Kernel5Ideal.Facts] [hPre_finite_mlstm : Cert.Pre_finite_mlstm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mlstm m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_mlstm [hReference5Ideal : Cert.Reference5Ideal.Facts] [hPre_finite_mlstm : Cert.Pre_finite_mlstm.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mlstm m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_mlstm [hKernel5Ideal : Cert.Kernel5Ideal.Facts] [hReference5Ideal : Cert.Reference5Ideal.Facts] [hPre_finite_mlstm : Cert.Pre_finite_mlstm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mlstm m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_mlstm : Cert.Pre_finite_mlstm.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_mlstm (hKernel5Ideal := hKernel5Ideal) (hPre_finite_mlstm := hPre_finite_mlstm)
    ∧ quiescent_Reference5Ideal (hReference5Ideal := hReference5Ideal)
    ∧ quiescent_Reference5Ideal_pre_finite_mlstm (hReference5Ideal := hReference5Ideal) (hPre_finite_mlstm := hPre_finite_mlstm)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_mlstm (hKernel5Ideal := hKernel5Ideal) (hReference5Ideal := hReference5Ideal) (hPre_finite_mlstm := hPre_finite_mlstm)
-- ==== Pre_finite_mlstm.lean ====
abbrev S65536x6656 : Shape := ⟨2, ![65536, 6656]⟩
abbrev S65536x128 : Shape := ⟨2, ![65536, 128]⟩
abbrev S512 : Shape := ⟨1, ![512]⟩
abbrev S65536x1536 : Shape := ⟨2, ![65536, 1536]⟩
abbrev S65536x8 : Shape := ⟨2, ![65536, 8]⟩
abbrev S65536x1544 : Shape := ⟨2, ![65536, 1544]⟩
abbrev S_ : Shape := ⟨0, ![]⟩

class Facts : Prop where
  slices_S65536x6656_S65536x1536_0_4096 : S65536x6656.Slices ![0, 4096] S65536x1536
  bitsLt_bf16_f32 : FTy.bits .bf16 < FTy.bits .f32
  slices_S65536x128_S65536x8_0_0 : S65536x128.Slices ![0, 0] S65536x8
  concatenates_S65536x1536_S65536x8_S65536x1544_d1 : Shape.Concatenates [S65536x1536, S65536x8] S65536x1544 1
  bcast_S_S65536x1544 : S_.BroadcastsInDim S65536x1544 (![] : Fin 0 → Fin S65536x1544.rank)

variable [Facts]

def fn {F : FTy → Type} [FloatOps F] (main_arg0 : FVec F S65536x6656 .bf16) (main_arg1 : FVec F S65536x128 .f32) (main_arg2 : FVec F S512 .f32) : IVec S65536x1544 1 :=
  let main_v0 : FVec F S65536x1536 .bf16 := (extractStridedSlice S65536x1536 ![0, 4096] · slices_S65536x6656_S65536x1536_0_4096) main_arg0
  let main_v1 : FVec F S65536x1536 .f32 := (extf .f32 · bitsLt_bf16_f32) main_v0
  let main_v2 : FVec F S65536x8 .f32 := (extractStridedSlice S65536x8 ![0, 0] · slices_S65536x128_S65536x8_0_0) main_arg1
  let main_v3 : FVec F S65536x1544 .f32 := (fun a b => concatenate S65536x1544 1 [⟨S65536x1536, a⟩, ⟨S65536x8, b⟩] concatenates_S65536x1536_S65536x8_S65536x1544_d1) main_v1 main_v2
  let main_v4 : FVec F S65536x1544 .f32 := Host.absf main_v3
  let main_cst : FVec F S_ .f32 := constant S_ .f32 0x7F800000#32
  let main_v5 : FVec F S65536x1544 .f32 := broadcastInDim S65536x1544 ![] bcast_S_S65536x1544 main_cst
  let main_v6 : IVec S65536x1544 1 := cmpf .olt main_v4 main_v5
  main_v6
-- ==== Pre_finite_qk.lean ====
abbrev S65536x6656 : Shape := ⟨2, ![65536, 6656]⟩
abbrev S65536x1024 : Shape := ⟨2, ![65536, 1024]⟩
abbrev S_ : Shape := ⟨0, ![]⟩

class Facts : Prop where
  slices_S65536x6656_S65536x1024_0_2048 : S65536x6656.Slices ![0, 2048] S65536x1024
  bcast_S_S65536x1024 : S_.BroadcastsInDim S65536x1024 (![] : Fin 0 → Fin S65536x1024.rank)

variable [Facts]

def fn {F : FTy → Type} [FloatOps F] (main_arg0 : FVec F S65536x6656 .bf16) : IVec S65536x1024 1 :=
  let main_v0 : FVec F S65536x1024 .bf16 := (extractStridedSlice S65536x1024 ![0, 2048] · slices_S65536x6656_S65536x1024_0_2048) main_arg0
  let main_v1 : FVec F S65536x1024 .bf16 := Host.absf main_v0
  let main_cst : FVec F S_ .bf16 := constant S_ .bf16 0x7F80#16
  let main_v2 : FVec F S65536x1024 .bf16 := broadcastInDim S65536x1024 ![] bcast_S_S65536x1024 main_cst
  let main_v3 : IVec S65536x1024 1 := cmpf .olt main_v1 main_v2
  main_v3
-- ==== Kernel.lean ====
abbrev S65536x6656 : Shape := ⟨2, ![65536, 6656]⟩
abbrev S65536x512 : Shape := ⟨2, ![65536, 512]⟩
abbrev S2048x128 : Shape := ⟨2, ![2048, 128]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 2
  | .vmem => 10
  | .smem => 0
  | _ => 0

abbrev bufTy : (tb : Table) → Fin (tcTables nBuf tb) → BufTy
  | .hbm, ⟨0, _⟩ => ⟨S65536x6656, .bf16⟩
  | .hbm, ⟨1, _⟩ => ⟨S65536x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | _, _ => ⟨S65536x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v12 : BitVec 32 := Scalar.muli arg7 c256_i32
  v12
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v12 : BitVec 32 := Scalar.muli arg7 c256_i32
  let v13 : BitVec 32 := v12
  let v14 : Index := Scalar.indexCast v13
  let c0 : Index := 0#32
  ![v14.toNat, 0]
@[reducible] def k0_t2_loop (k0_t1 : Fin k0_t1_loop.trips) : Scf.Loop 32 :=
  let c0_i32_29 : BitVec 32 := 0#32
  let c0_i32 : BitVec 32 := 0#32
  let c1_i32 : BitVec 32 := 1#32
  let arg7 : BitVec 32 := Scf.iv c0_i32 c1_i32 k0_t1
  let v95 : BitVec 32 := Scalar.subi arg7 c0_i32_29
  let c1_i32_30 : BitVec 32 := 1#32
  let v97 : BitVec 32 := Scalar.divsi v95 c1_i32_30
  let v98 : BitVec 32 := Scalar.muli v97 c1_i32_30
  let v99 : BitVec 32 := Scalar.addi c0_i32_29 v98
  let c1_i32_31 : BitVec 32 := 1#32
  ⟨c0_i32_29, v99, c1_i32_31⟩
def k0_mult2 (k0_t1 : Fin k0_t1_loop.trips) (k0_t2 : Fin (k0_t2_loop k0_t1).trips) : BitVec 32 :=
  let c0_i32 : BitVec 32 := 0#32
  let c1_i32 : BitVec 32 := 1#32
  let arg7 : BitVec 32 := Scf.iv c0_i32 c1_i32 k0_t1
  let c1_i32_38 : BitVec 32 := 1#32
  let v118 : BitVec 32 := Scalar.subi arg7 c1_i32_38
  let c0_i32_29 : BitVec 32 := 0#32
  let c1_i32_31 : BitVec 32 := 1#32
  let arg8 : BitVec 32 := Scf.iv c0_i32_29 c1_i32_31 k0_t2
  let v119 : BitVec 32 := Scalar.subi v118 arg8
  let c256_i32_39 : BitVec 32 := 256#32
  let v120 : BitVec 32 := Scalar.muli v119 c256_i32_39
  v120
def k0_off2 (k0_t1 : Fin k0_t1_loop.trips) (k0_t2 : Fin (k0_t2_loop k0_t1).trips) : Fin 2 → Nat :=
  let c0_i32 : BitVec 32 := 0#32
  let c1_i32 : BitVec 32 := 1#32
  let arg7 : BitVec 32 := Scf.iv c0_i32 c1_i32 k0_t1
  let c1_i32_38 : BitVec 32 := 1#32
  let v118 : BitVec 32 := Scalar.subi arg7 c1_i32_38
  let c0_i32_29 : BitVec 32 := 0#32
  let c1_i32_31 : BitVec 32 := 1#32
  let arg8 : BitVec 32 := Scf.iv c0_i32_29 c1_i32_31 k0_t2
  let v119 : BitVec 32 := Scalar.subi v118 arg8
  let c256_i32_39 : BitVec 32 := 256#32
  let v120 : BitVec 32 := Scalar.muli v119 c256_i32_39
  let v121 : BitVec 32 := v120
  let v122 : Index := Scalar.indexCast v121
  let c0_40 : Index := 0#32
  ![v122.toNat, 0]
@[reducible] def k0_t3_loop (k0_t1 : Fin k0_t1_loop.trips) : Scf.Loop 32 :=
  let c0_i32_29 : BitVec 32 := 0#32
  let c0_i32 : BitVec 32 := 0#32
  let c1_i32 : BitVec 32 := 1#32
  let arg7 : BitVec 32 := Scf.iv c0_i32 c1_i32 k0_t1
  let v95 : BitVec 32 := Scalar.subi arg7 c0_i32_29
  let c1_i32_30 : BitVec 32 := 1#32
  let v97 : BitVec 32 := Scalar.divsi v95 c1_i32_30
  let v98 : BitVec 32 := Scalar.muli v97 c1_i32_30
  let v99 : BitVec 32 := Scalar.addi c0_i32_29 v98
  let v96 : BitVec 32 := Scalar.addi c0_i32_29 v95
  let c1_i32_32 : BitVec 32 := 1#32
  ⟨v99, v96, c1_i32_32⟩
def k0_mult3 (k0_t1 : Fin k0_t1_loop.trips) (k0_t3 : Fin (k0_t3_loop k0_t1).trips) : BitVec 32 :=
  let c0_i32 : BitVec 32 := 0#32
  let c1_i32 : BitVec 32 := 1#32
  let arg7 : BitVec 32 := Scf.iv c0_i32 c1_i32 k0_t1
  let c1_i32_38 : BitVec 32 := 1#32
  let v118 : BitVec 32 := Scalar.subi arg7 c1_i32_38
  let c0_i32_29 : BitVec 32 := 0#32
  let v95 : BitVec 32 := Scalar.subi arg7 c0_i32_29
  let c1_i32_30 : BitVec 32 := 1#32
  let v97 : BitVec 32 := Scalar.divsi v95 c1_i32_30
  let v98 : BitVec 32 := Scalar.muli v97 c1_i32_30
  let v99 : BitVec 32 := Scalar.addi c0_i32_29 v98
  let c1_i32_32 : BitVec 32 := 1#32
  let arg8 : BitVec 32 := Scf.iv v99 c1_i32_32 k0_t3
  let v119 : BitVec 32 := Scalar.subi v118 arg8
  let c256_i32_39 : BitVec 32 := 256#32
  let v120 : BitVec 32 := Scalar.muli v119 c256_i32_39
  v120
def k0_off3 (k0_t1 : Fin k0_t1_loop.trips) (k0_t3 : Fin (k0_t3_loop k0_t1).trips) : Fin 2 → Nat :=
  let c0_i32 : BitVec 32 := 0#32
  let c1_i32 : BitVec 32 := 1#32
  let arg7 : BitVec 32 := Scf.iv c0_i32 c1_i32 k0_t1
  let c1_i32_38 : BitVec 32 := 1#32
  let v118 : BitVec 32 := Scalar.subi arg7 c1_i32_38
  let c0_i32_29 : BitVec 32 := 0#32
  let v95 : BitVec 32 := Scalar.subi arg7 c0_i32_29
  let c1_i32_30 : BitVec 32 := 1#32
  let v97 : BitVec 32 := Scalar.divsi v95 c1_i32_30
  let v98 : BitVec 32 := Scalar.muli v97 c1_i32_30
  let v99 : BitVec 32 := Scalar.addi c0_i32_29 v98
  let c1_i32_32 : BitVec 32 := 1#32
  let arg8 : BitVec 32 := Scf.iv v99 c1_i32_32 k0_t3
  let v119 : BitVec 32 := Scalar.subi v118 arg8
  let c256_i32_39 : BitVec 32 := 256#32
  let v120 : BitVec 32 := Scalar.muli v119 c256_i32_39
  let v121 : BitVec 32 := v120
  let v122 : Index := Scalar.indexCast v121
  let c0_40 : Index := 0#32
  ![v122.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S65536x6656 : Shape := ⟨2, ![65536, 6656]⟩
abbrev S65536x512 : Shape := ⟨2, ![65536, 512]⟩
abbrev S32x2048x8x64 : Shape := ⟨4, ![32, 2048, 8, 64]⟩
abbrev S32x8x2048x64 : Shape := ⟨4, ![32, 8, 2048, 64]⟩
abbrev S32x8x2048x2048 : Shape := ⟨4, ![32, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩

abbrev nBuf : Space → Nat
  | .hbm => 83
  | .vmem => 0
  | .smem => 0
  | _ => 0

abbrev bufTy : (tb : Table) → Fin (tcTables nBuf tb) → BufTy
  | .hbm, ⟨0, _⟩ => ⟨S65536x6656, .bf16⟩
  | .hbm, ⟨1, _⟩ => ⟨S65536x6656, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S65536x512, .f32⟩
  | .hbm, ⟨6, _⟩ => ⟨S32x2048x8x64, .f32⟩
  | .hbm, ⟨7, _⟩ => ⟨S32x8x2048x64, .f32⟩
  | .hbm, ⟨8, _⟩ => ⟨S32x2048x8x64, .f32⟩
  | .hbm, ⟨9, _⟩ => ⟨S32x8x2048x64, .f32⟩
  | .hbm, ⟨10, _⟩ => ⟨S32x2048x8x64, .f32⟩
  | .hbm, ⟨11, _⟩ => ⟨S32x8x2048x64, .f32⟩
  | .hbm, ⟨12, _⟩ => ⟨S32x8x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S32x8x2048x2048, .f32⟩
  | .hbm, ⟨21, _⟩ => ⟨S_, .f32⟩
  | .hbm, ⟨22, _⟩ => ⟨S32x8x2048x2048, .f32⟩
  | .hbm, ⟨23, _⟩ => ⟨S32x8x2048x2048, .f32⟩
  | .hbm, ⟨24, _⟩ => ⟨S32x8x2048x2048, .f32⟩
  | .hbm, ⟨25, _⟩ => ⟨S32x8x2048x2048, .f32⟩
  | .hbm, ⟨26, _⟩ => ⟨S32x8x2048x2048, .i1⟩
  | .hbm, ⟨27, _⟩ => ⟨S32x8x2048x2048, .f32⟩
  | .hbm, ⟨28, _⟩ => ⟨S32x8x2048x2048, .f32⟩
  | .hbm, ⟨29, _⟩ => ⟨S32x8x2048x2048, .f32⟩
  | .hbm, ⟨30, _⟩ => ⟨S32x8x2048x2048, .f32⟩
  | .hbm, ⟨31, _⟩ => ⟨S32x8x2048x2048, .f32⟩
  | .hbm, ⟨32, _⟩ => ⟨S32x8x2048x2048, .f32⟩
  | .hbm, ⟨33, _⟩ => ⟨S32x8x2048x2048, .f32⟩
  | .hbm, ⟨34, _⟩ => ⟨S32x8x2048x2048, .f32⟩
  | .hbm, ⟨35, _⟩ => ⟨S32x8x2048x2048, .f32⟩
  | .hbm, ⟨36, _⟩ => ⟨S32x8x2048x2048, .f32⟩
  | .hbm, ⟨37, _⟩ => ⟨S32x8x2048x2048, .f32⟩
  | .hbm, ⟨38, _⟩ => ⟨S_, .f32⟩
  | .hbm, ⟨39, _⟩ => ⟨S32x8x2048x2048, .f32⟩
  | .hbm, ⟨40, _⟩ => ⟨S32x8x2048x2048, .f32⟩
  | .hbm, ⟨41, _⟩ => ⟨S32x8x2048x2048, .f32⟩
  | .hbm, ⟨42, _⟩ => ⟨S32x8x2048x2048, .f32⟩
  | .hbm, ⟨43, _⟩ => ⟨S32x8x2048x2048, .i1⟩
  | .hbm, ⟨44, _⟩ => ⟨S32x8x2048x2048, .f32⟩
  | .hbm, ⟨45, _⟩ => ⟨S32x8x2048x2048, .f32⟩
  | .hbm, ⟨46, _⟩ => ⟨S32x8x2048x2048, .f32⟩
  | .hbm, ⟨47, _⟩ => ⟨S32x8x2048x2048, .f32⟩
  | .hbm, ⟨48, _⟩ => ⟨S32x8x2048x2048, .f32⟩
  | .hbm, ⟨49, _⟩ => ⟨S32x8x2048x2048, .f32⟩
  | .hbm, ⟨50, _⟩ => ⟨S32x8x2048x2048, .f32⟩
  | .hbm, ⟨51, _⟩ => ⟨S32x8x2048x2048, .f32⟩
  | .hbm, ⟨52, _⟩ => ⟨S32x8x2048x2048, .f32⟩
  | .hbm, ⟨53, _⟩ => ⟨S_, .f32⟩
  | .hbm, ⟨54, _⟩ => ⟨S_, .f32⟩
  | .hbm, ⟨55, _⟩ => ⟨S32x8x2048x2048, .i1⟩
  | .hbm, ⟨56, _⟩ => ⟨S32x8x2048x2048, .f32⟩
  | .hbm, ⟨57, _⟩ => ⟨S32x8x2048x2048, .f32⟩
  | .hbm, ⟨58, _⟩ => ⟨S_, .f32⟩
  | .hbm, ⟨59, _⟩ => ⟨S_, .f32⟩
  | .hbm, ⟨60, _⟩ => ⟨S32x8x2048x2048, .f32⟩
  | .hbm, ⟨61, _⟩ => ⟨S32x8x2048x2048, .f32⟩
  | .hbm, ⟨62, _⟩ => ⟨S32x8x2048x2048, .f32⟩
  | .hbm, ⟨63, _⟩ => ⟨S32x8x2048x2048, .f32⟩
  | .hbm, ⟨64, _⟩ => ⟨S_, .f32⟩
  | .hbm, ⟨65, _⟩ => ⟨S_, .f32⟩
  | .hbm, ⟨66, _⟩ => ⟨S32x8x2048x2048, .i1⟩
  | .hbm, ⟨67, _⟩ => ⟨S32x8x2048x2048, .f32⟩
  | .hbm, ⟨68, _⟩ => ⟨S32x8x2048x2048, .f32⟩
  | .hbm, ⟨69, _⟩ => ⟨S32x8x2048x64, .f32⟩
  | .hbm, ⟨70, _⟩ => ⟨S32x2048x8x64, .f32⟩
  | .hbm, ⟨71, _⟩ => ⟨S65536x512, .f32⟩
  | .hbm, ⟨72, _⟩ => ⟨S65536x512, .f32⟩
  | .hbm, ⟨73, _⟩ => ⟨S65536x512, .f32⟩
  | .hbm, ⟨74, _⟩ => ⟨S_, .f32⟩
  | .hbm, ⟨75, _⟩ => ⟨S65536x512, .f32⟩
  | .hbm, ⟨76, _⟩ => ⟨S65536x512, .f32⟩
  | .hbm, ⟨77, _⟩ => ⟨S_, .f32⟩
  | .hbm, ⟨78, _⟩ => ⟨S65536x512, .f32⟩
  | .hbm, ⟨79, _⟩ => ⟨S65536x512, .f32⟩
  | .hbm, ⟨80, _⟩ => ⟨S65536x512, .f32⟩
  | .hbm, ⟨81, _⟩ => ⟨S65536x512, .f32⟩
  | .hbm, ⟨82, _⟩ => ⟨S65536x512, .bf16⟩
  | _, _ => ⟨S65536x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v21 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v22 : Ref sig .tc := ⟨.hbm, 57, rfl⟩
abbrev main_call3_cst : Ref sig .tc := ⟨.hbm, 58, rfl⟩
abbrev main_call3_v0 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_call5_v0 : Ref sig .tc := ⟨.hbm, 72, rfl⟩
abbrev main_call5_v1 : Ref sig .tc := ⟨.hbm, 73, rfl⟩
abbrev main_call5_cst : Ref sig .tc := ⟨.hbm, 74, rfl⟩
abbrev main_call5_v2 : Ref sig .tc := ⟨.hbm, 75, rfl⟩
abbrev main_call5_v3 : Ref sig .tc := ⟨.hbm, 76, rfl⟩
abbrev main_call5_cst_0 : Ref sig .tc := ⟨.hbm, 77, rfl⟩
abbrev main_call5_v4 : Ref sig .tc := ⟨.hbm, 78, rfl⟩
abbrev main_call5_v5 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩

abbrev nD : Nat := 1
abbrev τ : Topo := Topo.v7x

variable {F : FTy → Type} [FloatOps F]
-- ==== Kernel2.lean ====
abbrev S65536x512 : Shape := ⟨2, ![65536, 512]⟩
abbrev S65536x6656 : Shape := ⟨2, ![65536, 6656]⟩
abbrev S65536x1024 : Shape := ⟨2, ![65536, 1024]⟩
abbrev S32x3x1x1024 : Shape := ⟨4, ![32, 3, 1, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x2048 : Shape := ⟨2, ![512, 2048]⟩
abbrev S1x3x1x1024 : Shape := ⟨4, ![1, 3, 1, 1024]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x6656, .bf16⟩
  | .hbm, ⟨3, _⟩ => ⟨S65536x1024, .f32⟩
  | .hbm, ⟨4, _⟩ => ⟨S32x3x1x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x3x1x1024, .f32⟩
  | .local _ .vmem, ⟨9, _⟩ => ⟨S1x3x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S65536x512 : Shape := ⟨2, ![65536, 512]⟩
abbrev S65536x6656 : Shape := ⟨2, ![65536, 6656]⟩
abbrev S65536x1024 : Shape := ⟨2, ![65536, 1024]⟩
abbrev S32x3x1x1024 : Shape := ⟨4, ![32, 3, 1, 1024]⟩
abbrev S512x1024 : Shape := ⟨2, ![512, 1024]⟩
abbrev S1024x1024 : Shape := ⟨2, ![1024, 1024]⟩
abbrev S1024 : Shape := ⟨1, ![1024]⟩
abbrev S32x3x1024 : Shape := ⟨3, ![32, 3, 1024]⟩
abbrev S32x1x1024 : Shape := ⟨3, ![32, 1, 1024]⟩
abbrev S32x1024 : Shape := ⟨2, ![32, 1024]⟩
abbrev S32x2048x1024 : Shape := ⟨3, ![32, 2048, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x6656, .bf16⟩
  | .hbm, ⟨3, _⟩ => ⟨S65536x1024, .f32⟩
  | .hbm, ⟨4, _⟩ => ⟨S32x3x1x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S65536x1024, .bf16⟩
  | .hbm, ⟨11, _⟩ => ⟨S65536x1024, .f32⟩
  | .hbm, ⟨12, _⟩ => ⟨S65536x1024, .bf16⟩
  | .hbm, ⟨13, _⟩ => ⟨S65536x1024, .f32⟩
  | .hbm, ⟨14, _⟩ => ⟨S32x3x1024, .f32⟩
  | .hbm, ⟨15, _⟩ => ⟨S32x1x1024, .f32⟩
  | .hbm, ⟨16, _⟩ => ⟨S32x1024, .f32⟩
  | .hbm, ⟨17, _⟩ => ⟨S32x2048x1024, .f32⟩
  | .hbm, ⟨18, _⟩ => ⟨S65536x512, .f32⟩
  | .hbm, ⟨19, _⟩ => ⟨S65536x1024, .f32⟩
  | .hbm, ⟨20, _⟩ => ⟨S65536x512, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S32x2048x1024, .f32⟩
  | .hbm, ⟨44, _⟩ => ⟨S32x2048x1024, .f32⟩
  | .hbm, ⟨45, _⟩ => ⟨S32x1x1024, .f32⟩
  | .hbm, ⟨46, _⟩ => ⟨S_, .f32⟩
  | .hbm, ⟨47, _⟩ => ⟨S32x1x1024, .f32⟩
  | .hbm, ⟨48, _⟩ => ⟨S32x1x1024, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S32x2048x1024, .f32⟩
  | .hbm, ⟨53, _⟩ => ⟨S_, .f32⟩
  | .hbm, ⟨54, _⟩ => ⟨S32x2048, .f32⟩
  | .hbm, ⟨55, _⟩ => ⟨S32x2048x1, .f32⟩
  | .hbm, ⟨56, _⟩ => ⟨S_, .f32⟩
  | .hbm, ⟨57, _⟩ => ⟨S32x2048x1, .f32⟩
  | .hbm, ⟨58, _⟩ => ⟨S32x2048x1, .f32⟩
  | .hbm, ⟨59, _⟩ => ⟨S32x2048x1024, .f32⟩
  | .hbm, ⟨60, _⟩ => ⟨S32x2048x1024, .f32⟩
  | .hbm, ⟨61, _⟩ => ⟨S32x2048x1024, .f32⟩
  | .hbm, ⟨62, _⟩ => ⟨S_, .f32⟩
  | .hbm, ⟨63, _⟩ => ⟨S32x2048, .f32⟩
  | .hbm, ⟨64, _⟩ => ⟨S32x2048x1, .f32⟩
  | .hbm, ⟨65, _⟩ => ⟨S_, .f32⟩
  | .hbm, ⟨66, _⟩ => ⟨S32x2048x1, .f32⟩
  | .hbm, ⟨67, _⟩ => ⟨S32x2048x1, .f32⟩
  | .hbm, ⟨68, _⟩ => ⟨S32x2048x1024, .f32⟩
  | .hbm, ⟨69, _⟩ => ⟨S32x2048x1024, .f32⟩
  | .hbm, ⟨70, _⟩ => ⟨S_, .f32⟩
  | .hbm, ⟨71, _⟩ => ⟨S32x2048x1, .f32⟩
  | .hbm, ⟨72, _⟩ => ⟨S32x2048x1, .f32⟩
  | .hbm, ⟨73, _⟩ => ⟨S32x2048x1, .f32⟩
  | .hbm, ⟨74, _⟩ => ⟨S32x2048x1024, .f32⟩
  | .hbm, ⟨75, _⟩ => ⟨S32x2048x1024, .f32⟩
  | .hbm, ⟨76, _⟩ => ⟨S1x1x1024, .f32⟩
  | .hbm, ⟨77, _⟩ => ⟨S32x2048x1024, .f32⟩
  | .hbm, ⟨78, _⟩ => ⟨S32x2048x1024, .f32⟩
  | .hbm, ⟨79, _⟩ => ⟨S1x1x1024, .f32⟩
  | .hbm, ⟨80, _⟩ => ⟨S32x2048x1024, .f32⟩
  | .hbm, ⟨81, _⟩ => ⟨S32x2048x1024, .f32⟩
  | .hbm, ⟨82, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel3.lean ====
abbrev S65536x1024 : Shape := ⟨2, ![65536, 1024]⟩
abbrev S32x3x1x1024 : Shape := ⟨4, ![32, 3, 1, 1024]⟩
abbrev S1024x6664 : Shape := ⟨2, ![1024, 6664]⟩
abbrev S6664 : Shape := ⟨1, ![6664]⟩
abbrev S4x1024 : Shape := ⟨2, ![4, 1024]⟩
abbrev S1024 : Shape := ⟨1, ![1024]⟩
abbrev S1024x2048 : Shape := ⟨2, ![1024, 2048]⟩
abbrev S1024x4608 : Shape := ⟨2, ![1024, 4608]⟩
abbrev S1024x6656 : Shape := ⟨2, ![1024, 6656]⟩
abbrev S2048 : Shape := ⟨1, ![2048]⟩
abbrev S4608 : Shape := ⟨1, ![4608]⟩
abbrev S6656 : Shape := ⟨1, ![6656]⟩
abbrev S1x6656 : Shape := ⟨2, ![1, 6656]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S1x1024 : Shape := ⟨2, ![1, 1024]⟩
abbrev S65536x6656 : Shape := ⟨2, ![65536, 6656]⟩
abbrev S65536x128 : Shape := ⟨2, ![65536, 128]⟩
abbrev S512x1024 : Shape := ⟨2, ![512, 1024]⟩
abbrev S8x1024 : Shape := ⟨2, ![8, 1024]⟩
abbrev S1x3x1x1024 : Shape := ⟨4, ![1, 3, 1, 1024]⟩
abbrev S512x6656 : Shape := ⟨2, ![512, 6656]⟩
abbrev S512x128 : Shape := ⟨2, ![512, 128]⟩
abbrev S1x1x1x1024 : Shape := ⟨4, ![1, 1, 1, 1024]⟩
abbrev S1024x512 : Shape := ⟨2, ![1024, 512]⟩
abbrev S512x512 : Shape := ⟨2, ![512, 512]⟩
abbrev S1x512 : Shape := ⟨2, ![1, 512]⟩
abbrev S8x512 : Shape := ⟨2, ![8, 512]⟩
abbrev S520x512 : Shape := ⟨2, ![520, 512]⟩

abbrev nBuf : Space → Nat
  | .hbm => 27
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S32x3x1x1024, .f32⟩
  | .hbm, ⟨2, _⟩ => ⟨S1024x6664, .f32⟩
  | .hbm, ⟨3, _⟩ => ⟨S6664, .f32⟩
  | .hbm, ⟨4, _⟩ => ⟨S4x1024, .f32⟩
  | .hbm, ⟨5, _⟩ => ⟨S1024, .f32⟩
  | .hbm, ⟨6, _⟩ => ⟨S1024x2048, .f32⟩
  | .hbm, ⟨7, _⟩ => ⟨S1024x4608, .f32⟩
  | .hbm, ⟨8, _⟩ => ⟨S1024x6656, .f32⟩
  | .hbm, ⟨9, _⟩ => ⟨S1024x6656, .bf16⟩
  | .hbm, ⟨10, _⟩ => ⟨S2048, .f32⟩
  | .hbm, ⟨11, _⟩ => ⟨S4608, .f32⟩
  | .hbm, ⟨12, _⟩ => ⟨S6656, .f32⟩
  | .hbm, ⟨13, _⟩ => ⟨S1x6656, .f32⟩
  | .hbm, ⟨14, _⟩ => ⟨S1024x8, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S8, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1x1024, .f32⟩
  | .hbm, ⟨25, _⟩ => ⟨S65536x6656, .bf16⟩
  | .hbm, ⟨26, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x3x1x1024, .f32⟩
  | .local _ .vmem, ⟨5, _⟩ => ⟨S1x3x1x1024, .f32⟩
  | .local _ .vmem, ⟨6, _⟩ => ⟨S1024x6656, .bf16⟩
  | .local _ .vmem, ⟨7, _⟩ => ⟨S1x6656, .f32⟩
  | .local _ .vmem, ⟨8, _⟩ => ⟨S1024x128, .bf16⟩
  | .local _ .vmem, ⟨9, _⟩ => ⟨S1x128, .f32⟩
  | .local _ .vmem, ⟨10, _⟩ => ⟨S4x1024, .f32⟩
  | .local _ .vmem, ⟨11, _⟩ => ⟨S1x1024, .f32⟩
  | .local _ .vmem, ⟨12, _⟩ => ⟨S512x6656, .bf16⟩
  | .local _ .vmem, ⟨13, _⟩ => ⟨S512x6656, .bf16⟩
  | .local _ .vmem, ⟨14, _⟩ => ⟨S512x128, .f32⟩
  | .local _ .vmem, ⟨15, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6656 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6656 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x6656 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S65536x1024 : Shape := ⟨2, ![65536, 1024]⟩
abbrev S32x3x1x1024 : Shape := ⟨4, ![32, 3, 1, 1024]⟩
abbrev S1024x6664 : Shape := ⟨2, ![1024, 6664]⟩
abbrev S6664 : Shape := ⟨1, ![6664]⟩
abbrev S4x1024 : Shape := ⟨2, ![4, 1024]⟩
abbrev S1024 : Shape := ⟨1, ![1024]⟩
abbrev S32x3x1024 : Shape := ⟨3, ![32, 3, 1024]⟩
abbrev S32x1x1024 : Shape := ⟨3, ![32, 1, 1024]⟩
abbrev S32x1024 : Shape := ⟨2, ![32, 1024]⟩
abbrev S32x2048x1024 : Shape := ⟨3, ![32, 2048, 1024]⟩
abbrev S_ : Shape := ⟨0, ![]⟩
abbrev S65536x6664 : Shape := ⟨2, ![65536, 6664]⟩
abbrev S1x6664 : Shape := ⟨2, ![1, 6664]⟩
abbrev S65536x512 : Shape := ⟨2, ![65536, 512]⟩
abbrev S65536x1536 : Shape := ⟨2, ![65536, 1536]⟩
abbrev S65536x8 : Shape := ⟨2, ![65536, 8]⟩
abbrev S65536x2048 : Shape := ⟨2, ![65536, 2048]⟩
abbrev S32x2051x1024 : Shape := ⟨3, ![32, 2051, 1024]⟩
abbrev S1x1024 : Shape := ⟨2, ![1, 1024]⟩
abbrev S1x1x1024 : Shape := ⟨3, ![1, 1, 1024]⟩
abbrev S65536x6656 : Shape := ⟨2, ![65536, 6656]⟩
abbrev S65536x128 : Shape := ⟨2, ![65536, 128]⟩

abbrev nBuf : Space → Nat
  | .hbm => 89
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S32x3x1x1024, .f32⟩
  | .hbm, ⟨2, _⟩ => ⟨S1024x6664, .f32⟩
  | .hbm, ⟨3, _⟩ => ⟨S6664, .f32⟩
  | .hbm, ⟨4, _⟩ => ⟨S4x1024, .f32⟩
  | .hbm, ⟨5, _⟩ => ⟨S1024, .f32⟩
  | .hbm, ⟨6, _⟩ => ⟨S32x3x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1024, .f32⟩
  | .hbm, ⟨11, _⟩ => ⟨S32x2048x1024, .f32⟩
  | .hbm, ⟨12, _⟩ => ⟨S32x1x1024, .f32⟩
  | .hbm, ⟨13, _⟩ => ⟨S_, .f32⟩
  | .hbm, ⟨14, _⟩ => ⟨S32x1x1024, .f32⟩
  | .hbm, ⟨15, _⟩ => ⟨S32x1x1024, .f32⟩
  | .hbm, ⟨16, _⟩ => ⟨S32x2048x1024, .f32⟩
  | .hbm, ⟨17, _⟩ => ⟨S32x2048x1024, .f32⟩
  | .hbm, ⟨18, _⟩ => ⟨S32x1x1024, .f32⟩
  | .hbm, ⟨19, _⟩ => ⟨S32x2048x1024, .f32⟩
  | .hbm, ⟨20, _⟩ => ⟨S32x2048x1024, .f32⟩
  | .hbm, ⟨21, _⟩ => ⟨S65536x1024, .f32⟩
  | .hbm, ⟨22, _⟩ => ⟨S65536x6664, .f32⟩
  | .hbm, ⟨23, _⟩ => ⟨S1x6664, .f32⟩
  | .hbm, ⟨24, _⟩ => ⟨S65536x6664, .f32⟩
  | .hbm, ⟨25, _⟩ => ⟨S65536x6664, .f32⟩
  | .hbm, ⟨26, _⟩ => ⟨S65536x512, .f32⟩
  | .hbm, ⟨27, _⟩ => ⟨S65536x1536, .f32⟩
  | .hbm, ⟨28, _⟩ => ⟨S65536x1024, .f32⟩
  | .hbm, ⟨29, _⟩ => ⟨S65536x1536, .f32⟩
  | .hbm, ⟨30, _⟩ => ⟨S65536x8, .f32⟩
  | .hbm, ⟨31, _⟩ => ⟨S65536x2048, .f32⟩
  | .hbm, ⟨32, _⟩ => ⟨S32x2048x1024, .f32⟩
  | .hbm, ⟨33, _⟩ => ⟨S_, .i32⟩
  | .hbm, ⟨34, _⟩ => ⟨S_, .f32⟩
  | .hbm, ⟨35, _⟩ => ⟨S32x2051x1024, .f32⟩
  | .hbm, ⟨36, _⟩ => ⟨S1x1024, .f32⟩
  | .hbm, ⟨37, _⟩ => ⟨S1024, .f32⟩
  | .hbm, ⟨38, _⟩ => ⟨S32x2048x1024, .f32⟩
  | .hbm, ⟨39, _⟩ => ⟨S1x1x1024, .f32⟩
  | .hbm, ⟨40, _⟩ => ⟨S32x2048x1024, .f32⟩
  | .hbm, ⟨41, _⟩ => ⟨S32x2048x1024, .f32⟩
  | .hbm, ⟨42, _⟩ => ⟨S1x1024, .f32⟩
  | .hbm, ⟨43, _⟩ => ⟨S1024, .f32⟩
  | .hbm, ⟨44, _⟩ => ⟨S32x2048x1024, .f32⟩
  | .hbm, ⟨45, _⟩ => ⟨S1x1x1024, .f32⟩
  | .hbm, ⟨46, _⟩ => ⟨S32x2048x1024, .f32⟩
  | .hbm, ⟨47, _⟩ => ⟨S32x2048x1024, .f32⟩
  | .hbm, ⟨48, _⟩ => ⟨S32x2048x1024, .f32⟩
  | .hbm, ⟨49, _⟩ => ⟨S1x1024, .f32⟩
  | .hbm, ⟨50, _⟩ => ⟨S1024, .f32⟩
  | .hbm, ⟨51, _⟩ => ⟨S32x2048x1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S1x1024, .f32⟩
  | .hbm, ⟨57, _⟩ => ⟨S1024, .f32⟩
  | .hbm, ⟨58, _⟩ => ⟨S32x2048x1024, .f32⟩
  | .hbm, ⟨59, _⟩ => ⟨S1x1x1024, .f32⟩
  | .hbm, ⟨60, _⟩ => ⟨S32x2048x1024, .f32⟩
  | .hbm, ⟨61, _⟩ => ⟨S32x2048x1024, .f32⟩
  | .hbm, ⟨62, _⟩ => ⟨S32x2048x1024, .f32⟩
  | .hbm, ⟨63, _⟩ => ⟨S1x1x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S32x2048x1024, .f32⟩
  | .hbm, ⟨68, _⟩ => ⟨S_, .f32⟩
  | .hbm, ⟨69, _⟩ => ⟨S32x2048x1024, .f32⟩
  | .hbm, ⟨70, _⟩ => ⟨S32x2048x1024, .f32⟩
  | .hbm, ⟨71, _⟩ => ⟨S_, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | .hbm, ⟨75, _⟩ => ⟨S65536x1024, .f32⟩
  | .hbm, ⟨76, _⟩ => ⟨S_, .f32⟩
  | .hbm, ⟨77, _⟩ => ⟨S65536x512, .f32⟩
  | .hbm, ⟨78, _⟩ => ⟨S65536x512, .f32⟩
  | .hbm, ⟨79, _⟩ => ⟨S65536x512, .f32⟩
  | .hbm, ⟨80, _⟩ => ⟨S_, .f32⟩
  | .hbm, ⟨81, _⟩ => ⟨S65536x512, .f32⟩
  | .hbm, ⟨82, _⟩ => ⟨S65536x512, .f32⟩
  | .hbm, ⟨83, _⟩ => ⟨S65536x512, .f32⟩
  | .hbm, ⟨84, _⟩ => ⟨S65536x6656, .f32⟩
  | .hbm, ⟨85, _⟩ => ⟨S65536x6656, .bf16⟩
  | .hbm, ⟨86, _⟩ => ⟨S_, .i32⟩
  | .hbm, ⟨87, _⟩ => ⟨S_, .f32⟩
  | .hbm, ⟨88, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v57 : Ref sig .tc := ⟨.hbm, 74, rfl⟩
abbrev main_v58 : Ref sig .tc := ⟨.hbm, 75, rfl⟩
abbrev main_cst_0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_1 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_2 : Ref sig .tc := ⟨.hbm, 86, rfl⟩
abbrev main_call2_v0 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Kernel4.lean ====
abbrev S32x1024 : Shape := ⟨2, ![32, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x32x3072 : Shape := ⟨3, ![4, 32, 3072]⟩
abbrev S1x1024x1024 : Shape := ⟨3, ![1, 1024, 1024]⟩
abbrev S1x1x1024 : Shape := ⟨3, ![1, 1, 1024]⟩
abbrev S1x32x1024 : Shape := ⟨3, ![1, 32, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S4x1024x3072, .f32⟩
  | .hbm, ⟨2, _⟩ => ⟨S4x3072, .f32⟩
  | .hbm, ⟨3, _⟩ => ⟨S4x1x3072, .f32⟩
  | .hbm, ⟨4, _⟩ => ⟨S4x32x3072, .f32⟩
  | .local _ .vmem, ⟨0, _⟩ => ⟨S32x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32x1024 : Shape := ⟨2, ![32, 1024]⟩
abbrev S4x1024x3072 : Shape := ⟨3, ![4, 1024, 3072]⟩
abbrev S4x3072 : Shape := ⟨2, ![4, 3072]⟩
abbrev S_ : Shape := ⟨0, ![]⟩
abbrev S4x3072x32 : Shape := ⟨3, ![4, 3072, 32]⟩
abbrev S4x32x3072 : Shape := ⟨3, ![4, 32, 3072]⟩
abbrev S4x1x3072 : Shape := ⟨3, ![4, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x1024x3072, .f32⟩
  | .hbm, ⟨2, _⟩ => ⟨S4x3072, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S4x3072x32, .f32⟩
  | .hbm, ⟨13, _⟩ => ⟨S4x32x3072, .f32⟩
  | .hbm, ⟨14, _⟩ => ⟨S4x1x3072, .f32⟩
  | .hbm, ⟨15, _⟩ => ⟨S4x32x3072, .f32⟩
  | .hbm, ⟨16, _⟩ => ⟨S4x32x3072, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S65536x6656 : Shape := ⟨2, ![65536, 6656]⟩
abbrev S65536x128 : Shape := ⟨2, ![65536, 128]⟩
abbrev S512 : Shape := ⟨1, ![512]⟩
abbrev S1x512 : Shape := ⟨2, ![1, 512]⟩
abbrev S65536x512 : Shape := ⟨2, ![65536, 512]⟩
abbrev S256x512 : Shape := ⟨2, ![256, 512]⟩
abbrev S256x128 : Shape := ⟨2, ![256, 128]⟩
abbrev S4x128x256 : Shape := ⟨3, ![4, 128, 256]⟩
abbrev S4x1x128 : Shape := ⟨3, ![4, 1, 128]⟩
abbrev S256x256 : Shape := ⟨2, ![256, 256]⟩
abbrev S128x256 : Shape := ⟨2, ![128, 256]⟩
abbrev S256x1 : Shape := ⟨2, ![256, 1]⟩
abbrev S1x256 : Shape := ⟨2, ![1, 256]⟩
abbrev S1x1x128 : Shape := ⟨3, ![1, 1, 128]⟩
abbrev S1x128 : Shape := ⟨2, ![1, 128]⟩
abbrev S1x1 : Shape := ⟨2, ![1, 1]⟩
abbrev S1x128x256 : Shape := ⟨3, ![1, 128, 256]⟩
abbrev S256 : Shape := ⟨1, ![256]⟩
abbrev S1 : Shape := ⟨1, ![1]⟩

abbrev nBuf : Space → Nat
  | .hbm => 5
  | .vmem => 17
  | .smem => 0
  | _ => 0

abbrev bufTy : (tb : Table) → Fin (tcTables nBuf tb) → BufTy
  | .hbm, ⟨0, _⟩ => ⟨S65536x6656, .bf16⟩
  | .hbm, ⟨1, _⟩ => ⟨S65536x128, .f32⟩
  | .hbm, ⟨2, _⟩ => ⟨S512, .f32⟩
  | .hbm, ⟨3, _⟩ => ⟨S1x512, .f32⟩
  | .hbm, ⟨4, _⟩ => ⟨S65536x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S1x512, .f32⟩
  | .local _ .vmem, ⟨13, _⟩ => ⟨S256x512, .bf16⟩
  | .local _ .vmem, ⟨14, _⟩ => ⟨S256x512, .bf16⟩
  | .local _ .vmem, ⟨15, _⟩ => ⟨S4x128x256, .f32⟩
  | .local _ .vmem, ⟨16, _⟩ => ⟨S4x1x128, .f32⟩
  | _, _ => ⟨S65536x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c10_i32 : BitVec 32 := 10#32
  let c0_i32 : BitVec 32 := 0#32
  ![v1.toNat, c10_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c11_i32 : BitVec 32 := 11#32
  let c0_i32 : BitVec 32 := 0#32
  ![v1.toNat, c11_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c12_i32 : BitVec 32 := 12#32
  let c0_i32 : BitVec 32 := 0#32
  ![v1.toNat, c12_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S65536x6656 : Shape := ⟨2, ![65536, 6656]⟩
abbrev S65536x128 : Shape := ⟨2, ![65536, 128]⟩
abbrev S512 : Shape := ⟨1, ![512]⟩
abbrev S65536x512 : Shape := ⟨2, ![65536, 512]⟩
abbrev S32x2048x4x128 : Shape := ⟨4, ![32, 2048, 4, 128]⟩
abbrev S32x4x2048x128 : Shape := ⟨4, ![32, 4, 2048, 128]⟩
abbrev S65536x4 : Shape := ⟨2, ![65536, 4]⟩
abbrev S32x2048x4 : Shape := ⟨3, ![32, 2048, 4]⟩
abbrev S32x4x2048 : Shape := ⟨3, ![32, 4, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x4x2048x1 : Shape := ⟨4, ![32, 4, 2048, 1]⟩
abbrev S32x4x1x2048 : Shape := ⟨4, ![32, 4, 1, 2048]⟩
abbrev S32x4x2048x2048 : Shape := ⟨4, ![32, 4, 2048, 2048]⟩
abbrev S1x512 : Shape := ⟨2, ![1, 512]⟩

abbrev nBuf : Space → Nat
  | .hbm => 121
  | .vmem => 0
  | .smem => 0
  | _ => 0

abbrev bufTy : (tb : Table) → Fin (tcTables nBuf tb) → BufTy
  | .hbm, ⟨0, _⟩ => ⟨S65536x6656, .bf16⟩
  | .hbm, ⟨1, _⟩ => ⟨S65536x128, .f32⟩
  | .hbm, ⟨2, _⟩ => ⟨S512, .f32⟩
  | .hbm, ⟨3, _⟩ => ⟨S65536x6656, .f32⟩
  | .hbm, ⟨4, _⟩ => ⟨S65536x512, .f32⟩
  | .hbm, ⟨5, _⟩ => ⟨S65536x512, .f32⟩
  | .hbm, ⟨6, _⟩ => ⟨S65536x512, .f32⟩
  | .hbm, ⟨7, _⟩ => ⟨S65536x512, .f32⟩
  | .hbm, ⟨8, _⟩ => ⟨S65536x512, .f32⟩
  | .hbm, ⟨9, _⟩ => ⟨S32x2048x4x128, .f32⟩
  | .hbm, ⟨10, _⟩ => ⟨S32x4x2048x128, .f32⟩
  | .hbm, ⟨11, _⟩ => ⟨S32x2048x4x128, .f32⟩
  | .hbm, ⟨12, _⟩ => ⟨S32x4x2048x128, .f32⟩
  | .hbm, ⟨13, _⟩ => ⟨S32x2048x4x128, .f32⟩
  | .hbm, ⟨14, _⟩ => ⟨S32x4x2048x128, .f32⟩
  | .hbm, ⟨15, _⟩ => ⟨S65536x4, .f32⟩
  | .hbm, ⟨16, _⟩ => ⟨S32x2048x4, .f32⟩
  | .hbm, ⟨17, _⟩ => ⟨S32x4x2048, .f32⟩
  | .hbm, ⟨18, _⟩ => ⟨S65536x4, .f32⟩
  | .hbm, ⟨19, _⟩ => ⟨S65536x4, .f32⟩
  | .hbm, ⟨20, _⟩ => ⟨S_, .f32⟩
  | .hbm, ⟨21, _⟩ => ⟨S65536x4, .f32⟩
  | .hbm, ⟨22, _⟩ => ⟨S65536x4, .f32⟩
  | .hbm, ⟨23, _⟩ => ⟨S65536x4, .f32⟩
  | .hbm, ⟨24, _⟩ => ⟨S65536x4, .f32⟩
  | .hbm, ⟨25, _⟩ => ⟨S65536x4, .i1⟩
  | .hbm, ⟨26, _⟩ => ⟨S65536x4, .f32⟩
  | .hbm, ⟨27, _⟩ => ⟨S65536x4, .f32⟩
  | .hbm, ⟨28, _⟩ => ⟨S65536x4, .f32⟩
  | .hbm, ⟨29, _⟩ => ⟨S65536x4, .f32⟩
  | .hbm, ⟨30, _⟩ => ⟨S65536x4, .f32⟩
  | .hbm, ⟨31, _⟩ => ⟨S65536x4, .f32⟩
  | .hbm, ⟨32, _⟩ => ⟨S65536x4, .f32⟩
  | .hbm, ⟨33, _⟩ => ⟨S65536x4, .f32⟩
  | .hbm, ⟨34, _⟩ => ⟨S65536x4, .f32⟩
  | .hbm, ⟨35, _⟩ => ⟨S32x2048x4, .f32⟩
  | .hbm, ⟨36, _⟩ => ⟨S32x4x2048, .f32⟩
  | .hbm, ⟨37, _⟩ => ⟨S_, .f32⟩
  | .hbm, ⟨38, _⟩ => ⟨S_, .f32⟩
  | .hbm, ⟨39, _⟩ => ⟨S32x4x2048, .f32⟩
  | .hbm, ⟨40, _⟩ => ⟨S2048, .i32⟩
  | .hbm, ⟨41, _⟩ => ⟨S1x2048, .i32⟩
  | .hbm, ⟨42, _⟩ => ⟨S2048, .i32⟩
  | .hbm, ⟨43, _⟩ => ⟨S2048x1, .i32⟩
  | .hbm, ⟨44, _⟩ => ⟨S2048x2048, .i32⟩
  | .hbm, ⟨45, _⟩ => ⟨S2048x2048, .i32⟩
  | .hbm, ⟨46, _⟩ => ⟨S2048x2048, .i1⟩
  | .hbm, ⟨47, _⟩ => ⟨S32x4x2048x1, .f32⟩
  | .hbm, ⟨48, _⟩ => ⟨S32x4x1x2048, .f32⟩
  | .hbm, ⟨49, _⟩ => ⟨S32x4x2048x2048, .f32⟩
  | .hbm, ⟨50, _⟩ => ⟨S32x4x2048x2048, .f32⟩
  | .hbm, ⟨51, _⟩ => ⟨S32x4x2048x2048, .f32⟩
  | .hbm, ⟨52, _⟩ => ⟨S32x4x1x2048, .f32⟩
  | .hbm, ⟨53, _⟩ => ⟨S32x4x2048x2048, .f32⟩
  | .hbm, ⟨54, _⟩ => ⟨S32x4x2048x2048, .f32⟩
  | .hbm, ⟨55, _⟩ => ⟨S32x4x2048x2048, .f32⟩
  | .hbm, ⟨56, _⟩ => ⟨S_, .f32⟩
  | .hbm, ⟨57, _⟩ => ⟨S_, .f32⟩
  | .hbm, ⟨58, _⟩ => ⟨S32x4x2048x2048, .i1⟩
  | .hbm, ⟨59, _⟩ => ⟨S32x4x2048x2048, .f32⟩
  | .hbm, ⟨60, _⟩ => ⟨S32x4x2048x2048, .f32⟩
  | .hbm, ⟨61, _⟩ => ⟨S32x4x2048x2048, .f32⟩
  | .hbm, ⟨62, _⟩ => ⟨S32x4x2048x2048, .f32⟩
  | .hbm, ⟨63, _⟩ => ⟨S32x4x2048x128, .f32⟩
  | .hbm, ⟨64, _⟩ => ⟨S_, .f32⟩
  | .hbm, ⟨65, _⟩ => ⟨S32x4x2048, .f32⟩
  | .hbm, ⟨66, _⟩ => ⟨S32x4x2048, .f32⟩
  | .hbm, ⟨67, _⟩ => ⟨S_, .f32⟩
  | .hbm, ⟨68, _⟩ => ⟨S32x4x2048, .f32⟩
  | .hbm, ⟨69, _⟩ => ⟨S32x4x2048, .f32⟩
  | .hbm, ⟨70, _⟩ => ⟨S32x4x2048x1, .f32⟩
  | .hbm, ⟨71, _⟩ => ⟨S32x4x2048x128, .f32⟩
  | .hbm, ⟨72, _⟩ => ⟨S32x4x2048x128, .f32⟩
  | .hbm, ⟨73, _⟩ => ⟨S_, .f32⟩
  | .hbm, ⟨74, _⟩ => ⟨S32x4x2048, .f32⟩
  | .hbm, ⟨75, _⟩ => ⟨S32x4x2048x1, .f32⟩
  | .hbm, ⟨76, _⟩ => ⟨S_, .f32⟩
  | .hbm, ⟨77, _⟩ => ⟨S32x4x2048x1, .f32⟩
  | .hbm, ⟨78, _⟩ => ⟨S32x4x2048x1, .f32⟩
  | .hbm, ⟨79, _⟩ => ⟨S32x4x2048x128, .f32⟩
  | .hbm, ⟨80, _⟩ => ⟨S32x4x2048x128, .f32⟩
  | .hbm, ⟨81, _⟩ => ⟨S32x4x2048x128, .f32⟩
  | .hbm, ⟨82, _⟩ => ⟨S_, .f32⟩
  | .hbm, ⟨83, _⟩ => ⟨S32x4x2048, .f32⟩
  | .hbm, ⟨84, _⟩ => ⟨S32x4x2048x1, .f32⟩
  | .hbm, ⟨85, _⟩ => ⟨S_, .f32⟩
  | .hbm, ⟨86, _⟩ => ⟨S32x4x2048x1, .f32⟩
  | .hbm, ⟨87, _⟩ => ⟨S32x4x2048x1, .f32⟩
  | .hbm, ⟨88, _⟩ => ⟨S32x4x2048x128, .f32⟩
  | .hbm, ⟨89, _⟩ => ⟨S32x4x2048x128, .f32⟩
  | .hbm, ⟨90, _⟩ => ⟨S_, .f32⟩
  | .hbm, ⟨91, _⟩ => ⟨S32x4x2048x1, .f32⟩
  | .hbm, ⟨92, _⟩ => ⟨S32x4x2048x1, .f32⟩
  | .hbm, ⟨93, _⟩ => ⟨S32x4x2048x1, .f32⟩
  | .hbm, ⟨94, _⟩ => ⟨S32x4x2048x128, .f32⟩
  | .hbm, ⟨95, _⟩ => ⟨S32x4x2048x128, .f32⟩
  | .hbm, ⟨96, _⟩ => ⟨S32x2048x4x128, .f32⟩
  | .hbm, ⟨97, _⟩ => ⟨S65536x512, .f32⟩
  | .hbm, ⟨98, _⟩ => ⟨S1x512, .f32⟩
  | .hbm, ⟨99, _⟩ => ⟨S65536x512, .f32⟩
  | .hbm, ⟨100, _⟩ => ⟨S65536x512, .f32⟩
  | .hbm, ⟨101, _⟩ => ⟨S65536x512, .f32⟩
  | .hbm, ⟨102, _⟩ => ⟨S65536x512, .f32⟩
  | .hbm, ⟨103, _⟩ => ⟨S_, .f32⟩
  | .hbm, ⟨104, _⟩ => ⟨S65536x512, .f32⟩
  | .hbm, ⟨105, _⟩ => ⟨S65536x512, .f32⟩
  | .hbm, ⟨106, _⟩ => ⟨S_, .f32⟩
  | .hbm, ⟨107, _⟩ => ⟨S65536x512, .f32⟩
  | .hbm, ⟨108, _⟩ => ⟨S65536x512, .f32⟩
  | .hbm, ⟨109, _⟩ => ⟨S65536x512, .f32⟩
  | .hbm, ⟨110, _⟩ => ⟨S65536x512, .f32⟩
  | .hbm, ⟨111, _⟩ => ⟨S65536x512, .f32⟩
  | .hbm, ⟨112, _⟩ => ⟨S_, .f32⟩
  | .hbm, ⟨113, _⟩ => ⟨S65536x512, .f32⟩
  | .hbm, ⟨114, _⟩ => ⟨S65536x512, .f32⟩
  | .hbm, ⟨115, _⟩ => ⟨S_, .f32⟩
  | .hbm, ⟨116, _⟩ => ⟨S65536x512, .f32⟩
  | .hbm, ⟨117, _⟩ => ⟨S65536x512, .f32⟩
  | .hbm, ⟨118, _⟩ => ⟨S65536x512, .f32⟩
  | .hbm, ⟨119, _⟩ => ⟨S65536x512, .f32⟩
  | .hbm, ⟨120, _⟩ => ⟨S65536x512, .bf16⟩
  | _, _ => ⟨S65536x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_call0_cst : Ref sig .tc := ⟨.hbm, 37, rfl⟩
abbrev main_call1_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_0 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_2 : Ref sig .tc := ⟨.hbm, 73, rfl⟩
abbrev main_v47 : Ref sig .tc := ⟨.hbm, 74, rfl⟩
abbrev main_v48 : Ref sig .tc := ⟨.hbm, 75, rfl⟩
abbrev main_cst_3 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_4 : Ref sig .tc := ⟨.hbm, 82, rfl⟩
abbrev main_v54 : Ref sig .tc := ⟨.hbm, 83, rfl⟩
abbrev main_v55 : Ref sig .tc := ⟨.hbm, 84, rfl⟩
abbrev main_cst_5 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_6 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_7 : Ref sig .tc := ⟨.hbm, 103, rfl⟩
abbrev main_v72 : Ref sig .tc := ⟨.hbm, 104, rfl⟩
abbrev main_v73 : Ref sig .tc := ⟨.hbm, 105, rfl⟩
abbrev main_cst_8 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩

abbrev nD : Nat := 1
abbrev τ : Topo := Topo.v7x

variable {F : FTy → Type} [FloatOps F]
-- ==== Proof.SbKernelIdeal.lean ====
/- The outer loop of the stick-breaking kernel: one trip per tile of 256 queries, each trip writing its own 256 rows of the
   result's buffer; then the body obligation, the run and the frame of `KernelIdeal`. -/
module

public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Quiescent
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs of one grid point's windows: queries, keys, values, gates and the result, each a whole buffer. -/
abbrev Blk := Memref sig .tc .vmem S2048x128 .bf16

/-- What one trip works on: the four inputs' buffers at their contents and the result's buffer at `f`. -/
abbrev Trip1 (c : Dev nD) (arg2 arg3 arg4 arg5 arg6 : Blk) (X2 : BufTy.Contents (Elt F) arg2.view.ty) (X3 : BufTy.Contents (Elt F) arg3.view.ty) (X4 : BufTy.Contents (Elt F) arg4.view.ty) (X5 : BufTy.Contents (Elt F) arg5.view.ty) (f : BufTy.Contents (Elt F) arg6.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f))

set_option maxHeartbeats 1600000 in
/-- One trip of the outer loop: whatever the result's buffer holds, the trip writes into it a list of pieces that depends on the
    trip and the inputs alone. -/
@[irreducible] def trip1 (𝒱 : Variants) (c : Dev nD) (bd : Option 𝒱.V) (i : grid0.Coords) (arg2 : Blk) (harg2 : arg2.IsWhole) (arg3 : Blk) (harg3 : arg3.IsWhole) (arg4 : Blk) (harg4 : arg4.IsWhole) (arg5 : Blk) (harg5 : arg5.IsWhole) (arg6 : Blk) (harg6 : arg6.IsWhole) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    { L : List (View.Piece (Elt F) S2048x128 .bf16) // ∀ (E : Set ℕ) (f : BufTy.Contents (Elt F) arg6.view.ty) (acc : Unit),
      Trip1 (F := F) c arg2 arg3 arg4 arg5 arg6 X2 X3 X4 X5 f
      ⊢ wp frame (wpE (defs₀ (F := F)) 𝒱 (c : Thread nD τ) bd) E (k0_t1_body (F := F) i arg2 harg2 arg3 harg3 arg4 harg4 arg5 harg5 arg6 harg6 k acc)
          (fun _ => Trip1 (F := F) c arg2 arg3 arg4 arg5 arg6 X2 X3 X4 X5 (arg6.view.writes (Elt F) f L)) } := by
  refine ⟨?_, fun E f acc => ?run⟩
  case run =>
    unfold k0_t1_body
    simp only [k0_part3_eq_skeleton, k0_part4_eq_skeleton]
    iintro ⟨H2, H3, H4, H5, H6⟩
    sl_exec
    sl_step
    sl_close

/-- What the inner loop carries: for each head of the pair the sum of the logarithms of the remainders so far and the
    weighted sum of the values so far. -/
abbrev Carry (F : FTy → Type) [FloatOps F] := FVec F S256x1 .f32 × FVec F S256x128 .f32 × FVec F S256x1 .f32 × FVec F S256x128 .f32

/-- The 256 rows of a block that belong to query tile `k`. -/
abbrev rows1 (x : Vec F S2048x128 .bf16) (k : Fin k0_t1_loop.trips) : Vec F S256x128 .bf16 :=
  View.ld x (Rect.unit (s := S2048x128) (k0_off1 k) S256x128.size (k0_off1_inb k))

/-- The 256 rows of a block that the inner loop's trip `j` reads for query tile `k`. -/
abbrev rows2 (x : Vec F S2048x128 .bf16) (k : Fin k0_t1_loop.trips) (j : Fin (k0_t2_loop k).trips) : Vec F S256x128 .bf16 :=
  View.ld x (Rect.unit (s := S2048x128) (k0_off2 k j) S256x128.size (k0_off2_inb k j))

/-- One trip of the inner loop on the keys `kk` and the values `vv`, for the queries `qa` and `qb` of the two heads. -/
def step2 (qa qb kk vv : Vec F S256x128 .bf16) (a : Carry F) : Carry F :=
  (k0_pay17 qa a.1 kk, k0_pay16 (k0_pay2 (F := F)) qa a.1 a.2.1 kk vv,
    k0_pay7 a.2.2.1 (k0_pay19 qb kk) (k0_pay20 qb kk) (Scalar.ofBits .f32 0x00000000#32),
    k0_pay6 a.2.2.1 a.2.2.2 vv (k0_pay18 qb kk) (k0_pay19 qb kk) (k0_pay20 qb kk) (Scalar.ofBits .f32 0x00000000#32))

/-- What the inner loop carries before its trip `n`. -/
def acc2 (k : Fin k0_t1_loop.trips) (qa qb : Vec F S256x128 .bf16) (x3 x4 : Vec F S2048x128 .bf16) (init : Carry F) : ℕ → Carry F
  | 0 => init
  | n + 1 => if h : n < (k0_t2_loop k).trips then step2 qa qb (rows2 x3 k ⟨n, h⟩) (rows2 x4 k ⟨n, h⟩) (acc2 k qa qb x3 x4 init n)
      else acc2 k qa qb x3 x4 init n

/-- The diagonal tile: what the inner loop starts from. -/
def diag (qt kt vt : Vec F S256x128 .bf16) : Carry F :=
  (k0_pay39 (k0_pay32 (F := F)) (k0_pay36 k0_pay1 k0_pay3 qt kt),
    k0_pay38 vt (k0_pay33 (F := F)) (k0_pay37 k0_pay1 (k0_pay2 (F := F)) k0_pay3 qt kt),
    k0_pay44 k0_pay1 (k0_pay31 k0_pay3 qt) kt (k0_pay32 (F := F)),
    k0_pay43 k0_pay1 (k0_pay2 (F := F)) (k0_pay31 k0_pay3 qt) kt vt (k0_pay32 (F := F)) (k0_pay33 (F := F)))

/-- What query tile `k` leaves when all its key tiles are done. -/
def done (k : Fin k0_t1_loop.trips) (x2 x3 x4 : Vec F S2048x128 .bf16) : Carry F :=
  acc2 k (k0_pay30 k0_pay3 (rows1 x2 k)) (k0_pay31 k0_pay3 (rows1 x2 k)) x3 x4 (diag (rows1 x2 k) (rows1 x3 k) (rows1 x4 k)) (k0_t2_loop k).trips

/-- The rows that trip `k` of the outer loop writes. -/
def piece (x2 x3 x4 x5 : Vec F S2048x128 .bf16) (k : Fin k0_t1_loop.trips) : View.Piece (Elt F) S2048x128 .bf16 :=
  ⟨Rect.unit (s := S2048x128) (k0_off1 k) S256x128.size (k0_off1_inb k), k0_pay12 (done k x2 x3 x4).2.1 (done k x2 x3 x4).2.2.2 (rows1 x5 k)⟩

section found
variable (𝒱 : Variants) (c : Dev nD) (bd : Option 𝒱.V) (i : grid0.Coords) (arg2 : Blk) (harg2 : arg2.IsWhole) (arg3 : Blk) (harg3 : arg3.IsWhole) (arg4 : Blk) (harg4 : arg4.IsWhole) (arg5 : Blk) (harg5 : arg5.IsWhole) (arg6 : Blk) (harg6 : arg6.IsWhole) (X2 : BufTy.Contents (Elt F) arg2.view.ty) (X3 : BufTy.Contents (Elt F) arg3.view.ty) (X4 : BufTy.Contents (Elt F) arg4.view.ty) (X5 : BufTy.Contents (Elt F) arg5.view.ty)

/-- The generated trip of the inner loop is `step2` on the rows it reads. -/
theorem tripR_eq (k : Fin k0_t1_loop.trips) (arg7 : BitVec 32) (qa qb : Vec F S256x128 .bf16) (v : BitVec 32) (j : Fin (k0_t2_loop k).trips) (a : Carry F) :
    tripR_k0_t2 𝒱 c bd i arg2 harg2 arg3 harg3 arg4 harg4 arg5 harg5 arg6 harg6 k arg7 qa qb v X3 X4 j a
      = step2 qa qb (rows2 (arg3.view.read (Elt F) X3) k j) (rows2 (arg4.view.read (Elt F) X4) k j) a := by
  unfold tripR_k0_t2 trip_k0_t2
  rfl

/-- The generated recursion of the inner loop is `acc2`. -/
theorem st_eq (k : Fin k0_t1_loop.trips) (arg7 : BitVec 32) (qa qb : Vec F S256x128 .bf16) (v : BitVec 32) (init : Carry F) (n : ℕ) :
    st_k0_t2 𝒱 c bd i arg2 harg2 arg3 harg3 arg4 harg4 arg5 harg5 arg6 harg6 k arg7 qa qb v X3 X4 init n
      = acc2 k qa qb (arg3.view.read (Elt F) X3) (arg4.view.read (Elt F) X4) init n := by
  induction n with
  | zero => rfl
  | succ n ih =>
    rw [st_k0_t2.eq_2]
    unfold st_k0_t2Step acc2
    by_cases h : n < (k0_t2_loop k).trips
    · rw [dif_pos h, dif_pos h, tripR_eq, ih]
    · rw [dif_neg h, dif_neg h, ih]

/-- The second part of the split inner loop has no trips. -/
theorem trips3 : ∀ k : Fin k0_t1_loop.trips, (k0_t3_loop k).trips = 0 := by decide +kernel

/-- The pieces of one outer trip, as found by the run, are the one piece `piece`. -/
theorem trip1_eq (k : Fin k0_t1_loop.trips) :
    (trip1 𝒱 c bd i arg2 harg2 arg3 harg3 arg4 harg4 arg5 harg5 arg6 harg6 X2 X3 X4 X5 k).1
      = [piece (arg2.view.read (Elt F) X2) (arg3.view.read (Elt F) X3) (arg4.view.read (Elt F) X4) (arg5.view.read (Elt F) X5) k] := by
  unfold trip1
  have h3 := trips3 k
  unfold k0_t3_loop at h3
  dsimp only at h3 ⊢
  have e : ∀ (v : BitVec 32) (w : BitVec 32) (qa qb : Vec F S256x128 .bf16) (n : ℕ) (z : Carry F), n = 0 →
      st_k0_t3 𝒱 c bd i arg2 harg2 arg3 harg3 arg4 harg4 arg5 harg5 arg6 harg6 k v qa qb w X3 X4 z n = z := by
    rintro v w qa qb n z rfl
    rfl
  rw [e _ _ _ _ _ _ h3, st_eq]
  rfl

end found

/-- The rows the outer trips before trip `n` have written, the latest first. -/
def pieces (x2 x3 x4 x5 : Vec F S2048x128 .bf16) : ℕ → List (View.Piece (Elt F) S2048x128 .bf16)
  | 0 => []
  | n + 1 => if h : n < k0_t1_loop.trips then piece x2 x3 x4 x5 ⟨n, h⟩ :: pieces x2 x3 x4 x5 n else pieces x2 x3 x4 x5 n

theorem pieces_succ (x2 x3 x4 x5 : Vec F S2048x128 .bf16) (k : Fin k0_t1_loop.trips) :
    pieces x2 x3 x4 x5 (k.val + 1) = piece x2 x3 x4 x5 k :: pieces x2 x3 x4 x5 k.val := by
  rw [pieces.eq_2]; exact dif_pos k.isLt

/-- Every trip's rows are among the pieces of the trips before a later one. -/
theorem mem_pieces (x2 x3 x4 x5 : Vec F S2048x128 .bf16) (k : Fin k0_t1_loop.trips) : ∀ n, k.val < n → piece x2 x3 x4 x5 k ∈ pieces x2 x3 x4 x5 n
  | 0, h => absurd h (Nat.not_lt_zero _)
  | n + 1, h => by
    by_cases hk : k.val = n
    · subst hk; rw [pieces_succ]; exact List.mem_cons_self
    · have := mem_pieces x2 x3 x4 x5 k n (by omega)
      rw [pieces.eq_2]
      split
      · exact List.mem_cons_of_mem _ this
      · exact this

/-- A piece of the list is one trip's. -/
theorem of_mem_pieces (x2 x3 x4 x5 : Vec F S2048x128 .bf16) (p) : ∀ n, p ∈ pieces x2 x3 x4 x5 n → ∃ k, p = piece x2 x3 x4 x5 k
  | 0, h => absurd h List.not_mem_nil
  | n + 1, h => by
    rw [pieces.eq_2] at h
    split at h
    · rcases List.mem_cons.mp h with h | h
      · exact ⟨_, h⟩
      · exact of_mem_pieces x2 x3 x4 x5 p n h
    · exact of_mem_pieces x2 x3 x4 x5 p n h

/-- What the output block holds in the end. -/
def out (x2 x3 x4 x5 : Vec F S2048x128 .bf16) : Vec F S2048x128 .bf16 := View.canon (pieces x2 x3 x4 x5 k0_t1_loop.trips)

theorem off1_eq : ∀ k : Fin k0_t1_loop.trips, k0_off1 k = ![256 * k.val, 0] := by decide +kernel

/-- The trips' rows are all the rows. -/
theorem covered (x2 x3 x4 x5 : Vec F S2048x128 .bf16) (y : S2048x128.Idx) : ∃ p ∈ pieces x2 x3 x4 x5 k0_t1_loop.trips, y ∈ p.1.set := by
  have hy : (y 0).val < 2048 := (y 0).isLt
  have hy1 : (y 1).val < 128 := (y 1).isLt
  have hk : (y 0).val / 256 < k0_t1_loop.trips := (by omega : (y 0).val / 256 < 8)
  refine ⟨piece x2 x3 x4 x5 ⟨_, hk⟩, mem_pieces _ _ _ _ _ _ hk, ?_⟩
  refine (Rect.mem_set_unit (inb := k0_off1_inb ⟨_, hk⟩)).mpr fun a => ?_
  rw [off1_eq]
  match a with
  | ⟨0, _⟩ => exact ⟨by show 256 * ((y 0).val / 256) ≤ (y 0).val; omega, by show (y 0).val < 256 * ((y 0).val / 256) + 256; omega⟩
  | ⟨1, _⟩ => exact ⟨Nat.zero_le _, by show (y 1).val < 0 + 128; omega⟩

/-- Before outer trip `k`: the inputs at their contents, the output block at what the trips before wrote. -/
abbrev inv1 (c : Dev nD) (arg2 arg3 arg4 arg5 arg6 : Blk) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (n : ℕ) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (∃ f, (arg6.view.loc (c : Thread nD τ) ↦[arg6.view.set]{fullShare} f)
        ∗ ⌜f = arg6.view.writes (Elt F) X6 (pieces (arg2.view.read (Elt F) X2) (arg3.view.read (Elt F) X3) (arg4.view.read (Elt F) X4) (arg5.view.read (Elt F) X5) n)⌝))

/-- The outer loop's invariant: each trip adds its rows. -/
@[sl_loop] def loopInv1 (𝒱 : Variants) (c : Dev nD) (bd : Option 𝒱.V) (i : grid0.Coords) (arg2 : Blk) (harg2 : arg2.IsWhole) (arg3 : Blk) (harg3 : arg3.IsWhole) (arg4 : Blk) (harg4 : arg4.IsWhole) (arg5 : Blk) (harg5 : arg5.IsWhole) (arg6 : Blk) (harg6 : arg6.IsWhole) (E : Set ℕ) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    LoopInvTy_k0_t1 (F := F) Unit ℕ (UR sig nD τ) ℕ 𝒱 c bd E i arg2 harg2 arg3 harg3 arg4 harg4 arg5 harg5 arg6 harg6 where
  inv n _ := inv1 c arg2 arg3 arg4 arg5 arg6 X2 X3 X4 X5 X6 n
  step k a := by
    unfold inv1
    iintro ⟨H2, H3, H4, H5, ⟨%f, H6, %hf⟩⟩
    iapply (wp_wand_r Idealize.ShloMosaic.frame (wpE (defs₀ (F := F)) 𝒱 (c : Thread nD τ) bd) E)
    isplitl [H2 H3 H4 H5 H6]
    · iapply ((trip1 𝒱 c bd i arg2 harg2 arg3 harg3 arg4 harg4 arg5 harg5 arg6 harg6 X2 X3 X4 X5 k).2 E f a)
      isplitl [H2]; · iexact H2
      isplitl [H3]; · iexact H3
      isplitl [H4]; · iexact H4
      isplitl [H5]; · iexact H5
      iexact H6
    · iintro %_ ⟨H2, H3, H4, H5, H6⟩
      isplitl [H2]; · iexact H2
      isplitl [H3]; · iexact H3
      isplitl [H4]; · iexact H4
      isplitl [H5]; · iexact H5
      iexists _
      isplitl [H6]; · iexact H6
      ipureintro
      rw [trip1_eq, pieces_succ, View.writes_cons, hf]
      rfl

/-- The body: from the four input blocks it leaves `out` of them. -/
theorem sound_kernel (c : Dev nD) (E : Set ℕ) (i : grid0.Coords) (arg2 : Blk) (harg2 : arg2.IsWhole) (arg3 : Blk) (harg3 : arg3.IsWhole) (arg4 : Blk) (harg4 : arg4.IsWhole) (arg5 : Blk) (harg5 : arg5.IsWhole) (arg6 : Blk) (harg6 : arg6.IsWhole)
    (x2 x3 x4 x5 : Vec F S2048x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out x2 x3 x4 x5)) -∗ K ⟨⟩))
      ⊢ wp frame (wpE (defs₀ (F := F)) Variants.none c none) E (cc0_sb_attention i arg2 harg2 arg3 harg3 arg4 harg4 arg5 harg5 arg6 harg6) K := by
  simp only [cc0_sb_attention_eq_skeleton]; unfold cc0_sb_attention_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _
  isplitr
  swap
  · iexact H6
  ipureintro
  exact View.read_writes_eq_canon _ _ _ (covered _ _ _ _)

section launch
variable (m : (ℓ : Loc nD τ sig) → Buf (Elt F) ℓ) (ρ : Dev nD → PrngReg)

/-- What the launch's proof fixes: each input window's block as staged, the output window's `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every window's array ends at what the blocks add up to, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument ends unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_main m ρ)) ((θ_run defs _ _).mono (fun _ h => h.2) (run_main_quiescent m ρ))

end launch

end Cert.KernelIdeal.Sb

end
-- ==== Proof.SbMath.lean ====
module

public import Idealize.ShloMosaic.Lib.Pointwise
public import Idealize.ShloMosaic.Lib.WordCmp

@[expose] public section

/-! The mathematics of stick-breaking attention on one row of scores: what its weights are over the reals, how the sums behind
them split into tiles of 256 keys, and how a sum over a window that reaches to the end of an axis is a suffix sum. -/

set_option maxRecDepth 16384

noncomputable section

namespace Cert.Sb

open Idealize.ShloMosaic

/-- Softplus, in the form that does not overflow. -/
def sp (x : ℝ) : ℝ := max x 0 + Real.log (1 + Real.exp (0 - max x (-x)))

theorem coe_max (x y : ℝ) : ((max x y : ℝ) : EReal) = max (x : EReal) (y : EReal) := EReal.coe_strictMono.monotone.map_max

/-- The kernel's softplus on a real number. -/
theorem sp_coe (x : ℝ) :
    max (x : EReal) 0 + Ideal.log (1 + Ideal.exp (0 - max (x : EReal) (-(x : EReal)))) = (sp x : EReal) := by
  rw [← EReal.coe_neg, ← coe_max x (-x), ← EReal.coe_zero, ← EReal.coe_sub, Ideal.exp_coe, ← EReal.coe_one, ← EReal.coe_add,
    Ideal.log_coe, if_neg (by have := Real.exp_pos (0 - max x (-x)); linarith), ← coe_max, ← EReal.coe_add]
  rfl

theorem sp_neg (x : ℝ) : sp (-x) = sp x - x := by
  unfold sp
  rw [neg_neg, max_comm (-x) x]
  rcases le_total x 0 with h | h
  · rw [max_eq_right h, max_eq_left (by linarith)]; ring
  · rw [max_eq_left h, max_eq_right (by linarith)]; ring

/-- The logarithm of what key `s` leaves of the stick of query `t`. -/
def lr (z : ℕ → ℝ) (t s : ℕ) : ℝ := if s < t then -sp (z s) else 0

/-- The weight of key `s` for query `t`. -/
def att (z : ℕ → ℝ) (t s : ℕ) : ℝ :=
  if s < t then Real.exp (z s - sp (z s) + ∑ i ∈ Finset.Ico (s + 1) 2048, lr z t i) else 0

/-- A sum over a tile of 256 joined to the sum over what follows it. -/
theorem tile_add {M : Type} [AddCommMonoid M] (f : ℕ → M) (B : ℕ) (hB : B + 256 ≤ 2048) :
    (∑ i ∈ Finset.Ico (B + 256) 2048, f i) + ∑ c : Fin 256, f (B + c.val) = ∑ i ∈ Finset.Ico B 2048, f i := by
  rw [← Finset.sum_Ico_consecutive f (Nat.le_add_right B 256) hB, add_comm, Fin.sum_univ_eq_sum_range (fun c => f (B + c)) 256,
    Finset.sum_Ico_eq_sum_range f B (B + 256), Nat.add_sub_cancel_left]

/-- The keys of a tile after key `c`, joined to the keys after the tile. -/
theorem suffix_add {M : Type} [AddCommMonoid M] (f : ℕ → M) (B : ℕ) (hB : B + 256 ≤ 2048) (c : Fin 256) :
    (∑ x : Fin 256, if c.val < x.val then f (B + x.val) else 0) + ∑ i ∈ Finset.Ico (B + 256) 2048, f i
      = ∑ i ∈ Finset.Ico (B + c.val + 1) 2048, f i := by
  have hc := c.isLt
  rw [← Finset.sum_Ico_consecutive f (show B + c.val + 1 ≤ B + 256 by omega) hB]
  congr 1
  rw [Fin.sum_univ_eq_sum_range (fun x => if c.val < x then f (B + x) else 0) 256, ← Finset.sum_filter,
    Finset.sum_Ico_eq_sum_range f (B + c.val + 1) (B + 256)]
  refine Finset.sum_bij' (fun x _ => x - (c.val + 1)) (fun x _ => x + (c.val + 1)) ?_ ?_ ?_ ?_ ?_
  · intro x hx; simp only [Finset.mem_filter, Finset.mem_range] at hx ⊢; omega
  · intro x hx; simp only [Finset.mem_filter, Finset.mem_range] at hx ⊢; omega
  · intro x hx; simp only [Finset.mem_filter, Finset.mem_range] at hx; omega
  · intro x hx; omega
  · intro x hx
    simp only [Finset.mem_filter, Finset.mem_range] at hx
    congr 1; omega

/-- From the query's own position on, nothing is left of the sums. -/
theorem lr_tail (z : ℕ → ℝ) (t T : ℕ) (h : t ≤ T) : ∑ i ∈ Finset.Ico T 2048, lr z t i = 0 :=
  Finset.sum_eq_zero fun i hi => if_neg (by have := (Finset.mem_Ico.mp hi).1; omega)

theorem att_tail (z : ℕ → ℝ) (V : ℕ → EReal) (t T : ℕ) (h : t ≤ T) : ∑ i ∈ Finset.Ico T 2048, (att z t i : EReal) * V i = 0 :=
  Finset.sum_eq_zero fun i hi => by
    rw [att, if_neg (by have := (Finset.mem_Ico.mp hi).1; omega), EReal.coe_zero, zero_mul]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem select_sgt {α : Type} (a b : ℕ) (ha : a < 2 ^ 31) (hb : b < 2 ^ 31) (u v : α) :
    Scalar.select (IntOp.cmpi .sgt (BitVec.ofNat 32 a) (BitVec.ofNat 32 b)) u v = if b < a then u else v := by
  rw [WordCmp.cmpi_sgt_ofNat ha hb]
  unfold Scalar.select
  by_cases h : b < a <;> simp [h]

theorem select_slt {α : Type} (a b : ℕ) (ha : a < 2 ^ 31) (hb : b < 2 ^ 31) (u v : α) :
    Scalar.select (IntOp.cmpi .slt (BitVec.ofNat 32 a) (BitVec.ofNat 32 b)) u v = if a < b then u else v := by
  rw [WordCmp.cmpi_slt_ofNat ha hb]
  unfold Scalar.select
  by_cases h : a < b <;> simp [h]

/-- The in-tile suffix sum, computed by two products with the strict upper triangle, one of the rounded summands and one of what
    the rounding left, is over the reals the suffix sum itself. -/
theorem two_products (L : Fin 256 → EReal) (l : Fin 256 → ℝ) (hL : ∀ c, L c = (l c : EReal)) (c : Fin 256) :
    (∑ x : Fin 256, Scalar.select (IntOp.cmpi .sgt (BitVec.ofNat 32 x.val) (BitVec.ofNat 32 c.val)) (L x) 0)
      + ∑ x : Fin 256, Scalar.select (IntOp.cmpi .sgt (BitVec.ofNat 32 x.val) (BitVec.ofNat 32 c.val)) (L x - L x) 0
      = ((∑ x : Fin 256, if c.val < x.val then l x else 0 : ℝ) : EReal) := by
  have h2 : ∀ x : Fin 256, x.val < 2 ^ 31 := fun x => by have := x.isLt; omega
  rw [coe_sum, ← add_zero (∑ x : Fin 256, (((if c.val < x.val then l x else 0) : ℝ) : EReal))]
  refine congrArg₂ (· + ·) (Finset.sum_congr rfl fun x _ => ?_) (Finset.sum_eq_zero fun x _ => ?_)
  · rw [select_sgt _ _ (h2 x) (h2 c), hL]
    by_cases h : c.val < x.val
    · rw [if_pos h, if_pos h]
    · rw [if_neg h, if_neg h, EReal.coe_zero]
  · rw [select_sgt _ _ (h2 x) (h2 c), hL, ← EReal.coe_sub, sub_self, EReal.coe_zero, ite_self]

end Cert.Sb

end
-- ==== Proof.SbPure.lean ====
module

public import proofs.«01_k».proof.Proof.SbKernelIdeal
public import proofs.«01_k».proof.Proof.SbMath
public import Idealize.ShloMosaic.Lib.Pointwise

@[expose] public section

/-! What one inner trip and the diagonal tile of the stick-breaking kernel compute, over the extended reals, on one row of
queries whose scores are real numbers. -/

set_option maxRecDepth 16384

noncomputable section

namespace Cert.KernelIdeal.Sb

open Cert.KernelIdeal Cert.KernelIdeal.Gen Cert.Sb
open Idealize.ShloMosaic Idealize.ShloMosaic.TcCoe Idealize.SL.Sem

/-- The carried sum after one trip: the tile's own sum added. -/
theorem carry_tile (C : EReal) (Z : Fin 256 → EReal) (z : ℕ → ℝ) (t B : ℕ) (hB : B + 256 ≤ 2048) (ht : B + 256 ≤ t)
    (hz : ∀ c, Z c = (z (B + c.val) : EReal)) (hC : C = ((∑ i ∈ Finset.Ico (B + 256) 2048, lr z t i : ℝ) : EReal)) :
    C + ∑ c : Fin 256, (0 - (max (Z c) 0 + Ideal.log (1 + Ideal.exp (0 - max (Z c) (-(Z c))))))
      = ((∑ i ∈ Finset.Ico B 2048, lr z t i : ℝ) : EReal) := by
  rw [← tile_add _ B hB, EReal.coe_add, hC, coe_sum Finset.univ]
  refine congrArg _ (Finset.sum_congr rfl fun c _ => ?_)
  have hc := c.isLt
  rw [hz, lr, if_pos (by omega)]
  exact (congrArg (fun x => (0 : EReal) - x) (sp_coe _)).trans (by rw [zero_sub, EReal.coe_neg])

/-- The weighted sum after one trip. -/
theorem acc_tile (A C : EReal) (Z W : Fin 256 → EReal) (z : ℕ → ℝ) (V : ℕ → EReal) (t B : ℕ) (hB : B + 256 ≤ 2048) (ht : B + 256 ≤ t)
    (hz : ∀ c, Z c = (z (B + c.val) : EReal)) (hW : ∀ c, W c = V (B + c.val))
    (hC : C = ((∑ i ∈ Finset.Ico (B + 256) 2048, lr z t i : ℝ) : EReal))
    (hA : A = ∑ i ∈ Finset.Ico (B + 256) 2048, (att z t i : EReal) * V i) :
    A + ∑ c : Fin 256, Ideal.exp
          (Z c - (max (Z c) 0 + Ideal.log (1 + Ideal.exp (0 - max (Z c) (-(Z c)))))
            + (∑ x : Fin 256, Scalar.select (IntOp.cmpi .sgt (BitVec.ofNat 32 x.val) (BitVec.ofNat 32 c.val))
                  (0 - (max (Z x) 0 + Ideal.log (1 + Ideal.exp (0 - max (Z x) (-(Z x)))))) 0
              + ∑ x : Fin 256, Scalar.select (IntOp.cmpi .sgt (BitVec.ofNat 32 x.val) (BitVec.ofNat 32 c.val))
                  (0 - (max (Z x) 0 + Ideal.log (1 + Ideal.exp (0 - max (Z x) (-(Z x)))))
                    - (0 - (max (Z x) 0 + Ideal.log (1 + Ideal.exp (0 - max (Z x) (-(Z x))))))) 0)
            + C) * W c
      = ∑ i ∈ Finset.Ico B 2048, (att z t i : EReal) * V i := by
  have hs : ∀ c, max (Z c) 0 + Ideal.log (1 + Ideal.exp (0 - max (Z c) (-(Z c)))) = (sp (z (B + c.val)) : EReal) :=
    fun c => by rw [hz]; exact sp_coe _
  have hl : ∀ c : Fin 256, (0 : EReal) - (sp (z (B + c.val)) : EReal) = (lr z t (B + c.val) : EReal) := fun c => by
    have hc := c.isLt
    rw [lr, if_pos (by omega), zero_sub, EReal.coe_neg]
  rw [← tile_add _ B hB, hA]
  refine congrArg _ (Finset.sum_congr rfl fun c _ => ?_)
  have hc := c.isLt
  simp only [hs]
  rw [two_products _ (fun x => lr z t (B + x.val)) hl c, hW, hz, hC, ← EReal.coe_sub, ← EReal.coe_add, ← EReal.coe_add, add_assoc,
    suffix_add (lr z t) B hB c, Ideal.exp_coe, att, if_pos (by omega)]

/-- The diagonal tile's sum. -/
theorem carry_diag (Z : Fin 256 → EReal) (z : ℕ → ℝ) (B : ℕ) (r : Fin 256) (hB : B + 256 ≤ 2048)
    (hz : ∀ c, Z c = (z (B + c.val) : EReal)) :
    ∑ c : Fin 256, Scalar.select (IntOp.cmpi .slt (BitVec.ofNat 32 c.val) (BitVec.ofNat 32 r.val))
        (0 - (max (Z c) 0 + Ideal.log (1 + Ideal.exp (0 - max (Z c) (-(Z c)))))) 0
      = ((∑ i ∈ Finset.Ico B 2048, lr z (B + r.val) i : ℝ) : EReal) := by
  have hr := r.isLt
  rw [← tile_add _ B hB, lr_tail _ _ _ (by omega), zero_add, coe_sum]
  refine Finset.sum_congr rfl fun c _ => ?_
  have hc := c.isLt
  rw [select_slt _ _ (by omega) (by omega), hz, lr]
  by_cases h : c.val < r.val
  · rw [if_pos h, if_pos (by omega)]
    exact (congrArg (fun x => (0 : EReal) - x) (sp_coe _)).trans (by rw [zero_sub, EReal.coe_neg])
  · rw [if_neg h, if_neg (by omega), EReal.coe_zero]

/-- The diagonal tile's weighted sum. -/
theorem acc_diag (Z W L : Fin 256 → EReal) (z : ℕ → ℝ) (V : ℕ → EReal) (B : ℕ) (r : Fin 256) (hB : B + 256 ≤ 2048)
    (hz : ∀ c, Z c = (z (B + c.val) : EReal)) (hW : ∀ c, W c = V (B + c.val))
    (hL : ∀ c, L c = Scalar.select (IntOp.cmpi .slt (BitVec.ofNat 32 c.val) (BitVec.ofNat 32 r.val))
        (0 - (max (Z c) 0 + Ideal.log (1 + Ideal.exp (0 - max (Z c) (-(Z c)))))) 0) :
    ∑ c : Fin 256, Scalar.select (IntOp.cmpi .slt (BitVec.ofNat 32 c.val) (BitVec.ofNat 32 r.val))
        (Ideal.exp
          (Z c - (max (Z c) 0 + Ideal.log (1 + Ideal.exp (0 - max (Z c) (-(Z c)))))
            + (∑ x : Fin 256, Scalar.select (IntOp.cmpi .sgt (BitVec.ofNat 32 x.val) (BitVec.ofNat 32 c.val)) (L x) 0
              + ∑ x : Fin 256, Scalar.select (IntOp.cmpi .sgt (BitVec.ofNat 32 x.val) (BitVec.ofNat 32 c.val)) (L x - L x) 0)) * W c) 0
      = ∑ i ∈ Finset.Ico B 2048, (att z (B + r.val) i : EReal) * V i := by
  have hr := r.isLt
  have hs : ∀ c, max (Z c) 0 + Ideal.log (1 + Ideal.exp (0 - max (Z c) (-(Z c)))) = (sp (z (B + c.val)) : EReal) :=
    fun c => by rw [hz]; exact sp_coe _
  have hl : ∀ c : Fin 256, L c = (lr z (B + r.val) (B + c.val) : EReal) := fun c => by
    have hc := c.isLt
    rw [hL, hs, select_slt _ _ (by omega) (by omega), lr]
    by_cases h : c.val < r.val
    · rw [if_pos h, if_pos (by omega), zero_sub, EReal.coe_neg]
    · rw [if_neg h, if_neg (by omega), EReal.coe_zero]
  rw [← tile_add _ B hB, att_tail _ _ _ _ (by omega), zero_add]
  refine Finset.sum_congr rfl fun c _ => ?_
  have hc := c.isLt
  rw [two_products _ (fun x => lr z (B + r.val) (B + x.val)) hl c, select_slt _ _ (by omega) (by omega), hW, hs, hz, att]
  by_cases h : c.val < r.val
  · rw [if_pos h, if_pos (by omega), ← EReal.coe_sub, ← EReal.coe_add, ← suffix_add _ B hB c, lr_tail _ _ _ (by omega), add_zero,
      Ideal.exp_coe]
  · rw [if_neg h, if_neg (by omega), EReal.coe_zero, zero_mul]

/-- The absolute value of an extended real. -/
theorem abs_max (x : EReal) : (FloatOps.absf (F := Ideal) (φ := .f32) x : EReal) = max x (-x) := rfl

section step
variable (qa qb k v : FVec Ideal S256x128 .bf16) (a : Carry Ideal) (r : Fin 256) (d : Fin 128) (z : ℕ → ℝ) (V : ℕ → EReal) (t B : ℕ)

theorem step_carry0 (hB : B + 256 ≤ 2048) (ht : B + 256 ≤ t)
    (hz : ∀ c : Fin 256, ∑ x : Fin 128, qa (ix2 r x) * k (ix2 c x) = (z (B + c.val) : EReal))
    (hC : a.1 (ix2 r 0) = ((∑ i ∈ Finset.Ico (B + 256) 2048, lr z t i : ℝ) : EReal)) :
    (step2 (F := Ideal) qa qb k v a).1 (ix2 r 0) = ((∑ i ∈ Finset.Ico B 2048, lr z t i : ℝ) : EReal) := by
  pointwise [step2, k0_pay17, k0_pay15, k0_pay14, k0_pay13]
  exact carry_tile _ _ z t B hB ht hz hC

theorem step_carry1 (hB : B + 256 ≤ 2048) (ht : B + 256 ≤ t)
    (hz : ∀ c : Fin 256, ∑ x : Fin 128, qb (ix2 r x) * k (ix2 c x) = (z (B + c.val) : EReal))
    (hC : a.2.2.1 (ix2 r 0) = ((∑ i ∈ Finset.Ico (B + 256) 2048, lr z t i : ℝ) : EReal)) :
    (step2 (F := Ideal) qa qb k v a).2.2.1 (ix2 r 0) = ((∑ i ∈ Finset.Ico B 2048, lr z t i : ℝ) : EReal) := by
  pointwise [step2, k0_pay7, k0_pay4, k0_pay5, k0_pay18, k0_pay19, k0_pay20]
  exact carry_tile _ _ z t B hB ht hz hC

theorem step_acc0 (hB : B + 256 ≤ 2048) (ht : B + 256 ≤ t)
    (hz : ∀ c : Fin 256, ∑ x : Fin 128, qa (ix2 r x) * k (ix2 c x) = (z (B + c.val) : EReal))
    (hV : ∀ c : Fin 256, v (ix2 c d) = V (B + c.val))
    (hC : a.1 (ix2 r 0) = ((∑ i ∈ Finset.Ico (B + 256) 2048, lr z t i : ℝ) : EReal))
    (hA : a.2.1 (ix2 r d) = ∑ i ∈ Finset.Ico (B + 256) 2048, (att z t i : EReal) * V i) :
    (step2 (F := Ideal) qa qb k v a).2.1 (ix2 r d) = ∑ i ∈ Finset.Ico B 2048, (att z t i : EReal) * V i := by
  pointwise [step2, k0_pay16, k0_pay15, k0_pay14, k0_pay13, k0_pay2]
  exact acc_tile _ _ _ _ z V t B hB ht hz hV hC hA

theorem step_acc1 (hB : B + 256 ≤ 2048) (ht : B + 256 ≤ t)
    (hz : ∀ c : Fin 256, ∑ x : Fin 128, qb (ix2 r x) * k (ix2 c x) = (z (B + c.val) : EReal))
    (hV : ∀ c : Fin 256, v (ix2 c d) = V (B + c.val))
    (hC : a.2.2.1 (ix2 r 0) = ((∑ i ∈ Finset.Ico (B + 256) 2048, lr z t i : ℝ) : EReal))
    (hA : a.2.2.2 (ix2 r d) = ∑ i ∈ Finset.Ico (B + 256) 2048, (att z t i : EReal) * V i) :
    (step2 (F := Ideal) qa qb k v a).2.2.2 (ix2 r d) = ∑ i ∈ Finset.Ico B 2048, (att z t i : EReal) * V i := by
  pointwise [step2, k0_pay6, k0_pay4, k0_pay5, k0_pay18, k0_pay19, k0_pay20, k0_pay2]
  exact acc_tile _ _ _ _ z V t B hB ht hz hV hC hA

theorem diag_carry0 (q : FVec Ideal S256x128 .bf16) (hB : B + 256 ≤ 2048)
    (hz : ∀ c : Fin 256, (∑ x : Fin 128, k0_pay30 (F := Ideal) k0_pay3 q (ix2 r x) * k (ix2 c x) : EReal) = (z (B + c.val) : EReal)) :
    (diag (F := Ideal) q k v).1 (ix2 r 0) = ((∑ i ∈ Finset.Ico B 2048, lr z (B + r.val) i : ℝ) : EReal) := by
  refine Eq.trans ?_ (carry_diag (fun c => k0_pay34 (F := Ideal) k0_pay3 q k (ix2 r c)) z B r hB fun c => Eq.trans ?_ (hz c))
  · unfold diag
    generalize k0_pay3 = m3
    pointwise [ k0_pay39, k0_pay36, k0_pay35, k0_pay32, k0_pay1]
    simp only [abs_max]
  · generalize k0_pay3 = m3
    pointwise [k0_pay34]

theorem diag_carry1 (q : FVec Ideal S256x128 .bf16) (hB : B + 256 ≤ 2048)
    (hz : ∀ c : Fin 256, (∑ x : Fin 128, k0_pay31 (F := Ideal) k0_pay3 q (ix2 r x) * k (ix2 c x) : EReal) = (z (B + c.val) : EReal)) :
    (diag (F := Ideal) q k v).2.2.1 (ix2 r 0) = ((∑ i ∈ Finset.Ico B 2048, lr z (B + r.val) i : ℝ) : EReal) := by
  refine Eq.trans ?_ (carry_diag (fun c => k0_pay40 (F := Ideal) (k0_pay31 k0_pay3 q) k (ix2 r c)) z B r hB fun c => Eq.trans ?_ (hz c))
  · unfold diag
    generalize k0_pay31 (F := Ideal) k0_pay3 q = m3
    pointwise [k0_pay44, k0_pay42, k0_pay41, k0_pay32, k0_pay1]
    simp only [abs_max]
  · generalize k0_pay31 (F := Ideal) k0_pay3 q = m3
    pointwise [k0_pay40]

theorem diag_acc0 (q : FVec Ideal S256x128 .bf16) (hB : B + 256 ≤ 2048)
    (hz : ∀ c : Fin 256, (∑ x : Fin 128, k0_pay30 (F := Ideal) k0_pay3 q (ix2 r x) * k (ix2 c x) : EReal) = (z (B + c.val) : EReal))
    (hV : ∀ c : Fin 256, v (ix2 c d) = V (B + c.val)) :
    (diag (F := Ideal) q k v).2.1 (ix2 r d) = ∑ i ∈ Finset.Ico B 2048, (att z (B + r.val) i : EReal) * V i := by
  refine Eq.trans ?_ (acc_diag (fun c => k0_pay34 (F := Ideal) k0_pay3 q k (ix2 r c)) (fun c => v (ix2 c d))
    (fun c => k0_pay36 (F := Ideal) k0_pay1 k0_pay3 q k (ix2 r c)) z V B r hB (fun c => Eq.trans ?_ (hz c)) hV fun c => ?_)
  · unfold diag
    generalize k0_pay3 = m3
    pointwise [ k0_pay38, k0_pay37, k0_pay36, k0_pay35, k0_pay32, k0_pay33, k0_pay1, k0_pay2]
    simp only [abs_max]
  · generalize k0_pay3 = m3
    pointwise [k0_pay34]
  · generalize k0_pay3 = m3
    pointwise [k0_pay36, k0_pay35, k0_pay1]
    simp only [abs_max]

theorem diag_acc1 (q : FVec Ideal S256x128 .bf16) (hB : B + 256 ≤ 2048)
    (hz : ∀ c : Fin 256, (∑ x : Fin 128, k0_pay31 (F := Ideal) k0_pay3 q (ix2 r x) * k (ix2 c x) : EReal) = (z (B + c.val) : EReal))
    (hV : ∀ c : Fin 256, v (ix2 c d) = V (B + c.val)) :
    (diag (F := Ideal) q k v).2.2.2 (ix2 r d) = ∑ i ∈ Finset.Ico B 2048, (att z (B + r.val) i : EReal) * V i := by
  refine Eq.trans ?_ (acc_diag (fun c => k0_pay40 (F := Ideal) (k0_pay31 k0_pay3 q) k (ix2 r c)) (fun c => v (ix2 c d))
    (fun c => k0_pay42 (F := Ideal) k0_pay1 (k0_pay31 k0_pay3 q) k (ix2 r c)) z V B r hB (fun c => Eq.trans ?_ (hz c)) hV fun c => ?_)
  · unfold diag
    generalize k0_pay31 (F := Ideal) k0_pay3 q = m3
    pointwise [k0_pay43, k0_pay42, k0_pay41, k0_pay32, k0_pay33, k0_pay1, k0_pay2]
    simp only [abs_max]
  · generalize k0_pay31 (F := Ideal) k0_pay3 q = m3
    pointwise [k0_pay40]
  · generalize k0_pay31 (F := Ideal) k0_pay3 q = m3
    pointwise [k0_pay42, k0_pay41, k0_pay1]
    simp only [abs_max]

end step

end Cert.KernelIdeal.Sb

end
-- ==== Proof.SbRow.lean ====
module

public import proofs.«01_k».proof.Proof.SbPure
public import Idealize.ShloMosaic.Lib.Pipeline.ValueKit.Tiles

@[expose] public section

/-! The whole of a query row in the stick-breaking kernel: the diagonal tile, then the earlier key tiles from the latest to the
first, then the choice of the head and the gate. -/

set_option maxRecDepth 16384

noncomputable section

namespace Cert.KernelIdeal.Sb

open Cert.KernelIdeal Cert.KernelIdeal.Gen Cert.Sb
open Idealize.ShloMosaic Idealize.ShloMosaic.TcCoe Idealize.SL.Sem

/-- Query tile `k` has `k` earlier key tiles. -/
theorem trips2 : ∀ k : Fin k0_t1_loop.trips, (k0_t2_loop k).trips = k.val := by decide +kernel

theorem trips1 : k0_t1_loop.trips = 8 := by decide +kernel

/-- Trip `j` of the inner loop reads key tile `k - 1 - j`. -/
theorem off2_eq : ∀ (k : Fin k0_t1_loop.trips) (j : Fin (k0_t2_loop k).trips) (a : Fin 2), k0_off2 k j a = ![256 * (k.val - 1 - j.val), 0] a := by
  decide +kernel

theorem rows1_apply (x : FVec Ideal S2048x128 .bf16) (k : Fin k0_t1_loop.trips) (c : Fin 256) (d : Fin 128) (h : 256 * k.val + c.val < 2048) :
    rows1 (F := Ideal) x k (ix2 c d) = x (ix2 ⟨256 * k.val + c.val, h⟩ d) := by
  refine congrArg x (funext fun a => Fin.ext ?_)
  have h0 := off1_eq k
  match a with
  | ⟨0, _⟩ => show k0_off1 k 0 + 1 * c.val = 256 * k.val + c.val; rw [h0]; simp
  | ⟨1, _⟩ => show k0_off1 k 1 + 1 * d.val = d.val; rw [h0]; simp

theorem rows2_apply (x : FVec Ideal S2048x128 .bf16) (k : Fin k0_t1_loop.trips) (j : Fin (k0_t2_loop k).trips) (c : Fin 256) (d : Fin 128)
    (h : 256 * (k.val - 1 - j.val) + c.val < 2048) :
    rows2 (F := Ideal) x k j (ix2 c d) = x (ix2 ⟨256 * (k.val - 1 - j.val) + c.val, h⟩ d) := by
  refine congrArg x (funext fun a => Fin.ext ?_)
  have h0 := off2_eq k j
  match a with
  | ⟨0, _⟩ => show k0_off2 k j 0 + 1 * c.val = 256 * (k.val - 1 - j.val) + c.val; rw [h0]; simp
  | ⟨1, _⟩ => show k0_off2 k j 1 + 1 * d.val = d.val; rw [h0]; simp

section row
variable (x2 x3 x4 : FVec Ideal S2048x128 .bf16) (k : Fin k0_t1_loop.trips) (r : Fin 256) (d : Fin 128) (z : ℕ → ℝ) (V : ℕ → EReal)

/-- What the first head carries before trip `n`. -/
theorem inv_head0 (hz : ∀ s : Fin 2048, (∑ x : Fin 128, k0_pay30 (F := Ideal) k0_pay3 (rows1 (F := Ideal) x2 k) (ix2 r x) * x3 (ix2 s x) : EReal) = (z s.val : EReal))
    (hV : ∀ s : Fin 2048, x4 (ix2 s d) = V s.val) (n : ℕ) (hn : n ≤ k.val) :
    (acc2 (F := Ideal) k (k0_pay30 (F := Ideal) k0_pay3 (rows1 (F := Ideal) x2 k)) (k0_pay31 (F := Ideal) k0_pay3 (rows1 (F := Ideal) x2 k)) x3 x4 (diag (rows1 x2 k) (rows1 x3 k) (rows1 x4 k)) n).1 (ix2 r 0)
        = ((∑ i ∈ Finset.Ico (256 * (k.val - n)) 2048, lr z (256 * k.val + r.val) i : ℝ) : EReal)
      ∧ (acc2 (F := Ideal) k (k0_pay30 (F := Ideal) k0_pay3 (rows1 (F := Ideal) x2 k)) (k0_pay31 (F := Ideal) k0_pay3 (rows1 (F := Ideal) x2 k)) x3 x4 (diag (rows1 x2 k) (rows1 x3 k) (rows1 x4 k)) n).2.1 (ix2 r d)
        = ∑ i ∈ Finset.Ico (256 * (k.val - n)) 2048, (att z (256 * k.val + r.val) i : EReal) * V i := by
  have hk : k.val < 8 := trips1 ▸ k.isLt
  induction n with
  | zero =>
    have h1 : ∀ c : Fin 256, (∑ x : Fin 128, k0_pay30 (F := Ideal) k0_pay3 (rows1 (F := Ideal) x2 k) (ix2 r x) * rows1 (F := Ideal) x3 k (ix2 c x) : EReal) = (z (256 * k.val + c.val) : EReal) := fun c => by
      rw [← hz ⟨256 * k.val + c.val, by omega⟩]
      exact Finset.sum_congr rfl fun x _ => by rw [rows1_apply x3 k c x (by omega)]
    have h2 : ∀ c : Fin 256, rows1 (F := Ideal) x4 k (ix2 c d) = V (256 * k.val + c.val) := fun c => by
      rw [rows1_apply x4 k c d (by omega)]; exact hV _
    exact ⟨diag_carry0 _ _ r z _ _ (by omega) h1, diag_acc0 _ _ r d z V _ _ (by omega) h1 h2⟩
  | succ n ih =>
    have ih := ih (by omega)
    have hj : n < (k0_t2_loop k).trips := by rw [trips2]; omega
    have e : 256 * (k.val - (n + 1)) + 256 = 256 * (k.val - n) := by omega
    have h1 : ∀ c : Fin 256, (∑ x : Fin 128, k0_pay30 (F := Ideal) k0_pay3 (rows1 (F := Ideal) x2 k) (ix2 r x) * rows2 (F := Ideal) x3 k ⟨n, hj⟩ (ix2 c x) : EReal) = (z (256 * (k.val - (n + 1)) + c.val) : EReal) := fun c => by
      rw [show k.val - (n + 1) = k.val - 1 - n by omega, ← hz ⟨256 * (k.val - 1 - n) + c.val, by omega⟩]
      exact Finset.sum_congr rfl fun x _ => by rw [rows2_apply x3 k ⟨n, hj⟩ c x (by dsimp only; omega)]
    have h2 : ∀ c : Fin 256, rows2 (F := Ideal) x4 k ⟨n, hj⟩ (ix2 c d) = V (256 * (k.val - (n + 1)) + c.val) := fun c => by
      rw [show k.val - (n + 1) = k.val - 1 - n by omega, rows2_apply x4 k ⟨n, hj⟩ c d (by dsimp only; omega)]; exact hV _
    rw [acc2.eq_2, dif_pos hj]
    rw [← e] at ih
    exact ⟨step_carry0 _ _ _ _ _ r z _ _ (by omega) (by omega) h1 ih.1,
      step_acc0 _ _ _ _ _ r d z V _ _ (by omega) (by omega) h1 h2 ih.1 ih.2⟩

/-- What the second head carries before trip `n`. -/
theorem inv_head1 (hz : ∀ s : Fin 2048, (∑ x : Fin 128, k0_pay31 (F := Ideal) k0_pay3 (rows1 (F := Ideal) x2 k) (ix2 r x) * x3 (ix2 s x) : EReal) = (z s.val : EReal))
    (hV : ∀ s : Fin 2048, x4 (ix2 s d) = V s.val) (n : ℕ) (hn : n ≤ k.val) :
    (acc2 (F := Ideal) k (k0_pay30 (F := Ideal) k0_pay3 (rows1 (F := Ideal) x2 k)) (k0_pay31 (F := Ideal) k0_pay3 (rows1 (F := Ideal) x2 k)) x3 x4 (diag (rows1 x2 k) (rows1 x3 k) (rows1 x4 k)) n).2.2.1 (ix2 r 0)
        = ((∑ i ∈ Finset.Ico (256 * (k.val - n)) 2048, lr z (256 * k.val + r.val) i : ℝ) : EReal)
      ∧ (acc2 (F := Ideal) k (k0_pay30 (F := Ideal) k0_pay3 (rows1 (F := Ideal) x2 k)) (k0_pay31 (F := Ideal) k0_pay3 (rows1 (F := Ideal) x2 k)) x3 x4 (diag (rows1 x2 k) (rows1 x3 k) (rows1 x4 k)) n).2.2.2 (ix2 r d)
        = ∑ i ∈ Finset.Ico (256 * (k.val - n)) 2048, (att z (256 * k.val + r.val) i : EReal) * V i := by
  have hk : k.val < 8 := trips1 ▸ k.isLt
  induction n with
  | zero =>
    have h1 : ∀ c : Fin 256, (∑ x : Fin 128, k0_pay31 (F := Ideal) k0_pay3 (rows1 (F := Ideal) x2 k) (ix2 r x) * rows1 (F := Ideal) x3 k (ix2 c x) : EReal) = (z (256 * k.val + c.val) : EReal) := fun c => by
      rw [← hz ⟨256 * k.val + c.val, by omega⟩]
      exact Finset.sum_congr rfl fun x _ => by rw [rows1_apply x3 k c x (by omega)]
    have h2 : ∀ c : Fin 256, rows1 (F := Ideal) x4 k (ix2 c d) = V (256 * k.val + c.val) := fun c => by
      rw [rows1_apply x4 k c d (by omega)]; exact hV _
    exact ⟨diag_carry1 _ _ r z _ _ (by omega) h1, diag_acc1 _ _ r d z V _ _ (by omega) h1 h2⟩
  | succ n ih =>
    have ih := ih (by omega)
    have hj : n < (k0_t2_loop k).trips := by rw [trips2]; omega
    have e : 256 * (k.val - (n + 1)) + 256 = 256 * (k.val - n) := by omega
    have h1 : ∀ c : Fin 256, (∑ x : Fin 128, k0_pay31 (F := Ideal) k0_pay3 (rows1 (F := Ideal) x2 k) (ix2 r x) * rows2 (F := Ideal) x3 k ⟨n, hj⟩ (ix2 c x) : EReal) = (z (256 * (k.val - (n + 1)) + c.val) : EReal) := fun c => by
      rw [show k.val - (n + 1) = k.val - 1 - n by omega, ← hz ⟨256 * (k.val - 1 - n) + c.val, by omega⟩]
      exact Finset.sum_congr rfl fun x _ => by rw [rows2_apply x3 k ⟨n, hj⟩ c x (by dsimp only; omega)]
    have h2 : ∀ c : Fin 256, rows2 (F := Ideal) x4 k ⟨n, hj⟩ (ix2 c d) = V (256 * (k.val - (n + 1)) + c.val) := fun c => by
      rw [show k.val - (n + 1) = k.val - 1 - n by omega, rows2_apply x4 k ⟨n, hj⟩ c d (by dsimp only; omega)]; exact hV _
    rw [acc2.eq_2, dif_pos hj]
    rw [← e] at ih
    exact ⟨step_carry1 _ _ _ _ _ r z _ _ (by omega) (by omega) h1 ih.1,
      step_acc1 _ _ _ _ _ r d z V _ _ (by omega) (by omega) h1 h2 ih.1 ih.2⟩

end row

/-- Which lanes belong to the first head. -/
theorem mask_apply (r : Fin 256) (d : Fin 128) : k0_pay3 (ix2 r d) = IntOp.cmpi .slt (BitVec.ofNat 32 d.val) (BitVec.ofNat 32 64) := by
  pointwise [k0_pay3]

/-- The first head's queries: the other head's lanes are zero. -/
theorem pay30_apply (q : FVec Ideal S256x128 .bf16) (r : Fin 256) (d : Fin 128) :
    k0_pay30 (F := Ideal) k0_pay3 q (ix2 r d) = if d.val < 64 then q (ix2 r d) else 0 := by
  have h : k0_pay30 (F := Ideal) k0_pay3 q (ix2 r d) = Scalar.select (IntOp.cmpi .slt (BitVec.ofNat 32 d.val) (BitVec.ofNat 32 64)) (q (ix2 r d)) 0 := by
    pointwise [k0_pay30, k0_pay3, k0_pay29]
  rw [h, select_slt _ _ (by omega) (by omega)]

/-- The second head's queries. -/
theorem pay31_apply (q : FVec Ideal S256x128 .bf16) (r : Fin 256) (d : Fin 128) :
    k0_pay31 (F := Ideal) k0_pay3 q (ix2 r d) = if d.val < 64 then 0 else q (ix2 r d) := by
  have h : k0_pay31 (F := Ideal) k0_pay3 q (ix2 r d) = Scalar.select (IntOp.cmpi .slt (BitVec.ofNat 32 d.val) (BitVec.ofNat 32 64)) 0 (q (ix2 r d)) := by
    pointwise [k0_pay31, k0_pay3, k0_pay29]
  rw [h, select_slt _ _ (by omega) (by omega)]

/-- What is written: the lane's own head, times the gate's SiLU. -/
theorem pay12_apply (a b : FVec Ideal S256x128 .f32) (g : FVec Ideal S256x128 .bf16) (r : Fin 256) (d : Fin 128) :
    k0_pay12 (F := Ideal) a b g (ix2 r d)
      = (if d.val < 64 then a (ix2 r d) else b (ix2 r d)) * (g (ix2 r d) * Ideal.div 1 (1 + Ideal.exp (0 - g (ix2 r d)))) := by
  have h : k0_pay12 (F := Ideal) a b g (ix2 r d)
      = Scalar.select (k0_pay3 (ix2 r d)) (a (ix2 r d)) (b (ix2 r d)) * (g (ix2 r d) * Ideal.div 1 (1 + Ideal.exp (0 - g (ix2 r d)))) := by
    pointwise [k0_pay12]
  rw [h, mask_apply, select_slt _ _ (by omega) (by omega)]

/-- A product over the lanes of which only the first half counts. -/
theorem sum_low (f g : Fin 128 → EReal) :
    ∑ x : Fin 128, (if x.val < 64 then f x else 0) * g x = ∑ e : Fin 64, f ⟨e.val, by omega⟩ * g ⟨e.val, by omega⟩ := by
  rw [Fin.sum_univ_add (a := 64) (b := 64) (f := fun x : Fin (64 + 64) => (if x.val < 64 then f x else 0) * g x)]
  have h : ∑ e : Fin 64, (if (Fin.natAdd 64 e : Fin (64 + 64)).val < 64 then f (Fin.natAdd 64 e) else 0) * g (Fin.natAdd 64 e) = 0 :=
    Finset.sum_eq_zero fun e _ => by rw [if_neg (by simp), zero_mul]
  rw [h, add_zero]
  exact Finset.sum_congr rfl fun e _ => by rw [if_pos (by simp)]; rfl

/-- A product over the lanes of which only the second half counts. -/
theorem sum_high (f g : Fin 128 → EReal) :
    ∑ x : Fin 128, (if x.val < 64 then 0 else f x) * g x = ∑ e : Fin 64, f ⟨64 + e.val, by omega⟩ * g ⟨64 + e.val, by omega⟩ := by
  rw [Fin.sum_univ_add (a := 64) (b := 64) (f := fun x : Fin (64 + 64) => (if x.val < 64 then 0 else f x) * g x)]
  have h : ∑ e : Fin 64, (if (Fin.castAdd 64 e : Fin (64 + 64)).val < 64 then 0 else f (Fin.castAdd 64 e)) * g (Fin.castAdd 64 e) = 0 :=
    Finset.sum_eq_zero fun e _ => by rw [if_pos (by simp), zero_mul]
  rw [h, zero_add]
  exact Finset.sum_congr rfl fun e _ => by rw [if_neg (by simp)]; rfl

/-- A value proved at every place of a rectangle, from the coordinates. -/
theorem tile_of {S : Shape} {e : EltTy} {Val : EltTy → Type} (off size : Fin S.rank → Nat)
    (inb : ∀ a, off a + size a ≤ S.size a) (w : (Rect.unit off size inb).shape.Idx → Val e) (y : S.Idx) (v : Val e)
    (h : View.TileAt y off size w v) : ∀ x : (Rect.unit off size inb).shape.Idx, (Rect.unit off size inb).emb x = y → w x = v :=
  fun x hx => h x fun a => by rw [← hx, Rect.emb_apply]; show off a + 1 * (x a : Nat) = _; omega

/-- The rows a trip writes, wherever they hold row `t` and lane `l`: the attention of the lane's head, gated. -/
theorem piece_at (x2 x3 x4 x5 : FVec Ideal S2048x128 .bf16) (t : Fin 2048) (l : Fin 128) (z : ℕ → ℝ) (V : ℕ → EReal)
    (hz : ∀ s : Fin 2048, (∑ e : Fin 64, x2 (ix2 t ⟨64 * (l.val / 64) + e.val, by omega⟩) * x3 (ix2 s ⟨64 * (l.val / 64) + e.val, by omega⟩) : EReal) = (z s.val : EReal))
    (hV : ∀ s : Fin 2048, x4 (ix2 s l) = V s.val) (k : Fin k0_t1_loop.trips) :
    View.TileAt (Val := Elt Ideal) (e := .bf16) (S := S2048x128) (ix2 t l) (k0_off1 k) S256x128.size
      (k0_pay12 (F := Ideal) (done (F := Ideal) k x2 x3 x4).2.1 (done (F := Ideal) k x2 x3 x4).2.2.2 (rows1 (F := Ideal) x5 k))
      ((∑ i ∈ Finset.Ico 0 2048, (att z t.val i : EReal) * V i) * (x5 (ix2 t l) * Ideal.div 1 (1 + Ideal.exp (0 - x5 (ix2 t l))))) := by
  intro q hq
  have hk : k.val < 8 := trips1 ▸ k.isLt
  have e0 : t.val = k0_off1 k 0 + (q 0).val := hq 0
  have e1 : l.val = k0_off1 k 1 + (q 1).val := hq 1
  rw [off1_eq] at e0 e1
  have q0 : (q 0).val < 256 := (q 0).isLt
  have q1 : (q 1).val < 128 := (q 1).isLt
  obtain ⟨r, d, rfl⟩ : ∃ (r : Fin 256) (d : Fin 128), q = ix2 r d := ⟨⟨_, q0⟩, ⟨_, q1⟩, by
    funext a
    match a with
    | ⟨0, _⟩ => rfl
    | ⟨1, _⟩ => rfl⟩
  have e0 : t.val = 256 * k.val + r.val := e0
  have e1 : l.val = d.val := by simpa using e1
  obtain rfl : l = d := Fin.ext e1
  have ht : 256 * k.val + r.val < 2048 := by omega
  obtain rfl : t = ⟨256 * k.val + r.val, ht⟩ := Fin.ext e0
  rw [pay12_apply, rows1_apply x5 k r l (by omega)]
  refine congrArg (· * _) ?_
  have h0 : 256 * (k.val - k.val) = 0 := by omega
  unfold done
  rw [trips2]
  by_cases h : l.val < 64
  · rw [if_pos h]
    have hz0 : ∀ s : Fin 2048, (∑ x : Fin 128, k0_pay30 (F := Ideal) k0_pay3 (rows1 (F := Ideal) x2 k) (ix2 r x) * x3 (ix2 s x) : EReal) = (z s.val : EReal) := fun s => by
      rw [← hz s, Finset.sum_congr rfl fun x _ => by rw [pay30_apply, rows1_apply x2 k r x (by omega)]]
      rw [sum_low (fun x => x2 (ix2 _ x)) (fun x => x3 (ix2 s x))]
      refine Finset.sum_congr rfl fun e _ => ?_
      have : (⟨e.val, by omega⟩ : Fin 128) = ⟨64 * (l.val / 64) + e.val, by omega⟩ := Fin.ext (by dsimp only; omega)
      rw [this]
    have := (inv_head0 x2 x3 x4 k r l z V hz0 hV k.val le_rfl).2
    rw [h0] at this
    exact this
  · rw [if_neg h]
    have hz1 : ∀ s : Fin 2048, (∑ x : Fin 128, k0_pay31 (F := Ideal) k0_pay3 (rows1 (F := Ideal) x2 k) (ix2 r x) * x3 (ix2 s x) : EReal) = (z s.val : EReal) := fun s => by
      rw [← hz s, Finset.sum_congr rfl fun x _ => by rw [pay31_apply, rows1_apply x2 k r x (by omega)]]
      rw [sum_high (fun x => x2 (ix2 _ x)) (fun x => x3 (ix2 s x))]
      refine Finset.sum_congr rfl fun e _ => ?_
      have : (⟨64 + e.val, by omega⟩ : Fin 128) = ⟨64 * (l.val / 64) + e.val, by omega⟩ := Fin.ext (by dsimp only; omega)
      rw [this]
    have := (inv_head1 x2 x3 x4 k r l z V hz1 hV k.val le_rfl).2
    rw [h0] at this
    exact this

/-- The block the kernel leaves, at row `t` and lane `l`: the attention of the lane's head, gated. -/
theorem out_apply (x2 x3 x4 x5 : FVec Ideal S2048x128 .bf16) (t : Fin 2048) (l : Fin 128) (z : ℕ → ℝ) (V : ℕ → EReal)
    (hz : ∀ s : Fin 2048, (∑ e : Fin 64, x2 (ix2 t ⟨64 * (l.val / 64) + e.val, by omega⟩) * x3 (ix2 s ⟨64 * (l.val / 64) + e.val, by omega⟩) : EReal) = (z s.val : EReal))
    (hV : ∀ s : Fin 2048, x4 (ix2 s l) = V s.val) :
    out (F := Ideal) x2 x3 x4 x5 (ix2 t l)
      = (∑ i ∈ Finset.Ico 0 2048, (att z t.val i : EReal) * V i) * (x5 (ix2 t l) * Ideal.div 1 (1 + Ideal.exp (0 - x5 (ix2 t l)))) := by
  unfold out
  refine View.canon_eq_of_allAt _ _ _ (covered (F := Ideal) x2 x3 x4 x5 _) fun p hp => ?_
  obtain ⟨k, rfl⟩ := of_mem_pieces x2 x3 x4 x5 p _ hp
  unfold piece
  exact tile_of (S := S2048x128) (Val := Elt Ideal) (e := .bf16) (k0_off1 k) S256x128.size (k0_off1_inb k) _ (ix2 t l) _
    (piece_at x2 x3 x4 x5 t l z V hz hV k)

end Cert.KernelIdeal.Sb

end
-- ==== Proof.SbRef.lean ====
module

public import proofs.«01_k».proof.Proof.SbMath
public import proofs.«01_k».proof.Proof.Gen.ReferenceIdeal.Read

@[expose] public section

/-! The reference of the stick-breaking attention, at one entry of its result. -/

set_option maxRecDepth 16384

noncomputable section

namespace Cert.ReferenceIdeal.Sb

open Cert.ReferenceIdeal Cert.ReferenceIdeal.Gen Cert.ReferenceIdeal.Read Cert.Sb
open Idealize.ShloMosaic Idealize.ShloMosaic.TcCoe Idealize.SL.Sem Idealize.ShloMosaic.StableHlo

/-- A running sum over a list, as a sum. -/
theorem foldl_add {α : Type} (g : α → EReal) (L : List α) (v : EReal) : L.foldl (fun r n => r + g n) v = v + (L.map g).sum := by
  induction L generalizing v with
  | nil => simp
  | cons a L ih => rw [List.foldl_cons, ih, List.map_cons, List.sum_cons, add_assoc]

/-- The windows' indices are their last coordinates. -/
def lastEquiv : (⟨4, ![1, 1, 1, 2048]⟩ : Shape).Idx ≃ Fin 2048 where
  toFun i := ⟨(i 3).val, (i 3).isLt⟩
  invFun w := fun a => match a with
    | ⟨0, _⟩ => ⟨0, Nat.one_pos⟩
    | ⟨1, _⟩ => ⟨0, Nat.one_pos⟩
    | ⟨2, _⟩ => ⟨0, Nat.one_pos⟩
    | ⟨3, _⟩ => w
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
    | ⟨3, _⟩ => rfl
  right_inv w := rfl

/-- The reverse running sum: its entry is the sum from there to the end. -/
theorem suffix_window (x : S32x8x2048x2048.Idx → EReal) (v : EReal) (hv : v = 0)
    (h : S32x8x2048x2048.ReduceWindows ![1, 1, 1, 2048] ![1, 1, 1, 1] ![0, 0, 0, 0] ![0, 0, 0, 2047] S32x8x2048x2048)
    (j : S32x8x2048x2048.Idx) (f : ℕ → ℝ)
    (hf : ∀ i : S32x8x2048x2048.Idx, (i 0).val = (j 0).val → (i 1).val = (j 1).val → (i 2).val = (j 2).val → x i = (f (i 3).val : EReal)) :
    Ideal.hostReduceWindowAdd ![1, 1, 1, 2048] ![1, 1, 1, 1] ![0, 0, 0, 0] ![0, 0, 0, 2047] h x v j
      = ((∑ i ∈ Finset.Ico (j 3).val 2048, f i : ℝ) : EReal) := by
  subst hv
  unfold Ideal.hostReduceWindowAdd Host.reduceWindow
  dsimp only
  rw [foldl_add, zero_add, ← Fin.sum_univ_def]
  rw [← Equiv.sum_comp (Shape.rowMajor (⟨4, ![1, 1, 1, 2048]⟩ : Shape))]
  rw [← Equiv.sum_comp lastEquiv.symm]
  have hj : (j 3).val < 2048 := (j 3).isLt
  trans ∑ w : Fin 2048, ((if (j 3).val + w.val < 2048 then f ((j 3).val + w.val) else 0 : ℝ) : EReal)
  · refine Finset.sum_congr rfl fun w _ => ?_
    have hq : ∀ a : Fin 4, (((⟨4, ![1, 1, 1, 2048]⟩ : Shape).rowMajor.symm ((⟨4, ![1, 1, 1, 2048]⟩ : Shape).rowMajor (lastEquiv.symm w))) a).val
        = (lastEquiv.symm w a).val := fun a => by rw [Equiv.symm_apply_apply]
    have p0 : ∀ a : Fin 4, a.val < 3 → (lastEquiv.symm w a).val = 0 := fun a ha => by
      match a with
      | ⟨0, _⟩ => rfl
      | ⟨1, _⟩ => rfl
      | ⟨2, _⟩ => rfl
      | ⟨3, _⟩ => exact absurd ha (by simp)
    have p3 : (lastEquiv.symm w 3).val = w.val := rfl
    by_cases hc : (j 3).val + w.val < 2048
    · rw [if_pos hc, dif_pos ?c]
      case c =>
        intro a
        rw [hq]
        match a with
        | ⟨0, _⟩ => have : (j 0).val < 32 := (j 0).isLt; exact ⟨Nat.zero_le _, by show (j 0).val * 1 + 0 - 0 < 32; omega⟩
        | ⟨1, _⟩ => have : (j 1).val < 8 := (j 1).isLt; exact ⟨Nat.zero_le _, by show (j 1).val * 1 + 0 - 0 < 8; omega⟩
        | ⟨2, _⟩ => have : (j 2).val < 2048 := (j 2).isLt; exact ⟨Nat.zero_le _, by show (j 2).val * 1 + 0 - 0 < 2048; omega⟩
        | ⟨3, _⟩ => exact ⟨Nat.zero_le _, by show (j 3).val * 1 + w.val - 0 < 2048; omega⟩
      have q0 := hq 0
      have q1 := hq 1
      have q2 := hq 2
      have q3 := hq 3
      rw [p0 _ (by decide)] at q0 q1 q2
      rw [p3] at q3
      refine (hf _ ?_ ?_ ?_).trans ?_
      · show (j 0).val * 1 + _ - 0 = _
        erw [q0]; omega
      · show (j 1).val * 1 + _ - 0 = _
        erw [q1]; omega
      · show (j 2).val * 1 + _ - 0 = _
        erw [q2]; omega
      · refine congrArg (fun n => ((f n : ℝ) : EReal)) ?_
        show (j 3).val * 1 + _ - 0 = _
        erw [q3]; omega
    · rw [if_neg hc, dif_neg, EReal.coe_zero]
      intro hin
      have := (hin 3).2
      rw [hq, p3] at this
      have : (j 3).val * 1 + w.val - 0 < 2048 := this
      omega
  · rw [← coe_sum Finset.univ]
    refine congrArg _ ?_
    rw [Finset.sum_Ico_eq_sum_range, Fin.sum_univ_eq_sum_range (fun w => if (j 3).val + w < 2048 then f ((j 3).val + w) else 0) 2048]
    rw [← Finset.sum_subset (s₁ := Finset.range (2048 - (j 3).val)) (fun a ha => by simp at ha ⊢; omega) fun a _ ha => by
      simp at ha; rw [if_neg (by omega)]]
    exact Finset.sum_congr rfl fun a ha => by simp at ha; rw [if_pos (by omega)]

/-- The host's softplus of a real number. -/
theorem host_sp (w : EReal) (x : ℝ) (h : w = (x : EReal)) :
    Scalar.select (Ideal.cmp .une (w - 0) (w - 0)) (w + 0) (max w 0 + Ideal.log1p (Ideal.exp (-(max (w - 0) (-(w - 0)))))) = ((sp x : ℝ) : EReal) := by
  have hc : Ideal.cmp .une (w - 0) (w - 0) = 0#1 := by simp [Ideal.cmp]
  rw [hc]
  show max w 0 + Ideal.log (1 + Ideal.exp (-(max (w - 0) (-(w - 0))))) = _
  rw [h, sub_zero, ← sp_coe, zero_sub]

section row
variable (x0 : (⟨S65536x6656, .bf16⟩ : BufTy).Contents (Elt Ideal)) (j : S32x8x2048x2048.Idx) (z : ℕ → ℝ)

/-- The logarithm of the sigmoid of a real score. -/
theorem log_beta (hz : val_main_v11 (F := Ideal) x0 j = (z (j 3).val : EReal)) :
    val_main_v19 (F := Ideal) x0 j = ((z (j 3).val - sp (z (j 3).val) : ℝ) : EReal) := by
  simp only [val_main_v19_apply, val_main_call0_v1_apply, val_main_call0_call0_v4_apply, val_main_call0_call0_v6_apply,
    val_main_call0_call0_v11_apply, val_main_call0_call0_v3_apply, val_main_call0_call0_v1_apply, val_main_call0_call0_v10_apply,
    val_main_call0_call0_v9_apply, val_main_call0_call0_v8_apply, val_main_call0_call0_v7_apply, val_main_call0_v0_apply,
    val_main_call0_call0_v0_apply, val_main_call0_call0_v2_apply, val_main_call0_call0_v5_apply, val_main_call0_call0_cst_apply, hz,
    Ideal.ofBits_def, Ideal.ofBits_zero_f32]
  refine (congrArg (fun x : EReal => -x) (host_sp (-(z (j 3).val : EReal)) (-z (j 3).val) (EReal.coe_neg _).symm)).trans ?_
  rw [← EReal.coe_neg, sp_neg]
  exact congrArg _ (by ring)

/-- The masked logarithm of what the score leaves. -/
theorem log_rem (hz : val_main_v11 (F := Ideal) x0 j = (z (j 3).val : EReal)) :
    val_main_v22 (F := Ideal) x0 j = ((lr z (j 2).val (j 3).val : ℝ) : EReal) := by
  have h2 : (j 2).val < 2048 := (j 2).isLt
  have h3 : (j 3).val < 2048 := (j 3).isLt
  simp only [val_main_v22_apply, val_main_call2_v2_apply, val_main_v18_apply, val_main_v16_apply, val_main_v17_apply, val_main_v15_apply,
    val_main_v14_apply, val_main_v13_apply, val_main_v12_apply, val_main_call2_v1_apply, val_main_call2_v0_apply, val_main_cst_apply,
    val_main_v21_apply, val_main_v20_apply, val_main_call1_v1_apply, val_main_call1_call0_v4_apply, val_main_call1_call0_v6_apply,
    val_main_call1_call0_v11_apply, val_main_call1_call0_v3_apply, val_main_call1_call0_v1_apply, val_main_call1_call0_v10_apply,
    val_main_call1_call0_v9_apply, val_main_call1_call0_v8_apply, val_main_call1_call0_v7_apply, val_main_call1_v0_apply,
    val_main_call1_call0_v0_apply, val_main_call1_call0_v2_apply, val_main_call1_call0_v5_apply, val_main_call1_call0_cst_apply, hz,
    Ideal.ofBits_def, Ideal.ofBits_zero_f32]
  rw [select_slt _ _ (by omega) (by omega), lr]
  by_cases h : (j 3).val < (j 2).val
  · rw [if_pos h, if_pos h]
    exact (congrArg (fun x : EReal => -x) (host_sp (-(-(z (j 3).val : EReal))) (z (j 3).val) (neg_neg _))).trans (EReal.coe_neg _).symm
  · rw [if_neg h, if_neg h]; rfl

/-- The reverse running sum of the masked logarithms. -/
theorem window (hz : ∀ i : S32x8x2048x2048.Idx, (i 0).val = (j 0).val → (i 1).val = (j 1).val → (i 2).val = (j 2).val →
      val_main_v11 (F := Ideal) x0 i = (z (i 3).val : EReal)) :
    val_main_v23 (F := Ideal) x0 j = ((∑ i ∈ Finset.Ico (j 3).val 2048, lr z (j 2).val i : ℝ) : EReal) := by
  have h22 : ∀ i : S32x8x2048x2048.Idx, (i 0).val = (j 0).val → (i 1).val = (j 1).val → (i 2).val = (j 2).val →
      val_main_v22 (F := Ideal) x0 i = ((lr z (j 2).val (i 3).val : ℝ) : EReal) := fun i i0 i1 i2 => by
    rw [log_rem x0 i z (hz i i0 i1 i2), i2]
  have h0 : val_main_call3_v0 (F := Ideal) (Shape.Idx.first h_S_) = (0 : EReal) := by
    rw [val_main_call3_v0_apply, val_main_call3_cst_apply, Ideal.ofBits_def, Ideal.ofBits_zero_f32]
  unfold val_main_v23 Host.reduceWindowAdd
  generalize val_main_v22 (F := Ideal) x0 = y at h22 ⊢
  generalize val_main_call3_v0 (F := Ideal) (Shape.Idx.first h_S_) = v at h0 ⊢
  exact suffix_window y v h0 _ j _ h22

/-- The weight of a key. -/
theorem weight (hz : ∀ i : S32x8x2048x2048.Idx, (i 0).val = (j 0).val → (i 1).val = (j 1).val → (i 2).val = (j 2).val →
      val_main_v11 (F := Ideal) x0 i = (z (i 3).val : EReal)) :
    val_main_v27 (F := Ideal) x0 j = ((att z (j 2).val (j 3).val : ℝ) : EReal) := by
  have h2 : (j 2).val < 2048 := (j 2).isLt
  have h3 : (j 3).val < 2048 := (j 3).isLt
  have hj := hz j rfl rfl rfl
  have h23 := window x0 j z hz
  simp only [val_main_v27_apply, val_main_call4_v2_apply, val_main_v18_apply, val_main_v16_apply, val_main_v17_apply, val_main_v15_apply,
    val_main_v14_apply, val_main_v13_apply, val_main_v12_apply, val_main_call4_v1_apply, val_main_call4_v0_apply, val_main_cst_0_apply,
    val_main_v26_apply, val_main_v25_apply, val_main_v24_apply, h23, log_beta x0 j z hj, log_rem x0 j z hj,
    Ideal.ofBits_def, Ideal.ofBits_zero_f32, Ideal.addf_def, Ideal.subf_def, Ideal.hostUnary_exp_def]
  rw [select_slt _ _ (by omega) (by omega), att]
  by_cases h : (j 3).val < (j 2).val
  · rw [if_pos h, if_pos h, ← EReal.coe_sub, ← EReal.coe_add, Ideal.exp_coe,
      ← Finset.sum_Ico_consecutive (lr z (j 2).val) (Nat.le_succ (j 3).val) h3, Nat.Ico_succ_singleton, Finset.sum_singleton]
    refine congrArg (fun x : ℝ => ((Real.exp x : ℝ) : EReal)) ?_
    ring
  · rw [if_neg h, if_neg h]; rfl

end row

/-- An entry of the reference's result: the attention of a query in a head, gated. -/
theorem ref_apply (x0 : (⟨S65536x6656, .bf16⟩ : BufTy).Contents (Elt Ideal)) (b : Fin 32) (hd : Fin 8) (t : Fin 2048) (e : Fin 64)
    (z : ℕ → ℝ) (V : ℕ → EReal)
    (hz : ∀ s : Fin 2048, (∑ x : Fin 64, x0 (ix2 (⟨2048 * b.val + t.val, by omega⟩ : Fin 65536) (⟨2048 + (64 * hd.val + x.val), by omega⟩ : Fin 6656))
        * x0 (ix2 (⟨2048 * b.val + s.val, by omega⟩ : Fin 65536) (⟨2560 + (64 * hd.val + x.val), by omega⟩ : Fin 6656)) : EReal) = (z s.val : EReal))
    (hV : ∀ s : Fin 2048, x0 (ix2 (⟨2048 * b.val + s.val, by omega⟩ : Fin 65536) (⟨3072 + (64 * hd.val + e.val), by omega⟩ : Fin 6656)) = V s.val)
    (g : EReal) (hg : x0 (ix2 (⟨2048 * b.val + t.val, by omega⟩ : Fin 65536) (⟨3584 + (64 * hd.val + e.val), by omega⟩ : Fin 6656)) = g) :
    val_main_v33 (F := Ideal) x0 (ix2 (⟨2048 * b.val + t.val, by omega⟩ : Fin 65536) (⟨64 * hd.val + e.val, by omega⟩ : Fin 512))
      = (∑ i ∈ Finset.Ico 0 2048, (att z t.val i : EReal) * V i) * (g * Ideal.div 1 (1 + Ideal.exp (0 - g))) := by
  have hs : ∀ i : S32x8x2048x2048.Idx, (i 0).val = b.val → (i 1).val = hd.val → (i 2).val = t.val →
      val_main_v11 (F := Ideal) x0 i = (z (i 3).val : EReal) := fun i i0 i1 i2 => by
    have h3 : (i 3).val < 2048 := (i 3).isLt
    rw [val_main_v11_apply, ← hz ⟨(i 3).val, h3⟩]
    refine Finset.sum_congr rfl fun x _ => ?_
    have hx := x.isLt
    rw [val_main_v6_apply, val_main_v5_apply, val_main_v1_apply, val_main_v0_apply, val_main_v8_apply, val_main_v7_apply, val_main_v2_apply, val_main_v0_apply]
    refine congrArg₂ (fun p q : S65536x6656.Idx => (x0 p * x0 q : EReal)) (funext fun a => Fin.ext ?_) (funext fun a => Fin.ext ?_)
    · match a with
      | ⟨0, _⟩ => show ((((i 0).val * 2048 + (i 2).val) * 8 + (i 1).val) * 64 + x.val) / 512 = 2048 * b.val + t.val; omega
      | ⟨1, _⟩ => show 2048 + ((((i 0).val * 2048 + (i 2).val) * 8 + (i 1).val) * 64 + x.val) % 512 = 2048 + (64 * hd.val + x.val); omega
    · match a with
      | ⟨0, _⟩ => show ((((i 0).val * 2048 + (i 3).val) * 8 + (i 1).val) * 64 + x.val) / 512 = 2048 * b.val + (i 3).val; omega
      | ⟨1, _⟩ => show 2560 + ((((i 0).val * 2048 + (i 3).val) * 8 + (i 1).val) * 64 + x.val) % 512 = 2560 + (64 * hd.val + x.val); omega
  have h4 : val_main_v4 (F := Ideal) x0 (ix2 (⟨2048 * b.val + t.val, by omega⟩ : Fin 65536) (⟨64 * hd.val + e.val, by omega⟩ : Fin 512)) = g := by
    rw [val_main_v4_apply, val_main_v0_apply, ← hg]
    refine congrArg x0 (funext fun a => ?_)
    match a with
    | ⟨0, _⟩ => rfl
    | ⟨1, _⟩ => rfl
  have h30 : val_main_v30 (F := Ideal) x0 (ix2 (⟨2048 * b.val + t.val, by omega⟩ : Fin 65536) (⟨64 * hd.val + e.val, by omega⟩ : Fin 512))
      = ∑ i ∈ Finset.Ico 0 2048, (att z t.val i : EReal) * V i := by
    rw [val_main_v30_apply, val_main_v29_apply, val_main_v28_apply, Finset.sum_Ico_eq_sum_range,
      ← Fin.sum_univ_eq_sum_range (fun i => (att z t.val (0 + i) : EReal) * V (0 + i)) 2048]
    refine Finset.sum_congr rfl fun s _ => ?_
    have hs' := s.isLt
    have ht := t.isLt
    have he := e.isLt
    have hb := b.isLt
    have hh := hd.isLt
    have a0 : ((2048 * b.val + t.val) * 512 + (64 * hd.val + e.val)) / 1048576 = b.val := by omega
    have a1 : ((2048 * b.val + t.val) * 512 + (64 * hd.val + e.val)) / 512 % 2048 = t.val := by omega
    have a2 : ((2048 * b.val + t.val) * 512 + (64 * hd.val + e.val)) / 64 % 8 = hd.val := by omega
    have a3 : ((2048 * b.val + t.val) * 512 + (64 * hd.val + e.val)) % 64 = e.val := by omega
    rw [zero_add, weight x0 _ z fun i i0 i1 i2 => hs i (i0.trans a0) (i1.trans a2) (i2.trans a1), ← hV s, val_main_v10_apply, val_main_v9_apply,
      val_main_v3_apply, val_main_v0_apply]
    refine congrArg₂ (fun (p : ℕ) (q : S65536x6656.Idx) => ((att z p s.val : EReal) * x0 q : EReal)) a1 (funext fun a => Fin.ext ?_)
    match a with
    | ⟨0, _⟩ =>
      show (((((2048 * b.val + t.val) * 512 + (64 * hd.val + e.val)) / 1048576 * 2048 + s.val) * 8
        + ((2048 * b.val + t.val) * 512 + (64 * hd.val + e.val)) / 64 % 8) * 64 + ((2048 * b.val + t.val) * 512 + (64 * hd.val + e.val)) % 64) / 512 = 2048 * b.val + s.val
      rw [a0, a2, a3]; omega
    | ⟨1, _⟩ =>
      show 3072 + (((((2048 * b.val + t.val) * 512 + (64 * hd.val + e.val)) / 1048576 * 2048 + s.val) * 8
        + ((2048 * b.val + t.val) * 512 + (64 * hd.val + e.val)) / 64 % 8) * 64 + ((2048 * b.val + t.val) * 512 + (64 * hd.val + e.val)) % 64) % 512 = 3072 + (64 * hd.val + e.val)
      rw [a0, a2, a3]; omega
  simp only [val_main_v33_apply, val_main_v32_apply, h30, val_main_v31_apply, h4, val_main_call5_v5_apply, val_main_call5_v4_apply,
    val_main_call5_v3_apply, val_main_call5_v2_apply, val_main_call5_v1_apply, val_main_call5_v0_apply, val_main_call5_cst_apply, val_main_call5_cst_0_apply,
    Ideal.ofBits_def, Ideal.ofBits_one_f32]
  rw [zero_sub]
  rfl

end Cert.ReferenceIdeal.Sb

end
-- ==== Proof.SbValue.lean ====
module

public import proofs.«01_k».proof.Proof.SbRow
public import proofs.«01_k».proof.Proof.SbRef
public import Idealize.ShloMosaic.Lib.Pipeline.ValueKit

@[expose] public section

/-! The stick-breaking call's result array: every block is the attention of a batch's two heads, so the array is the reference's. -/

set_option maxRecDepth 16384

noncomputable section

namespace Cert.KernelIdeal.Sb

open Cert.KernelIdeal Cert.KernelIdeal.Gen Cert.Sb
open Idealize.ShloMosaic Idealize.ShloMosaic.TcCoe Idealize.SL.Sem

/-- Grid point `t` works on batch `t / 4` and head pair `t % 4`; the windows are the pair's columns of the groups of columns. -/
theorem idx0 : ∀ (t : Fin cfg0.N) (a : Fin 2), win0_0.index t a = ![t.val / 4, 16 + t.val % 4] a := by decide +kernel
theorem idx1 : ∀ (t : Fin cfg0.N) (a : Fin 2), win0_1.index t a = ![t.val / 4, 20 + t.val % 4] a := by decide +kernel
theorem idx2 : ∀ (t : Fin cfg0.N) (a : Fin 2), win0_2.index t a = ![t.val / 4, 24 + t.val % 4] a := by decide +kernel
theorem idx3 : ∀ (t : Fin cfg0.N) (a : Fin 2), win0_3.index t a = ![t.val / 4, 28 + t.val % 4] a := by decide +kernel
theorem idx4 : ∀ (t : Fin cfg0.N) (a : Fin 2), win0_4.index t a = ![t.val / 4, t.val % 4] a := by decide +kernel

variable (m : (ℓ : Loc nD τ sig) → Buf (Elt Ideal) ℓ) (ρ : Dev nD → PrngReg)

/-- The array of projected columns. -/
abbrev cols (c : Dev nD) : FVec Ideal S65536x6656 .bf16 := m ((c : Thread nD τ).loc main_arg0)

theorem tN (t : Fin cfg0.N) : t.val < 128 := lt_of_lt_of_eq t.isLt (by decide +kernel)

theorem blk0 (c : Dev nD) (t : Fin cfg0.N) (s : Fin 2048) (l : Fin 128) (h0 : 2048 * (t.val / 4) + s.val < 65536) (h1 : 2048 + (128 * (t.val % 4) + l.val) < 6656) :
    iblk (F := Ideal) m c 0 t (ix2 s l) = cols m c (ix2 ⟨2048 * (t.val / 4) + s.val, h0⟩ ⟨2048 + (128 * (t.val % 4) + l.val), h1⟩) := by
  blk_simp [iblk]
  show cols m c _ = cols m c _
  refine congrArg _ (funext fun a => Fin.ext ?_)
  match a with
  | ⟨0, _⟩ => show win0_0.index t 0 * 2048 + 1 * s.val = 2048 * (t.val / 4) + s.val; rw [idx0]; show t.val / 4 * 2048 + 1 * s.val = _; omega
  | ⟨1, _⟩ => show win0_0.index t 1 * 128 + 1 * l.val = 2048 + (128 * (t.val % 4) + l.val); rw [idx0]; show (16 + t.val % 4) * 128 + 1 * l.val = _; omega

theorem blk1 (c : Dev nD) (t : Fin cfg0.N) (s : Fin 2048) (l : Fin 128) (h0 : 2048 * (t.val / 4) + s.val < 65536) (h1 : 2560 + (128 * (t.val % 4) + l.val) < 6656) :
    iblk (F := Ideal) m c 1 t (ix2 s l) = cols m c (ix2 ⟨2048 * (t.val / 4) + s.val, h0⟩ ⟨2560 + (128 * (t.val % 4) + l.val), h1⟩) := by
  blk_simp [iblk]
  show cols m c _ = cols m c _
  refine congrArg _ (funext fun a => Fin.ext ?_)
  match a with
  | ⟨0, _⟩ => show win0_1.index t 0 * 2048 + 1 * s.val = 2048 * (t.val / 4) + s.val; rw [idx1]; show t.val / 4 * 2048 + 1 * s.val = _; omega
  | ⟨1, _⟩ => show win0_1.index t 1 * 128 + 1 * l.val = 2560 + (128 * (t.val % 4) + l.val); rw [idx1]; show (20 + t.val % 4) * 128 + 1 * l.val = _; omega

theorem blk2 (c : Dev nD) (t : Fin cfg0.N) (s : Fin 2048) (l : Fin 128) (h0 : 2048 * (t.val / 4) + s.val < 65536) (h1 : 3072 + (128 * (t.val % 4) + l.val) < 6656) :
    iblk (F := Ideal) m c 2 t (ix2 s l) = cols m c (ix2 ⟨2048 * (t.val / 4) + s.val, h0⟩ ⟨3072 + (128 * (t.val % 4) + l.val), h1⟩) := by
  blk_simp [iblk]
  show cols m c _ = cols m c _
  refine congrArg _ (funext fun a => Fin.ext ?_)
  match a with
  | ⟨0, _⟩ => show win0_2.index t 0 * 2048 + 1 * s.val = 2048 * (t.val / 4) + s.val; rw [idx2]; show t.val / 4 * 2048 + 1 * s.val = _; omega
  | ⟨1, _⟩ => show win0_2.index t 1 * 128 + 1 * l.val = 3072 + (128 * (t.val % 4) + l.val); rw [idx2]; show (24 + t.val % 4) * 128 + 1 * l.val = _; omega

theorem blk3 (c : Dev nD) (t : Fin cfg0.N) (s : Fin 2048) (l : Fin 128) (h0 : 2048 * (t.val / 4) + s.val < 65536) (h1 : 3584 + (128 * (t.val % 4) + l.val) < 6656) :
    iblk (F := Ideal) m c 3 t (ix2 s l) = cols m c (ix2 ⟨2048 * (t.val / 4) + s.val, h0⟩ ⟨3584 + (128 * (t.val % 4) + l.val), h1⟩) := by
  blk_simp [iblk]
  show cols m c _ = cols m c _
  refine congrArg _ (funext fun a => Fin.ext ?_)
  match a with
  | ⟨0, _⟩ => show win0_3.index t 0 * 2048 + 1 * s.val = 2048 * (t.val / 4) + s.val; rw [idx3]; show t.val / 4 * 2048 + 1 * s.val = _; omega
  | ⟨1, _⟩ => show win0_3.index t 1 * 128 + 1 * l.val = 3584 + (128 * (t.val % 4) + l.val); rw [idx3]; show (28 + t.val % 4) * 128 + 1 * l.val = _; omega

/-- Real entries' products sum to a real. -/
theorem sum_real {n : ℕ} (f g : Fin n → EReal) (hf : ∀ i, ((f i).toReal : EReal) = f i) (hg : ∀ i, ((g i).toReal : EReal) = g i) :
    ∑ i, f i * g i = ((∑ i, (f i).toReal * (g i).toReal : ℝ) : EReal) := by
  rw [coe_sum Finset.univ]
  exact Finset.sum_congr rfl fun i _ => by rw [EReal.coe_mul, hf, hg]

/-- The result array is the reference's, when the queries and the keys are real numbers. -/
theorem final_o (c : Dev nD)
    (hreal : ∀ (s : Fin 65536) (d : Fin 6656), 2048 ≤ d.val → d.val < 3072 → ((cols m c (ix2 s d) : EReal).toReal : EReal) = cols m c (ix2 s d)) :
    (dats (F := Ideal) m 0 c).arrAt 4 cfg0.N = Cert.ReferenceIdeal.Read.val_main_v33 (F := Ideal) (m ((c : Thread nD τ).loc main_arg0)) := by
  refine (dats (F := Ideal) m 0 c).arrAt_eq_of_covers 4 _ (by decide +kernel) fun t hf y => ?_
  blk_simp
  rw [after0_4]
  have ht := tN t
  have q0 : (y 0).val < 2048 := (y 0).isLt
  have q1 : (y 1).val < 128 := (y 1).isLt
  obtain ⟨r, l, rfl⟩ : ∃ (r : Fin 2048) (l : Fin 128), y = ix2 r l := ⟨⟨_, q0⟩, ⟨_, q1⟩, by
    funext a
    match a with
    | ⟨0, _⟩ => rfl
    | ⟨1, _⟩ => rfl⟩
  have hr := r.isLt
  have hl := l.isLt
  have he : (win0_4.blk t).view.emb (ix2 r l)
      = ix2 (⟨2048 * (t.val / 4) + r.val, by omega⟩ : Fin 65536) (⟨64 * (2 * (t.val % 4) + l.val / 64) + l.val % 64, by omega⟩ : Fin 512) :=
    funext fun a => Fin.ext (by
      match a with
      | ⟨0, _⟩ => show win0_4.index t 0 * 2048 + 1 * r.val = 2048 * (t.val / 4) + r.val; rw [idx4]; show t.val / 4 * 2048 + 1 * r.val = _; omega
      | ⟨1, _⟩ => show win0_4.index t 1 * 128 + 1 * l.val = 64 * (2 * (t.val % 4) + l.val / 64) + l.val % 64; rw [idx4]; show t.val % 4 * 128 + 1 * l.val = _; omega)
  have e1 : ∀ (k : ℕ) (x : Fin 64), 128 * (t.val % 4) + (64 * (l.val / 64) + x.val) = 64 * (2 * (t.val % 4) + l.val / 64) + x.val := fun _ _ => by omega
  have e2 : 64 * (2 * (t.val % 4) + l.val / 64) + l.val % 64 = 128 * (t.val % 4) + l.val := by omega
  have hzk : ∀ s : Fin 2048, ∃ z : ℝ, (∑ x : Fin 64, cols m c (ix2 (⟨2048 * (t.val / 4) + r.val, by omega⟩ : Fin 65536) (⟨2048 + (64 * (2 * (t.val % 4) + l.val / 64) + x.val), by omega⟩ : Fin 6656))
      * cols m c (ix2 (⟨2048 * (t.val / 4) + s.val, by omega⟩ : Fin 65536) (⟨2560 + (64 * (2 * (t.val % 4) + l.val / 64) + x.val), by omega⟩ : Fin 6656)) : EReal) = (z : EReal) :=
    fun s => ⟨_, sum_real _ _ (fun x => hreal _ _ (by dsimp only; omega) (by dsimp only; omega)) (fun x => hreal _ _ (by dsimp only; omega) (by dsimp only; omega))⟩
  choose zf hzf using hzk
  let z : ℕ → ℝ := fun n => if h : n < 2048 then zf ⟨n, h⟩ else 0
  have hz' : ∀ s : Fin 2048, z s.val = zf s := fun s => dif_pos s.isLt
  let V : ℕ → EReal := fun n => if h : n < 2048 then cols m c (ix2 (⟨2048 * (t.val / 4) + n, by omega⟩ : Fin 65536) (⟨3072 + (64 * (2 * (t.val % 4) + l.val / 64) + l.val % 64), by omega⟩ : Fin 6656)) else 0
  have hV' : ∀ s : Fin 2048, V s.val = cols m c (ix2 (⟨2048 * (t.val / 4) + s.val, by omega⟩ : Fin 65536) (⟨3072 + (64 * (2 * (t.val % 4) + l.val / 64) + l.val % 64), by omega⟩ : Fin 6656)) := fun s => dif_pos s.isLt
  have hk := out_apply (iblk (F := Ideal) m c 0 t) (iblk (F := Ideal) m c 1 t) (iblk (F := Ideal) m c 2 t) (iblk (F := Ideal) m c 3 t) r l z V
    (fun s => by
      rw [hz', ← hzf]
      refine Finset.sum_congr rfl fun x _ => ?_
      rw [blk0 m c t r _ (by omega) (by dsimp only; omega), blk1 m c t s _ (by omega) (by dsimp only; omega)]
      simp only [e1 0 x])
    (fun s => by
      rw [hV', blk2 m c t s l (by omega) (by omega)]
      simp only [e2])
  have hR := Cert.ReferenceIdeal.Sb.ref_apply (cols m c) ⟨t.val / 4, by omega⟩ ⟨2 * (t.val % 4) + l.val / 64, by omega⟩ r ⟨l.val % 64, by omega⟩ z V
    (fun s => by rw [hz', ← hzf]) (fun s => by rw [hV']) _ rfl
  rw [he]
  refine hk.trans (Eq.trans ?_ hR.symm)
  rw [blk3 m c t r l (by omega) (by omega)]
  simp only [e2]

end Cert.KernelIdeal.Sb

end
-- ==== Proof.SbClaim.lean ====
module

public import proofs.«01_k».proof.Defs
public import proofs.«01_k».proof.Proof.SbValue
public import proofs.«01_k».proof.Proof.Gen.ReferenceIdeal.Run
public import proofs.«01_k».proof.Proof.Gen.Pre_finite_qk

@[expose] public section

/-! The stick-breaking call's claims: what the precondition says of the queries and keys, the reference's frame, and the equality of the results. -/

set_option maxRecDepth 16384

noncomputable section

namespace Cert.KernelIdeal.Sb

open Cert.KernelIdeal Cert.KernelIdeal.Gen Cert.Sb
open Idealize.ShloMosaic Idealize.ShloMosaic.TcCoe Idealize.SL.Sem

/-- An extended real whose absolute value lies under infinity is a real number. -/
theorem real_of_abs (y : EReal) (h : max y (-y) < ⊤) : (y.toReal : EReal) = y := by
  refine EReal.coe_toReal ?_ ?_
  · rintro rfl; simp at h
  · rintro rfl; simp at h

/-- The precondition at an entry: queries and keys are real numbers. -/
theorem pre_real (x : FVec Ideal S65536x6656 .bf16) (h : Cert.Pre_finite_qk.fn (F := Ideal) x = fun _ => 1#1) (s : Fin 65536) (d : Fin 6656)
    (h0 : 2048 ≤ d.val) (h1 : d.val < 3072) : ((x (ix2 s d) : EReal).toReal : EReal) = x (ix2 s d) := by
  have e := congrFun h (ix2 s (⟨d.val - 2048, by omega⟩ : Fin 1024))
  have hi : ∀ hs : S65536x6656.Slices ![0, 2048] Cert.Pre_finite_qk.S65536x1024,
      extractStridedSlice Cert.Pre_finite_qk.S65536x1024 ![0, 2048] x hs (ix2 s (⟨d.val - 2048, by omega⟩ : Fin 1024)) = x (ix2 s d) := fun hs =>
    congrArg x (funext fun a => Fin.ext (by
      match a with
      | ⟨0, _⟩ => show 0 + s.val = s.val; omega
      | ⟨1, _⟩ => show 2048 + (d.val - 2048) = d.val; omega))
  have top : Ideal.ofBits .bf16 0x7F80#16 = ⊤ := by simp [Ideal.ofBits, Ideal.ieee]
  apply real_of_abs
  by_contra hc
  have e' : Ideal.cmp .olt (max (x (ix2 s d)) (-x (ix2 s d))) (Ideal.ofBits .bf16 0x7F80#16) = 1#1 := by
    rw [← hi Cert.Pre_finite_qk.Facts.slices_S65536x6656_S65536x1024_0_2048]
    exact e
  rw [top] at e'
  simp [Ideal.cmp, hc] at e'

/-- The claim: where queries and keys are finite, the kernel and the reference end with equal results. -/
theorem algebraic : Cert.algebraic_KernelIdeal_ReferenceIdeal_pre_finite_qk := by
  intro m ρ m' ρ' hpre hagree
  refine ⟨fun c => (dats (F := Ideal) m 0 c).arrAt 4 cfg0.N, ?_, ?_⟩
  · refine (θ_run defs _ _).mono (fun r h c => ⟨h.out_eq c 4, (h.in_eq c 0 (by decide +kernel)).trans ?_⟩) (run_main (F := Ideal) m ρ)
    rfl
  · refine (θ_run Cert.ReferenceIdeal.defs _ _).mono (fun _ h c => ⟨(h c).1.trans ?_, (h c).2⟩) (Cert.ReferenceIdeal.Value.run (F := Ideal) m' ρ')
    exact ((Cert.ReferenceIdeal.Read.val_main_v33_eq (F := Ideal) m' c).trans (congrArg (Cert.ReferenceIdeal.Read.val_main_v33 (F := Ideal)) (hagree c))).trans
      (final_o m c fun s d h0 h1 => pre_real _ (hpre c) s d h0 h1).symm

end Cert.KernelIdeal.Sb

namespace Cert.ReferenceIdeal.Sb

open Idealize.ShloMosaic Idealize.ShloMosaic.TcCoe Idealize.SL.Sem

/-- The reference's frame: the argument ends unchanged, and the program has no counters. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, Idealize.ShloMosaic.sem_eq_zero_of_no_sems (by decide) r.2⟩)
    (Cert.ReferenceIdeal.Value.run (F := Ideal) m ρ)

end Cert.ReferenceIdeal.Sb

end
-- ==== Proof.OutMath.lean ====
module

public import Idealize.ShloMosaic.PureOps.Ideal

@[expose] public section

/-! The end of a layer, one token at a time: the gated merge of the two branches through W_out, the residual, and the norm over the row. -/

noncomputable section

namespace Cert.Out

open Idealize.ShloMosaic

/-- The two branches, each projected and weighted by its gate's sigmoid, summed and projected: entry `d`. -/
def merged (u v : Fin 512 → EReal) (a b : Fin 1024 → EReal) (wu wv : Fin 512 → Fin 1024 → EReal) (wo : Fin 1024 → Fin 1024 → EReal) (d : Fin 1024) : EReal :=
  ∑ k, (Ideal.div 1 (1 + Ideal.exp (-a k)) * (∑ j, u j * wu j k) + Ideal.div 1 (1 + Ideal.exp (-b k)) * (∑ j, v j * wv j k)) * wo k d

/-- The scaled residual with the gated update: entry `d`. -/
def resid (x g y : Fin 1024 → EReal) (d : Fin 1024) : EReal :=
  Ideal.ofBits .f32 0x3FD744FD#32 * x d + (1 + g d) * y d

/-- A row's mean. -/
def mean (r : Fin 1024 → EReal) : EReal := Ideal.div (∑ k, r k) (Ideal.ofBits .f32 0x44800000#32)

/-- The row centred, over its standard deviation, with gain and offset: entry `d`. -/
def normed (r g b : Fin 1024 → EReal) (d : Fin 1024) : EReal :=
  (r d - mean r) * Ideal.rsqrt (mean (fun k => (r k - mean r) * (r k - mean r)) + Ideal.ofBits .f32 0x3727C5AC#32) * g d + b d

end Cert.Out

end
-- ==== Proof.OutRef.lean ====
module

public import proofs.«01_k».proof.Proof.OutMath
public import proofs.«01_k».proof.Proof.Gen.Reference2Ideal.Read
public import Idealize.ShloMosaic.Lib.Pipeline.ValueKit
public import Idealize.ShloMosaic.Lib.Pointwise

@[expose] public section

/-! The reference of the end of a layer, read token by token. -/

set_option maxRecDepth 16384

noncomputable section

namespace Cert.Reference2Ideal.Out

open Cert.Reference2Ideal Cert.Reference2Ideal.Gen Cert.Reference2Ideal.Read Cert.Out
open Idealize.ShloMosaic Idealize.ShloMosaic.TcCoe Idealize.SL.Sem

/-- The merged update at a token. -/
theorem update_apply (x0 x1 : FVec Ideal S65536x512 .bf16) (x2 : FVec Ideal S65536x6656 .bf16) (x5 x6 : FVec Ideal S512x1024 .f32) (x7 : FVec Ideal S1024x1024 .f32) (s : Fin 65536) (d : Fin 1024) :
    val_main_v27 (F := Ideal) x0 x1 x2 x5 x6 x7 (ix2 s d)
      = merged (fun j => x0 (ix2 s j)) (fun j => x1 (ix2 s j)) (fun k => x2 (ix2 s ⟨k.val, by omega⟩)) (fun k => x2 (ix2 s ⟨1024 + k.val, by omega⟩))
          (fun j k => x5 (ix2 j k)) (fun j k => x6 (ix2 j k)) (fun k e => x7 (ix2 k e)) d := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v3, val_main_v2, val_main_v1, val_main_v0, val_main_cst, val_main_cst_0, val_main_cst_1, val_main_cst_2]
  rfl

/-- The residual at a batch's position. -/
theorem resid_apply (x0 x1 : FVec Ideal S65536x512 .bf16) (x2 : FVec Ideal S65536x6656 .bf16) (x3 : FVec Ideal S65536x1024 .f32) (x4 : FVec Ideal S32x3x1x1024 .f32) (x5 x6 : FVec Ideal S512x1024 .f32) (x7 : FVec Ideal S1024x1024 .f32) (b : Fin 32) (p : Fin 2048) (d : Fin 1024) :
    val_main_v36 (F := Ideal) x0 x1 x2 x3 x4 x5 x6 x7 (ix3 b p d)
      = resid (fun k => x3 (ix2 ⟨b.val * 2048 + p.val, by omega⟩ k)) (fun k => x4 (ix4 b 2 0 k)) (fun k => val_main_v27 (F := Ideal) x0 x1 x2 x5 x6 x7 (ix2 ⟨b.val * 2048 + p.val, by omega⟩ k)) d := by
  pointwise [val_main_v4, val_main_v5, val_main_v6, val_main_v7, val_main_v28, val_main_v29, val_main_v30, val_main_v31, val_main_v32, val_main_v33, val_main_v34, val_main_v35, val_main_v36, val_main_cst_3, val_main_cst_4]
  rfl

/-- The norm at a token. -/
theorem norm_apply (x0 x1 : FVec Ideal S65536x512 .bf16) (x2 : FVec Ideal S65536x6656 .bf16) (x3 : FVec Ideal S65536x1024 .f32) (x4 : FVec Ideal S32x3x1x1024 .f32) (x5 x6 : FVec Ideal S512x1024 .f32) (x7 : FVec Ideal S1024x1024 .f32) (x8 x9 : FVec Ideal S1024 .f32) (s : Fin 65536) (d : Fin 1024) :
    val_main_v61 (F := Ideal) x0 x1 x2 x3 x4 x5 x6 x7 x8 x9 (ix2 s d)
      = normed (fun k => val_main_v36 (F := Ideal) x0 x1 x2 x3 x4 x5 x6 x7 (ix3 ⟨s.val / 2048, by omega⟩ ⟨s.val % 2048, by omega⟩ k)) (fun k => x8 (ix1 k)) (fun k => x9 (ix1 k)) d := by
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_cst_5, val_main_cst_6, val_main_cst_7, val_main_cst_8, val_main_cst_9]
  rfl

/-- The reference at a token: the norm of the residual with the merged update. -/
theorem ref_apply (x0 x1 : FVec Ideal S65536x512 .bf16) (x2 : FVec Ideal S65536x6656 .bf16) (x3 : FVec Ideal S65536x1024 .f32) (x4 : FVec Ideal S32x3x1x1024 .f32) (x5 x6 : FVec Ideal S512x1024 .f32) (x7 : FVec Ideal S1024x1024 .f32) (x8 x9 : FVec Ideal S1024 .f32) (s : Fin 65536) (d : Fin 1024) :
    val_main_v61 (F := Ideal) x0 x1 x2 x3 x4 x5 x6 x7 x8 x9 (ix2 s d)
      = normed (resid (fun k => x3 (ix2 s k)) (fun k => x4 (ix4 (⟨s.val / 2048, by omega⟩ : Fin 32) 2 0 k))
          (merged (fun j => x0 (ix2 s j)) (fun j => x1 (ix2 s j)) (fun k => x2 (ix2 s ⟨k.val, by omega⟩)) (fun k => x2 (ix2 s ⟨1024 + k.val, by omega⟩))
            (fun j k => x5 (ix2 j k)) (fun j k => x6 (ix2 j k)) (fun k e => x7 (ix2 k e))))
          (fun k => x8 (ix1 k)) (fun k => x9 (ix1 k)) d := by
  have hs : (⟨s.val / 2048 * 2048 + s.val % 2048, by omega⟩ : Fin 65536) = s := Fin.ext (by dsimp only; omega)
  rw [norm_apply]
  congr 1
  funext k
  rw [resid_apply]
  simp only [hs]
  congr 1
  funext e
  exact update_apply x0 x1 x2 x5 x6 x7 s e

end Cert.Reference2Ideal.Out

end
-- ==== Proof.OutValue.lean ====
module

public import proofs.«01_k».proof.Defs
public import proofs.«01_k».proof.Proof.OutRef
public import proofs.«01_k».proof.Proof.Gen.Reference2Ideal.Run
public import proofs.«01_k».proof.Proof.Gen.Kernel2Ideal.Value
public import Idealize.ShloMosaic.Lib.Pipeline.ValueKit
public import Idealize.ShloMosaic.Lib.Pointwise

@[expose] public section

/-! The call that ends a layer: a block's tokens, and the equality with the reference. -/

set_option maxRecDepth 16384

noncomputable section

namespace Cert.Kernel2Ideal.Out

open Cert.Kernel2Ideal Cert.Kernel2Ideal.Gen Cert.Out
open Idealize.ShloMosaic Idealize.ShloMosaic.TcCoe Idealize.SL.Sem

/-- The block's merged update at a row. -/
theorem update_apply (v0 : FVec Ideal S512x512 .bf16) (v1 : FVec Ideal S512x1024 .bf16) (v4 : FVec Ideal S512x512 .bf16) (v5 v8 v18 : FVec Ideal S512x1024 .bf16) (v30 : FVec Ideal S1024x1024 .bf16) (r : Fin 512) (d : Fin 1024) :
    k0_pay2 (F := Ideal) v0 v1 v4 v5 v8 v18 v30 (ix2 r d)
      = merged (fun j => v0 (ix2 r j)) (fun j => v4 (ix2 r j)) (fun k => v8 (ix2 r k)) (fun k => v18 (ix2 r k))
          (fun j k => v1 (ix2 j k)) (fun j k => v5 (ix2 j k)) (fun k e => v30 (ix2 k e)) d := by
  pointwise [k0_pay2]
  simp only [zero_sub]
  rfl

/-- The block's result at a row: the norm of the residual with the update. -/
theorem norm_apply (v32 : FVec Ideal S512x1024 .f32) (v33 : FVec Ideal S1x1x1x1024 .f32) (v35 : FVec Ideal S512x1024 .f32) (v59 v63 : FVec Ideal S1x1024 .f32) (r : Fin 512) (d : Fin 1024) :
    k0_pay1 (F := Ideal) v32 v33 v35 v59 v63 (ix2 r d)
      = normed (resid (fun k => v35 (ix2 r k)) (fun k => v33 (ix4 0 0 0 k)) (fun k => v32 (ix2 r k))) (fun k => v59 (ix2 0 k)) (fun k => v63 (ix2 0 k)) d := by
  pointwise [k0_pay1]
  rfl

variable (m : (ℓ : Loc nD τ sig) → Buf (Elt Ideal) ℓ)

/-- The weights the windows stage are the arguments' casts, the gain and the offset the arguments with a new axis. -/
theorem V5 (c : Dev nD) : V (F := Ideal) m c main_v0 = (truncf (F := Ideal) (s := S512x1024) (φ := .f32) .bf16 (m ((c : Thread nD τ).loc main_arg5)) bitsLt_bf16_f32 : FVec Ideal S512x1024 .bf16) := by
  simp only [V, hostOps0]
  after_results
theorem V6 (c : Dev nD) : V (F := Ideal) m c main_v1 = (truncf (F := Ideal) (s := S512x1024) (φ := .f32) .bf16 (m ((c : Thread nD τ).loc main_arg6)) bitsLt_bf16_f32 : FVec Ideal S512x1024 .bf16) := by
  simp only [V, hostOps0]
  after_results
theorem V7 (c : Dev nD) : V (F := Ideal) m c main_v2 = (truncf (F := Ideal) (s := S1024x1024) (φ := .f32) .bf16 (m ((c : Thread nD τ).loc main_arg7)) bitsLt_bf16_f32 : FVec Ideal S1024x1024 .bf16) := by
  simp only [V, hostOps0]
  after_results
theorem V8 (c : Dev nD) : V (F := Ideal) m c main_v3 = broadcastInDim S1x1024 ![1] bcast_S1024_S1x1024_1 (m ((c : Thread nD τ).loc main_arg8)) := by
  simp only [V, hostOps0]
  after_results
theorem V9 (c : Dev nD) : V (F := Ideal) m c main_v4 = broadcastInDim S1x1024 ![1] bcast_S1024_S1x1024_1 (m ((c : Thread nD τ).loc main_arg9)) := by
  simp only [V, hostOps0]
  after_results

/-- Grid point `t` works on tokens `512 t, …`, of sequence `t / 4`; the weights are whole. -/
theorem idx0 : ∀ (t : Fin cfg0.N) (a : Fin 2), win0_0.index t a = ![t.val, 0] a := by decide +kernel
theorem idx1 : ∀ (t : Fin cfg0.N) (a : Fin 2), win0_1.index t a = ![t.val, 0] a := by decide +kernel
theorem idx2 : ∀ (t : Fin cfg0.N) (a : Fin 2), win0_2.index t a = ![t.val, 0] a := by decide +kernel
theorem idx3 : ∀ (t : Fin cfg0.N) (a : Fin 2), win0_3.index t a = ![t.val, 0] a := by decide +kernel
theorem idx4 : ∀ (t : Fin cfg0.N) (a : Fin 4), win0_4.index t a = ![t.val / 4, 0, 0, 0] a := by decide +kernel
theorem idx5 : ∀ (t : Fin cfg0.N) (a : Fin 2), win0_5.index t a = ![0, 0] a := by decide +kernel
theorem idx6 : ∀ (t : Fin cfg0.N) (a : Fin 2), win0_6.index t a = ![0, 0] a := by decide +kernel
theorem idx7 : ∀ (t : Fin cfg0.N) (a : Fin 2), win0_7.index t a = ![0, 0] a := by decide +kernel
theorem idx8 : ∀ (t : Fin cfg0.N) (a : Fin 2), win0_8.index t a = ![0, 0] a := by decide +kernel
theorem idx9 : ∀ (t : Fin cfg0.N) (a : Fin 2), win0_9.index t a = ![0, 0] a := by decide +kernel
theorem idx10 : ∀ (t : Fin cfg0.N) (a : Fin 2), win0_10.index t a = ![t.val, 0] a := by decide +kernel

theorem tN (t : Fin cfg0.N) : t.val < 128 := lt_of_lt_of_eq t.isLt (by decide +kernel)

theorem blk0 (c : Dev nD) (t : Fin cfg0.N) (r : Fin 512) (k : Fin 512) (h : 512 * t.val + r.val < 65536) :
    iblk (F := Ideal) m c 0 t (ix2 r k) = (m ((c : Thread nD τ).loc main_arg0) : FVec Ideal S65536x512 .bf16) (ix2 ⟨512 * t.val + r.val, h⟩ k) := by
  blk_simp [iblk]
  refine congrArg (m ((c : Thread nD τ).loc main_arg0) : FVec Ideal S65536x512 .bf16) (funext fun a => Fin.ext ?_)
  match a with
  | ⟨0, _⟩ => show win0_0.index t 0 * 512 + 1 * r.val = 512 * t.val + r.val; rw [idx0]; show t.val * 512 + 1 * r.val = _; omega
  | ⟨1, _⟩ => show win0_0.index t 1 * 512 + 1 * k.val = k.val; rw [idx0]; show 0 * 512 + 1 * k.val = _; omega

theorem blk1 (c : Dev nD) (t : Fin cfg0.N) (r : Fin 512) (k : Fin 512) (h : 512 * t.val + r.val < 65536) :
    iblk (F := Ideal) m c 1 t (ix2 r k) = (m ((c : Thread nD τ).loc main_arg1) : FVec Ideal S65536x512 .bf16) (ix2 ⟨512 * t.val + r.val, h⟩ k) := by
  blk_simp [iblk]
  refine congrArg (m ((c : Thread nD τ).loc main_arg1) : FVec Ideal S65536x512 .bf16) (funext fun a => Fin.ext ?_)
  match a with
  | ⟨0, _⟩ => show win0_1.index t 0 * 512 + 1 * r.val = 512 * t.val + r.val; rw [idx1]; show t.val * 512 + 1 * r.val = _; omega
  | ⟨1, _⟩ => show win0_1.index t 1 * 512 + 1 * k.val = k.val; rw [idx1]; show 0 * 512 + 1 * k.val = _; omega

theorem blk3 (c : Dev nD) (t : Fin cfg0.N) (r : Fin 512) (k : Fin 1024) (h : 512 * t.val + r.val < 65536) :
    iblk (F := Ideal) m c 3 t (ix2 r k) = (m ((c : Thread nD τ).loc main_arg3) : FVec Ideal S65536x1024 .f32) (ix2 ⟨512 * t.val + r.val, h⟩ k) := by
  blk_simp [iblk]
  refine congrArg (m ((c : Thread nD τ).loc main_arg3) : FVec Ideal S65536x1024 .f32) (funext fun a => Fin.ext ?_)
  match a with
  | ⟨0, _⟩ => show win0_3.index t 0 * 512 + 1 * r.val = 512 * t.val + r.val; rw [idx3]; show t.val * 512 + 1 * r.val = _; omega
  | ⟨1, _⟩ => show win0_3.index t 1 * 1024 + 1 * k.val = k.val; rw [idx3]; show 0 * 1024 + 1 * k.val = _; omega

theorem blk5 (c : Dev nD) (t : Fin cfg0.N) (j : Fin 512) (k : Fin 1024) :
    iblk (F := Ideal) m c 5 t (ix2 j k) = (m ((c : Thread nD τ).loc main_arg5) : FVec Ideal S512x1024 .f32) (ix2 j k) := by
  blk_simp [iblk]
  show V (F := Ideal) m c main_v0 _ = _
  rw [V5]
  refine congrArg (m ((c : Thread nD τ).loc main_arg5) : FVec Ideal S512x1024 .f32) (funext fun a => Fin.ext ?_)
  match a with
  | ⟨0, _⟩ => show win0_5.index t 0 * 512 + 1 * j.val = j.val; rw [idx5]; show 0 * 512 + 1 * j.val = _; omega
  | ⟨1, _⟩ => show win0_5.index t 1 * 1024 + 1 * k.val = k.val; rw [idx5]; show 0 * 1024 + 1 * k.val = _; omega

theorem blk6 (c : Dev nD) (t : Fin cfg0.N) (j : Fin 512) (k : Fin 1024) :
    iblk (F := Ideal) m c 6 t (ix2 j k) = (m ((c : Thread nD τ).loc main_arg6) : FVec Ideal S512x1024 .f32) (ix2 j k) := by
  blk_simp [iblk]
  show V (F := Ideal) m c main_v1 _ = _
  rw [V6]
  refine congrArg (m ((c : Thread nD τ).loc main_arg6) : FVec Ideal S512x1024 .f32) (funext fun a => Fin.ext ?_)
  match a with
  | ⟨0, _⟩ => show win0_6.index t 0 * 512 + 1 * j.val = j.val; rw [idx6]; show 0 * 512 + 1 * j.val = _; omega
  | ⟨1, _⟩ => show win0_6.index t 1 * 1024 + 1 * k.val = k.val; rw [idx6]; show 0 * 1024 + 1 * k.val = _; omega

theorem blk7 (c : Dev nD) (t : Fin cfg0.N) (j : Fin 1024) (k : Fin 1024) :
    iblk (F := Ideal) m c 7 t (ix2 j k) = (m ((c : Thread nD τ).loc main_arg7) : FVec Ideal S1024x1024 .f32) (ix2 j k) := by
  blk_simp [iblk]
  show V (F := Ideal) m c main_v2 _ = _
  rw [V7]
  refine congrArg (m ((c : Thread nD τ).loc main_arg7) : FVec Ideal S1024x1024 .f32) (funext fun a => Fin.ext ?_)
  match a with
  | ⟨0, _⟩ => show win0_7.index t 0 * 1024 + 1 * j.val = j.val; rw [idx7]; show 0 * 1024 + 1 * j.val = _; omega
  | ⟨1, _⟩ => show win0_7.index t 1 * 1024 + 1 * k.val = k.val; rw [idx7]; show 0 * 1024 + 1 * k.val = _; omega

theorem blk8 (c : Dev nD) (t : Fin cfg0.N) (k : Fin 1024) :
    iblk (F := Ideal) m c 8 t (ix2 (0 : Fin 1) k) = (m ((c : Thread nD τ).loc main_arg8) : FVec Ideal S1024 .f32) (ix1 k) := by
  blk_simp [iblk]
  show V (F := Ideal) m c main_v3 _ = _
  rw [V8]
  refine broadcastInDim_apply _ bcast_S1024_S1x1024_1 (m ((c : Thread nD τ).loc main_arg8) : FVec Ideal S1024 .f32) _ (ix1 k) fun a => ?_
  match a with
  | ⟨0, _⟩ => show k.val = if (1024 : Nat) = 1 then 0 else win0_8.index t 1 * 1024 + 1 * k.val; rw [idx8]; show k.val = 0 * 1024 + 1 * k.val; omega

theorem blk9 (c : Dev nD) (t : Fin cfg0.N) (k : Fin 1024) :
    iblk (F := Ideal) m c 9 t (ix2 (0 : Fin 1) k) = (m ((c : Thread nD τ).loc main_arg9) : FVec Ideal S1024 .f32) (ix1 k) := by
  blk_simp [iblk]
  show V (F := Ideal) m c main_v4 _ = _
  rw [V9]
  refine broadcastInDim_apply _ bcast_S1024_S1x1024_1 (m ((c : Thread nD τ).loc main_arg9) : FVec Ideal S1024 .f32) _ (ix1 k) fun a => ?_
  match a with
  | ⟨0, _⟩ => show k.val = if (1024 : Nat) = 1 then 0 else win0_9.index t 1 * 1024 + 1 * k.val; rw [idx9]; show k.val = 0 * 1024 + 1 * k.val; omega

theorem blk4 (c : Dev nD) (t : Fin cfg0.N) (k : Fin 1024) (h : t.val / 4 < 32) :
    View.ld (iblk (F := Ideal) m c 4 t) (Rect.unit ![0, 2, 0, 0] ![1, 1, 1, 1024] inb_S1x3x1x1024_S1x1x1x1024_0_2_0_0) (ix4 (0 : Fin 1) (0 : Fin 1) (0 : Fin 1) k)
      = (m ((c : Thread nD τ).loc main_arg4) : FVec Ideal S32x3x1x1024 .f32) (ix4 ⟨t.val / 4, h⟩ 2 0 k) := by
  blk_simp [iblk]
  refine congrArg (m ((c : Thread nD τ).loc main_arg4) : FVec Ideal S32x3x1x1024 .f32) (funext fun a => Fin.ext ?_)
  match a with
  | ⟨0, _⟩ => show win0_4.index t 0 * 1 + 1 * (0 + 1 * 0) = t.val / 4; rw [idx4]; show t.val / 4 * 1 + 0 = _; omega
  | ⟨1, _⟩ => show win0_4.index t 1 * 3 + 1 * (2 + 1 * 0) = 2; rw [idx4]; rfl
  | ⟨2, _⟩ => show win0_4.index t 2 * 1 + 1 * (0 + 1 * 0) = 0; rw [idx4]; rfl
  | ⟨3, _⟩ => show win0_4.index t 3 * 1024 + 1 * (0 + 1 * k.val) = k.val; rw [idx4]; show 0 * 1024 + 1 * (0 + 1 * k.val) = _; omega

/-- The window over the input projection never overhangs its array. -/
theorem whole2 : ∀ (t : Fin cfg0.N) (a : Fin 2), win0_2.xsize (cfg0.grid.coords t) a = win0_2.size a := by decide +kernel

/-- Its staged columns are the tokens' first columns of the input projection. -/
theorem blk2 (c : Dev nD) (t : Fin cfg0.N) (r : Fin 512) (j : Fin 2048) (h : 512 * t.val + r.val < 65536) :
    X0_2 (F := Ideal) m c t (ix2 r j) = (m ((c : Thread nD τ).loc main_arg2) : FVec Ideal S65536x6656 .bf16) (ix2 ⟨512 * t.val + r.val, h⟩ ⟨j.val, by omega⟩) := by
  unfold X0_2 Pipeline.Window.fill
  rw [dif_pos ((win0_2.moved_iff _ _).mpr fun a => by rw [whole2 t a]; exact (ix2 r j a).isLt)]
  show (m ((c : Thread nD τ).loc main_arg2) : FVec Ideal S65536x6656 .bf16) _ = _
  refine congrArg (m ((c : Thread nD τ).loc main_arg2) : FVec Ideal S65536x6656 .bf16) (funext fun a => Fin.ext ?_)
  match a with
  | ⟨0, _⟩ => show win0_2.index t 0 * 512 + 1 * r.val = 512 * t.val + r.val; rw [idx2]; show t.val * 512 + 1 * r.val = _; omega
  | ⟨1, _⟩ => show win0_2.index t 1 * 2048 + 1 * j.val = j.val; rw [idx2]; show 0 * 2048 + 1 * j.val = _; omega

theorem blk2a (c : Dev nD) (t : Fin cfg0.N) (r : Fin 512) (k : Fin 1024) (h : 512 * t.val + r.val < 65536) :
    View.ld (X0_2 (F := Ideal) m c t) (Rect.unit ![0, 0] ![512, 1024] inb_S512x2048_S512x1024_0_0) (ix2 r k)
      = (m ((c : Thread nD τ).loc main_arg2) : FVec Ideal S65536x6656 .bf16) (ix2 ⟨512 * t.val + r.val, h⟩ ⟨k.val, by omega⟩) := by
  refine Eq.trans ?_ (blk2 m c t r ⟨k.val, by omega⟩ h)
  refine congrArg (X0_2 (F := Ideal) m c t) (funext fun a => Fin.ext ?_)
  match a with
  | ⟨0, _⟩ => show 0 + 1 * r.val = r.val; omega
  | ⟨1, _⟩ => show 0 + 1 * k.val = k.val; omega

theorem blk2b (c : Dev nD) (t : Fin cfg0.N) (r : Fin 512) (k : Fin 1024) (h : 512 * t.val + r.val < 65536) :
    View.ld (X0_2 (F := Ideal) m c t) (Rect.unit ![0, 1024] ![512, 1024] inb_S512x2048_S512x1024_0_1024) (ix2 r k)
      = (m ((c : Thread nD τ).loc main_arg2) : FVec Ideal S65536x6656 .bf16) (ix2 ⟨512 * t.val + r.val, h⟩ ⟨1024 + k.val, by omega⟩) := by
  refine Eq.trans ?_ (blk2 m c t r ⟨1024 + k.val, by omega⟩ h)
  refine congrArg (X0_2 (F := Ideal) m c t) (funext fun a => Fin.ext ?_)
  match a with
  | ⟨0, _⟩ => show 0 + 1 * r.val = r.val; omega
  | ⟨1, _⟩ => show 1024 + 1 * k.val = 1024 + k.val; omega

/-- The first result is the reference's: every row is written once, by the point that holds it. -/
theorem final_o (c : Dev nD) :
    (dats (F := Ideal) m 0 c).arrAt 10 cfg0.N = Cert.Reference2Ideal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats (F := Ideal) m 0 c).arrAt_eq_of_covers 10 _ (by decide +kernel) fun t hf y => ?_
  blk_simp
  rw [after0_10]
  unfold outsAt0
  frame_out
  have ht := tN t
  have q0 : (y 0).val < 512 := (y 0).isLt
  have q1 : (y 1).val < 1024 := (y 1).isLt
  obtain ⟨r, l, rfl⟩ : ∃ (r : Fin 512) (l : Fin 1024), y = ix2 r l := ⟨⟨_, q0⟩, ⟨_, q1⟩, by
    funext a
    match a with
    | ⟨0, _⟩ => rfl
    | ⟨1, _⟩ => rfl⟩
  have hr := r.isLt
  have he : (win0_10.blk t).view.emb (ix2 r l) = ix2 (⟨512 * t.val + r.val, by omega⟩ : Fin 65536) l :=
    funext fun a => Fin.ext (by
      match a with
      | ⟨0, _⟩ => show win0_10.index t 0 * 512 + 1 * r.val = 512 * t.val + r.val; rw [idx10]; show t.val * 512 + 1 * r.val = _; omega
      | ⟨1, _⟩ => show win0_10.index t 1 * 1024 + 1 * l.val = l.val; rw [idx10]; show 0 * 1024 + 1 * l.val = _; omega)
  have h512 : 512 * t.val + r.val < 65536 := by omega
  have h4 : t.val / 4 < 32 := by omega
  have e4 : (⟨(512 * t.val + r.val) / 2048, by omega⟩ : Fin 32) = ⟨t.val / 4, h4⟩ := Fin.ext (by dsimp only; omega)
  refine (norm_apply _ _ _ _ _ r l).trans (Eq.trans ?_ ((congrArg _ he).trans (Cert.Reference2Ideal.Out.ref_apply _ _ _ _ _ _ _ _ _ _ (⟨512 * t.val + r.val, h512⟩ : Fin 65536) l)).symm)
  simp only [update_apply, blk0 m c t _ _ h512, blk1 m c t _ _ h512, blk2a m c t _ _ h512, blk2b m c t _ _ h512, blk3 m c t _ _ h512, blk4 m c t _ h4, blk5, blk6, blk7, blk8, blk9, e4]

/-- The claim: the kernel and the reference end with equal results. -/
theorem algebraic : Cert.algebraic_Kernel2Ideal_Reference2Ideal := by
  intro m ρ m' ρ' _ hagree
  refine ⟨fun c => (dats (F := Ideal) m 0 c).arrAt 10 cfg0.N, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  obtain ⟨g0, g1, g2, g3, g4, g5, g6, g7, g8, g9⟩ := hagree c
  refine (Cert.Reference2Ideal.Read.val_main_v61_eq (F := Ideal) m' c).trans (Eq.trans ?_ (final_o m c).symm)
  exact congr (congr (congr (congr (congr (congr (congr (congr (congr (congrArg _ g0) g1) g2) g3) g4) g5) g6) g7) g8) g9

end Cert.Kernel2Ideal.Out

end
-- ==== Proof.InMath.lean ====
module

public import Idealize.ShloMosaic.PureOps.Ideal

@[expose] public section

/-! The start of a layer, one token and one column at a time: the modulation, the projection, the causal convolution and its SiLU. -/

noncomputable section

namespace Cert.In

open Idealize.ShloMosaic

/-- A token's modulated value. -/
def modu (x sc sh : Fin 1024 → EReal) (k : Fin 1024) : EReal := x k * (1 + sc k) + sh k

/-- A token's projection to one column. -/
def lin (x sc sh w : Fin 1024 → EReal) (b : EReal) : EReal := (∑ k, modu x sc sh k * w k) + b

/-- The convolution of a column over four tokens, the oldest first. -/
def conv (w p : Fin 4 → EReal) (b : EReal) : EReal := w 0 * p 0 + w 1 * p 1 + w 2 * p 2 + w 3 * p 3 + b

/-- The SiLU. -/
def silu (y : EReal) : EReal := y * Ideal.div 1 (1 + Ideal.exp (-y))

end Cert.In

end
-- ==== Proof.InPure.lean ====
module

public import proofs.«01_k».proof.Proof.InMath
public import proofs.«01_k».proof.Proof.Gen.Kernel3Ideal.Value
public import Idealize.ShloMosaic.Lib.Pipeline.ValueKit
public import Idealize.ShloMosaic.Lib.Pointwise

@[expose] public section

/-! The call that begins a layer: what its body leaves, from the blocks it reads. -/

set_option maxRecDepth 16384

noncomputable section

namespace Cert.Kernel3Ideal.In

open Cert.Kernel3Ideal Cert.Kernel3Ideal.Gen Cert.In
open Idealize.ShloMosaic Idealize.ShloMosaic.TcCoe Idealize.SL.Sem

variable (i : grid0.Coords) (x0 : FVec Ideal S512x1024 .f32) (x1 : FVec Ideal S8x1024 .f32) (x2 : FVec Ideal S1x3x1x1024 .f32) (x3 : FVec Ideal S1024x6656 .bf16) (x4 : FVec Ideal S1x6656 .f32) (x5 : FVec Ideal S1024x128 .bf16) (x6 : FVec Ideal S1x128 .f32) (x7 : FVec Ideal S4x1024 .f32) (x8 : FVec Ideal S1x1024 .f32)

/-- The gates' columns. -/
theorem out10_apply (r : Fin 512) (l : Fin 128) :
    out0_10 (F := Ideal) i x0 x1 x2 x3 x4 x5 x6 x7 x8 (ix2 r l)
      = lin (fun k => x0 (ix2 r k)) (fun k => x2 (ix4 0 1 0 k)) (fun k => x2 (ix4 0 0 0 k)) (fun k => x5 (ix2 k l)) (x6 (ix2 0 l)) := by
  unfold out0_10
  rw [View.canon_unit_zero (funext fun a => by match a with | ⟨0, _⟩ => rfl | ⟨1, _⟩ => rfl)]
  pointwise [k0_pay7, k0_pay6, k0_pay4, k0_pay3, k0_pay2]
  rfl

/-- A row's projection to column `c`, nought outside the block. -/
def row (r c : ℕ) : EReal :=
  if h : r < 512 ∧ c < 6656 then
    lin (fun k => x0 (ix2 (⟨r, h.1⟩ : Fin 512) k)) (fun k => x2 (ix4 0 1 0 k)) (fun k => x2 (ix4 0 0 0 k)) (fun k => x3 (ix2 k (⟨c, h.2⟩ : Fin 6656))) (x4 (ix2 0 (⟨c, h.2⟩ : Fin 6656)))
  else 0

/-- A row's projection among the eight before the block. -/
def halo (r c : ℕ) : EReal :=
  if h : r < 8 ∧ c < 6656 then
    lin (fun k => x1 (ix2 (⟨r, h.1⟩ : Fin 8) k)) (fun k => x2 (ix4 0 1 0 k)) (fun k => x2 (ix4 0 0 0 k)) (fun k => x3 (ix2 k (⟨c, h.2⟩ : Fin 6656))) (x4 (ix2 0 (⟨c, h.2⟩ : Fin 6656)))
  else 0

/-- Whether a block is the first of its sequence, as the body computes it. -/
def first (i : grid0.Coords) : BitVec 1 :=
  (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)

/-- The projection of the row `n` before row `r`: the eight rows before the block count nought where the block is the first. -/
def past (b : BitVec 1) (n r c : ℕ) : EReal :=
  if n ≤ r then row x0 x2 x3 x4 (r - n) c else Scalar.select b 0 (halo x1 x2 x3 x4 (8 + r - n) c)

/-- The convolution at row `r` of column `e` of the queries and keys. -/
def kC (b : BitVec 1) (r e : ℕ) : EReal :=
  if h : e < 1024 then
    conv (fun j => x7 (ix2 j (⟨e, h⟩ : Fin 1024))) (fun j => past x0 x1 x2 x3 x4 b (3 - j.val) r (4096 + e)) (x8 (ix2 0 (⟨e, h⟩ : Fin 1024)))
  else 0

/-- The heads' columns of row `r`. -/
def kG (b : BitVec 1) (r d : ℕ) : EReal :=
  if d < 2048 then row x0 x2 x3 x4 r d
  else if d < 2560 then row x0 x2 x3 x4 r d * Ideal.ofBits .f32 0x3E000000#32
  else if d < 4096 then row x0 x2 x3 x4 r d
  else if d < 4608 then silu (kC x0 x1 x2 x3 x4 x7 x8 b r (d - 4096)) * Ideal.ofBits .f32 0x3DB504F3#32
  else if d < 5120 then silu (kC x0 x1 x2 x3 x4 x7 x8 b r (d - 4096))
  else row x0 x2 x3 x4 r d

theorem kG_plain (b : BitVec 1) (r d : ℕ) (h : d < 2048 ∨ (2560 ≤ d ∧ d < 4096) ∨ 5120 ≤ d) : kG x0 x1 x2 x3 x4 x7 x8 b r d = row x0 x2 x3 x4 r d := by
  unfold kG
  by_cases h0 : d < 2048
  · rw [if_pos h0]
  · by_cases h1 : d < 4096
    · rw [if_neg h0, if_neg (by omega), if_pos h1]
    · rw [if_neg h0, if_neg (by omega), if_neg h1, if_neg (by omega), if_neg (by omega)]

/-- The block's modulated rows. -/
theorem modu28 (r : Fin 512) (k : Fin 1024) :
    k0_pay28 (F := Ideal) i x0 x1 x2 x3 x4 x5 x6 x7 x8 (ix2 r k) = modu (fun k => x0 (ix2 r k)) (fun k => x2 (ix4 0 1 0 k)) (fun k => x2 (ix4 0 0 0 k)) k := by
  pointwise [k0_pay28, k0_pay4, k0_pay3, k0_pay2]
  rfl

/-- The eight rows before the block, modulated. -/
theorem modu29 (r : Fin 8) (k : Fin 1024) :
    k0_pay29 (F := Ideal) i x0 x1 x2 x3 x4 x5 x6 x7 x8 (ix2 r k) = modu (fun k => x1 (ix2 r k)) (fun k => x2 (ix4 0 1 0 k)) (fun k => x2 (ix4 0 0 0 k)) k := by
  pointwise [k0_pay29, k0_pay5, k0_pay3, k0_pay2]
  rfl

theorem row_eq (r : Fin 512) (c : ℕ) (h : c < 6656) :
    (∑ k, modu (fun k => x0 (ix2 r k)) (fun k => x2 (ix4 0 1 0 k)) (fun k => x2 (ix4 0 0 0 k)) k * (x3 (ix2 k (⟨c, h⟩ : Fin 6656)) : EReal)) + (x4 (ix2 0 (⟨c, h⟩ : Fin 6656)) : EReal) = row x0 x2 x3 x4 r.val c := by
  rw [row, dif_pos ⟨r.isLt, h⟩]
  rfl

theorem halo_eq (r : Fin 8) (c : ℕ) (h : c < 6656) :
    (∑ k, modu (fun k => x1 (ix2 r k)) (fun k => x2 (ix4 0 1 0 k)) (fun k => x2 (ix4 0 0 0 k)) k * (x3 (ix2 k (⟨c, h⟩ : Fin 6656)) : EReal)) + (x4 (ix2 0 (⟨c, h⟩ : Fin 6656)) : EReal) = halo x1 x2 x3 x4 r.val c := by
  rw [halo, dif_pos ⟨r.isLt, h⟩]
  rfl

/-- A row of the halo and the block joined, turned by `n`, is the row `n` before. -/
theorem past_read (b : BitVec 1) (n : ℕ) (hn : 1 ≤ n ∧ n ≤ 8) (r c : ℕ) (hr : r < 512) (hc : c < 6656) :
    past x0 x1 x2 x3 x4 b n r c
      = if h : (8 + r + 520 - n) % 520 < 8 then
          Scalar.select b 0 ((∑ k, modu (fun k => x1 (ix2 (⟨(8 + r + 520 - n) % 520, h⟩ : Fin 8) k)) (fun k => x2 (ix4 0 1 0 k)) (fun k => x2 (ix4 0 0 0 k)) k * (x3 (ix2 k (⟨c, hc⟩ : Fin 6656)) : EReal)) + (x4 (ix2 0 (⟨c, hc⟩ : Fin 6656)) : EReal))
        else (∑ k, modu (fun k => x0 (ix2 (⟨(8 + r + 520 - n) % 520 - 8, by omega⟩ : Fin 512) k)) (fun k => x2 (ix4 0 1 0 k)) (fun k => x2 (ix4 0 0 0 k)) k * (x3 (ix2 k (⟨c, hc⟩ : Fin 6656)) : EReal)) + (x4 (ix2 0 (⟨c, hc⟩ : Fin 6656)) : EReal) := by
  have e : (8 + r + 520 - n) % 520 = 8 + r - n := by omega
  unfold past
  by_cases h : n ≤ r
  · rw [if_pos h, dif_neg (by omega), row_eq]
    exact congrArg (row x0 x2 x3 x4 · c) (show r - n = (8 + r + 520 - n) % 520 - 8 by omega)
  · rw [if_neg h, dif_pos (by omega), halo_eq]
    exact congrArg (fun q => Scalar.select b 0 (halo x1 x2 x3 x4 q c)) e.symm

theorem past_zero (b : BitVec 1) (r : Fin 512) (c : ℕ) (hc : c < 6656) :
    past x0 x1 x2 x3 x4 b 0 r.val c = (∑ k, modu (fun k => x0 (ix2 r k)) (fun k => x2 (ix4 0 1 0 k)) (fun k => x2 (ix4 0 0 0 k)) k * (x3 (ix2 k (⟨c, hc⟩ : Fin 6656)) : EReal)) + (x4 (ix2 0 (⟨c, hc⟩ : Fin 6656)) : EReal) := by
  rw [row_eq, past, if_pos (Nat.zero_le _)]
  rfl

theorem silu_sub (y : EReal) : silu y = y * Ideal.div 1 (1 + Ideal.exp (0 - y)) := by
  rw [zero_sub]
  rfl

theorem conv_order (w p : Fin 4 → EReal) (b : EReal) : (((b + w 3 * p 3) + w 0 * p 0) + w 1 * p 1) + w 2 * p 2 = conv w p b := by
  unfold conv
  ac_rfl

theorem split512 (x : S512x512.Idx) : ∃ (r l : Fin 512), x = ix2 r l := ⟨x 0, x 1, by
  funext a
  match a with
  | ⟨0, _⟩ => rfl
  | ⟨1, _⟩ => rfl⟩

theorem q_apply (b : BitVec 1) (r l : Fin 512) :
    (k0_pay20 (F := Ideal) (k0_pay17 (k0_pay28 i x0 x1 x2 x3 x4 x5 x6 x7 x8) (View.ld x3 r0_31) (View.ld x4 r0_32)) (k0_pay18 b (k0_pay28 i x0 x1 x2 x3 x4 x5 x6 x7 x8) (k0_pay29 i x0 x1 x2 x3 x4 x5 x6 x7 x8) (View.ld x3 r0_31) (View.ld x4 r0_32) (View.ld x3 r0_31) (View.ld x4 r0_32)) (k0_pay19 (View.ld x8 r0_33)) (View.ld x7 r0_34) (View.ld x7 r0_35) (View.ld x7 r0_36) (View.ld x7 r0_37)) (ix2 r l) = silu (kC x0 x1 x2 x3 x4 x7 x8 b r.val (l.val)) * Ideal.ofBits .f32 0x3DB504F3#32 := by
  have hl := l.isLt
  rw [kC, dif_pos (show l.val < 1024 by omega), ← conv_order, silu_sub,
    show (3 - (0 : Fin 4).val) = 3 from rfl, show (3 - (1 : Fin 4).val) = 2 from rfl, show (3 - (2 : Fin 4).val) = 1 from rfl, show (3 - (3 : Fin 4).val) = 0 from rfl,
    past_read x0 x1 x2 x3 x4 b 3 (by omega) r.val (4096 + (l.val)) r.isLt (by omega),
    past_read x0 x1 x2 x3 x4 b 2 (by omega) r.val (4096 + (l.val)) r.isLt (by omega),
    past_read x0 x1 x2 x3 x4 b 1 (by omega) r.val (4096 + (l.val)) r.isLt (by omega),
    past_zero x0 x1 x2 x3 x4 b r (4096 + (l.val)) (by omega)]
  pointwise [k0_pay20, k0_pay19, k0_pay18, k0_pay17]
  simp only [modu28, modu29]

theorem k_apply (b : BitVec 1) (r l : Fin 512) :
    (k0_pay23 (F := Ideal) (k0_pay22 b (k0_pay29 i x0 x1 x2 x3 x4 x5 x6 x7 x8) (k0_pay21 (k0_pay28 i x0 x1 x2 x3 x4 x5 x6 x7 x8) (View.ld x3 r0_39)) (View.ld x4 r0_40) (View.ld x3 r0_39) (View.ld x4 r0_40) (View.ld x8 r0_41) (View.ld x7 r0_42) (View.ld x7 r0_43) (View.ld x7 r0_44) (View.ld x7 r0_45)) (Scalar.ofBits .f32 0x00000000#32)) (ix2 r l) = silu (kC x0 x1 x2 x3 x4 x7 x8 b r.val (512 + l.val)) := by
  have hl := l.isLt
  rw [kC, dif_pos (show 512 + l.val < 1024 by omega), ← conv_order, silu_sub,
    show (3 - (0 : Fin 4).val) = 3 from rfl, show (3 - (1 : Fin 4).val) = 2 from rfl, show (3 - (2 : Fin 4).val) = 1 from rfl, show (3 - (3 : Fin 4).val) = 0 from rfl,
    show 4096 + (512 + l.val) = 4608 + l.val by omega,
    past_read x0 x1 x2 x3 x4 b 3 (by omega) r.val (4608 + l.val) r.isLt (by omega),
    past_read x0 x1 x2 x3 x4 b 2 (by omega) r.val (4608 + l.val) r.isLt (by omega),
    past_read x0 x1 x2 x3 x4 b 1 (by omega) r.val (4608 + l.val) r.isLt (by omega),
    past_zero x0 x1 x2 x3 x4 b r (4608 + l.val) (by omega)]
  pointwise [k0_pay23, k0_pay22, k0_pay21]
  simp only [modu28, modu29]

theorem out9_apply (r : Fin 512) (d : Fin 6656) :
    out0_9 (F := Ideal) i x0 x1 x2 x3 x4 x5 x6 x7 x8 (ix2 r d) = kG x0 x1 x2 x3 x4 x7 x8 (first i) r.val d.val := by
  unfold out0_9
  refine View.canon_apply_of_pieces (Val := Elt Ideal) (S := S512x6656) (e := .bf16) (fun y => (kG x0 x1 x2 x3 x4 x7 x8 (first i) (y 0).val (y 1).val : EReal)) _ ?_ _ (cover0_9 ..)
  simp only [List.forall_mem_cons]
  refine ⟨fun x => ?_, fun x => ?_, fun x => ?_, fun x => ?_, fun x => ?_, fun x => ?_, fun x => ?_, fun x => ?_, fun x => ?_, fun x => ?_, fun x => ?_, fun x => ?_, fun x => ?_, fun p hp => absurd hp List.not_mem_nil⟩
  · obtain ⟨r, l, rfl⟩ := split512 x
    show _ = kG x0 x1 x2 x3 x4 x7 x8 (first i) (0 + 1 * r.val) (6144 + 1 * l.val)
    rw [Nat.zero_add, Nat.one_mul, Nat.one_mul, kG_plain _ _ _ _ _ _ _ _ _ _ (by omega)]
    pointwise [k0_pay1, k0_pay26, k0_pay27]
    simp only [modu28]
    exact row_eq x0 x2 x3 x4 r _ _
  · obtain ⟨r, l, rfl⟩ := split512 x
    show _ = kG x0 x1 x2 x3 x4 x7 x8 (first i) (0 + 1 * r.val) (5632 + 1 * l.val)
    rw [Nat.zero_add, Nat.one_mul, Nat.one_mul, kG_plain _ _ _ _ _ _ _ _ _ _ (by omega)]
    pointwise [k0_pay25]
    simp only [modu28]
    exact row_eq x0 x2 x3 x4 r _ _
  · obtain ⟨r, l, rfl⟩ := split512 x
    show _ = kG x0 x1 x2 x3 x4 x7 x8 (first i) (0 + 1 * r.val) (5120 + 1 * l.val)
    rw [Nat.zero_add, Nat.one_mul, Nat.one_mul, kG_plain _ _ _ _ _ _ _ _ _ _ (by omega)]
    pointwise [k0_pay24]
    simp only [modu28]
    exact row_eq x0 x2 x3 x4 r _ _
  · obtain ⟨r, l, rfl⟩ := split512 x
    show _ = kG x0 x1 x2 x3 x4 x7 x8 (first i) (0 + 1 * r.val) (4608 + 1 * l.val)
    have hl := l.isLt
    rw [Nat.zero_add, Nat.one_mul, Nat.one_mul, kG, if_neg (by omega), if_neg (by omega), if_neg (by omega), if_neg (by omega), if_pos (by omega), show 4608 + l.val - 4096 = 512 + l.val by omega]
    exact k_apply i x0 x1 x2 x3 x4 x5 x6 x7 x8 (first i) r l
  · obtain ⟨r, l, rfl⟩ := split512 x
    show _ = kG x0 x1 x2 x3 x4 x7 x8 (first i) (0 + 1 * r.val) (4096 + 1 * l.val)
    have hl := l.isLt
    rw [Nat.zero_add, Nat.one_mul, Nat.one_mul, kG, if_neg (by omega), if_neg (by omega), if_neg (by omega), if_pos (by omega), show 4096 + l.val - 4096 = l.val by omega]
    exact q_apply i x0 x1 x2 x3 x4 x5 x6 x7 x8 (first i) r l
  · obtain ⟨r, l, rfl⟩ := split512 x
    show _ = kG x0 x1 x2 x3 x4 x7 x8 (first i) (0 + 1 * r.val) (3584 + 1 * l.val)
    rw [Nat.zero_add, Nat.one_mul, Nat.one_mul, kG_plain _ _ _ _ _ _ _ _ _ _ (by omega)]
    pointwise [k0_pay16]
    simp only [modu28]
    exact row_eq x0 x2 x3 x4 r _ _
  · obtain ⟨r, l, rfl⟩ := split512 x
    show _ = kG x0 x1 x2 x3 x4 x7 x8 (first i) (0 + 1 * r.val) (3072 + 1 * l.val)
    rw [Nat.zero_add, Nat.one_mul, Nat.one_mul, kG_plain _ _ _ _ _ _ _ _ _ _ (by omega)]
    pointwise [k0_pay15, k0_pay14]
    simp only [modu28]
    exact row_eq x0 x2 x3 x4 r _ _
  · obtain ⟨r, l, rfl⟩ := split512 x
    show _ = kG x0 x1 x2 x3 x4 x7 x8 (first i) (0 + 1 * r.val) (2560 + 1 * l.val)
    rw [Nat.zero_add, Nat.one_mul, Nat.one_mul, kG_plain _ _ _ _ _ _ _ _ _ _ (by omega)]
    pointwise [k0_pay13]
    simp only [modu28]
    exact row_eq x0 x2 x3 x4 r _ _
  · obtain ⟨r, l, rfl⟩ := split512 x
    show _ = kG x0 x1 x2 x3 x4 x7 x8 (first i) (0 + 1 * r.val) (2048 + 1 * l.val)
    have hl := l.isLt
    rw [Nat.zero_add, Nat.one_mul, Nat.one_mul, kG, if_neg (by omega), if_pos (by omega)]
    pointwise [k0_pay12]
    simp only [modu28]
    exact congrArg (fun z : EReal => z * Ideal.ofBits .f32 0x3E000000#32) (row_eq x0 x2 x3 x4 r _ _)
  · obtain ⟨r, l, rfl⟩ := split512 x
    show _ = kG x0 x1 x2 x3 x4 x7 x8 (first i) (0 + 1 * r.val) (1536 + 1 * l.val)
    rw [Nat.zero_add, Nat.one_mul, Nat.one_mul, kG_plain _ _ _ _ _ _ _ _ _ _ (by omega)]
    pointwise [k0_pay11]
    simp only [modu28]
    exact row_eq x0 x2 x3 x4 r _ _
  · obtain ⟨r, l, rfl⟩ := split512 x
    show _ = kG x0 x1 x2 x3 x4 x7 x8 (first i) (0 + 1 * r.val) (1024 + 1 * l.val)
    rw [Nat.zero_add, Nat.one_mul, Nat.one_mul, kG_plain _ _ _ _ _ _ _ _ _ _ (by omega)]
    pointwise [k0_pay10]
    simp only [modu28]
    exact row_eq x0 x2 x3 x4 r _ _
  · obtain ⟨r, l, rfl⟩ := split512 x
    show _ = kG x0 x1 x2 x3 x4 x7 x8 (first i) (0 + 1 * r.val) (512 + 1 * l.val)
    rw [Nat.zero_add, Nat.one_mul, Nat.one_mul, kG_plain _ _ _ _ _ _ _ _ _ _ (by omega)]
    pointwise [k0_pay9]
    simp only [modu28]
    exact row_eq x0 x2 x3 x4 r _ _
  · obtain ⟨r, l, rfl⟩ := split512 x
    show _ = kG x0 x1 x2 x3 x4 x7 x8 (first i) (0 + 1 * r.val) (0 + 1 * l.val)
    rw [Nat.zero_add, Nat.one_mul, Nat.one_mul, kG_plain _ _ _ _ _ _ _ _ _ _ (by omega)]
    pointwise [k0_pay8]
    simp only [modu28]
    exact row_eq x0 x2 x3 x4 r _ _

end Cert.Kernel3Ideal.In

end
-- ==== Proof.InRef.lean ====
module

public import proofs.«01_k».proof.Proof.InMath
public import proofs.«01_k».proof.Proof.Gen.Reference3Ideal.Read
public import Idealize.ShloMosaic.Lib.Pipeline.ValueKit
public import Idealize.ShloMosaic.Lib.Pointwise

@[expose] public section

/-! The reference of the start of a layer, read token by token. -/

set_option maxRecDepth 16384

noncomputable section

namespace Cert.Reference3Ideal.In

open Cert.Reference3Ideal Cert.Reference3Ideal.Gen Cert.Reference3Ideal.Read Cert.In
open Idealize.ShloMosaic Idealize.ShloMosaic.TcCoe Idealize.SL.Sem

variable (x0 : FVec Ideal S65536x1024 .f32) (x1 : FVec Ideal S32x3x1x1024 .f32) (x2 : FVec Ideal S1024x6664 .f32) (x3 : FVec Ideal S6664 .f32) (x4 : FVec Ideal S4x1024 .f32) (x5 : FVec Ideal S1024 .f32)

/-- The projection of token `s` to column `d` of the combined weights, nought outside the array. -/
def P (s d : ℕ) : EReal :=
  if h : s < 65536 ∧ d < 6664 then
    lin (fun k => x0 (ix2 (⟨s, h.1⟩ : Fin 65536) k)) (fun k => x1 (ix4 (⟨s / 2048, by omega⟩ : Fin 32) 1 0 k)) (fun k => x1 (ix4 (⟨s / 2048, by omega⟩ : Fin 32) 0 0 k)) (fun k => x2 (ix2 k (⟨d, h.2⟩ : Fin 6664))) (x3 (ix1 (⟨d, h.2⟩ : Fin 6664)))
  else 0

/-- The convolution at token `s` of column `e` of the queries and keys: the tokens before a sequence count nought. -/
def C (s e : ℕ) : EReal :=
  if h : e < 1024 then
    conv (fun j => x4 (ix2 j (⟨e, h⟩ : Fin 1024))) (fun j => if 3 - j.val ≤ s % 2048 then P x0 x1 x2 x3 (s - (3 - j.val)) (2048 + e) else 0) (x5 (ix1 (⟨e, h⟩ : Fin 1024)))
  else 0

/-- The heads' columns of token `s`, in the order of the call's result. -/
def G (s d : ℕ) : EReal :=
  if d < 2048 then P x0 x1 x2 x3 s (4616 + d)
  else if d < 2560 then P x0 x1 x2 x3 s (d - 2048) * Ideal.ofBits .f32 0x3E000000#32
  else if d < 4096 then P x0 x1 x2 x3 s (d - 2048)
  else if d < 4608 then silu (C x0 x1 x2 x3 x4 x5 s (d - 4096)) * Ideal.ofBits .f32 0x3DB504F3#32
  else if d < 5120 then silu (C x0 x1 x2 x3 x4 x5 s (d - 4096))
  else P x0 x1 x2 x3 s (d - 2048)

/-- The modulated stream at a batch's position. -/
theorem modu_apply (b : Fin 32) (p : Fin 2048) (k : Fin 1024) :
    val_main_v13 (F := Ideal) x0 x1 (ix3 b p k)
      = modu (fun k => x0 (ix2 ⟨b.val * 2048 + p.val, by omega⟩ k)) (fun k => x1 (ix4 b 1 0 k)) (fun k => x1 (ix4 b 0 0 k)) k := by
  pointwise [val_main_v13, val_main_v12, val_main_v11, val_main_v10, val_main_v9, val_main_v8, val_main_v7, val_main_v6, val_main_v5, val_main_v4, val_main_v3, val_main_v2, val_main_v1, val_main_v0, val_main_cst]
  rfl

/-- The projection at a token. -/
theorem P_apply (s : Fin 65536) (d : Fin 6664) : val_main_v18 (F := Ideal) x0 x1 x2 x3 (ix2 s d) = P x0 x1 x2 x3 s.val d.val := by
  have hs : (⟨s.val / 2048 * 2048 + s.val % 2048, by omega⟩ : Fin 65536) = s := Fin.ext (by dsimp only; omega)
  rw [P, dif_pos ⟨s.isLt, d.isLt⟩]
  pointwise [val_main_v18, val_main_v17, val_main_v16, val_main_v15, val_main_v14]
  simp only [modu_apply, hs]
  rfl

/-- The integer nought reads as the number nought. -/
theorem sitofp_zero : (FloatOps.sitofp FTy.f32 (0#32 : BitVec 32) : Ideal .f32) = (0 : EReal) := by
  show ((((0#32 : BitVec 32).toInt : ℝ)) : EReal) = 0
  simp

/-- The convolution at a batch's position. -/
theorem conv_apply (b : Fin 32) (p : Fin 2048) (e : Fin 1024) :
    val_main_v56 (F := Ideal) x0 x1 x2 x3 x4 x5 (ix3 b p e) = C x0 x1 x2 x3 x4 x5 (b.val * 2048 + p.val) e.val := by
  rw [C, dif_pos e.isLt]
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v21, val_main_c, val_main_call0_v0]
  simp only [P_apply, sitofp_zero]
  have hm : (b.val * 2048 + p.val) % 2048 = p.val := by omega
  have hp := p.isLt
  have h0 : ((if h : 3 ≤ p.val ∧ p.val - 3 < 2048 then P x0 x1 x2 x3 (b.val * 2048 + (p.val - 3)) (2048 + e.val) else 0) : EReal)
      = if 3 - 0 ≤ (b.val * 2048 + p.val) % 2048 then P x0 x1 x2 x3 (b.val * 2048 + p.val - (3 - 0)) (2048 + e.val) else 0 := by
    rw [hm]
    by_cases h : 3 ≤ p.val
    · rw [dif_pos ⟨h, by omega⟩, if_pos (by omega)]; congr 1; omega
    · rw [dif_neg (by omega), if_neg (by omega)]
  have h1 : ((if h : 3 ≤ 1 + p.val ∧ 1 + p.val - 3 < 2048 then P x0 x1 x2 x3 (b.val * 2048 + (1 + p.val - 3)) (2048 + e.val) else 0) : EReal)
      = if 3 - 1 ≤ (b.val * 2048 + p.val) % 2048 then P x0 x1 x2 x3 (b.val * 2048 + p.val - (3 - 1)) (2048 + e.val) else 0 := by
    rw [hm]
    by_cases h : 2 ≤ p.val
    · rw [dif_pos ⟨by omega, by omega⟩, if_pos (by omega)]; congr 1; omega
    · rw [dif_neg (by omega), if_neg (by omega)]
  have h2 : ((if h : 3 ≤ 2 + p.val ∧ 2 + p.val - 3 < 2048 then P x0 x1 x2 x3 (b.val * 2048 + (2 + p.val - 3)) (2048 + e.val) else 0) : EReal)
      = if 3 - 2 ≤ (b.val * 2048 + p.val) % 2048 then P x0 x1 x2 x3 (b.val * 2048 + p.val - (3 - 2)) (2048 + e.val) else 0 := by
    rw [hm]
    by_cases h : 1 ≤ p.val
    · rw [dif_pos ⟨by omega, by omega⟩, if_pos (by omega)]; congr 1; omega
    · rw [dif_neg (by omega), if_neg (by omega)]
  rw [h0, h1, h2]
  rfl

/-- The reference's first result: the heads' columns. -/
theorem main_apply (s : Fin 65536) (d : Fin 6656) :
    val_main_v66 (F := Ideal) x0 x1 x2 x3 x4 x5 (ix2 s d) = G x0 x1 x2 x3 x4 x5 s.val d.val := by
  have hs : s.val / 2048 * 2048 + s.val % 2048 = s.val := by omega
  have hd := d.isLt
  pointwise [val_main_v66, val_main_v65, val_main_v64, val_main_v63, val_main_v62, val_main_v61, val_main_v60, val_main_v59, val_main_v58, val_main_v57, val_main_call1_v5, val_main_call1_v4, val_main_call1_v3, val_main_call1_v2, val_main_call1_v1, val_main_call1_v0, val_main_call1_cst, val_main_call1_cst_0, val_main_cst_0, val_main_cst_1, val_main_v24, val_main_v22, val_main_v20, val_main_v19]
  simp only [P_apply, conv_apply, hs]
  unfold G silu
  by_cases g0 : d.val < 2048
  · rw [dif_pos g0, if_pos g0]
  rw [dif_neg g0, if_neg g0]
  by_cases g1 : d.val < 2560
  · rw [dif_pos (by omega), if_pos g1]
  rw [dif_neg (by omega), if_neg g1]
  by_cases g2 : d.val < 4096
  · rw [dif_pos (by omega), if_pos g2]; exact congrArg (P x0 x1 x2 x3 s.val) (by omega)
  rw [dif_neg (by omega), if_neg g2]
  by_cases g3 : d.val < 4608
  · rw [dif_pos (by omega), if_pos g3, show d.val - 2048 - 512 - 1536 = d.val - 4096 by omega]
  rw [dif_neg (by omega), if_neg g3]
  by_cases g4 : d.val < 5120
  · rw [dif_pos (by omega), if_pos g4, show 512 + (d.val - 2048 - 512 - 1536 - 512) = d.val - 4096 by omega]
  rw [dif_neg (by omega), if_neg g4]
  exact congrArg (P x0 x1 x2 x3 s.val) (by omega)

/-- The reference's second result: eight gate columns, and noughts. -/
theorem gates_apply (s : Fin 65536) (d : Fin 128) :
    val_main_v67 (F := Ideal) x0 x1 x2 x3 (ix2 s d) = if d.val < 8 then P x0 x1 x2 x3 s.val (4608 + d.val) else 0 := by
  pointwise [val_main_v67, val_main_call2_v0, val_main_c_2, val_main_v23]
  simp only [P_apply, sitofp_zero]
  by_cases h : d.val < 8
  · rw [dif_pos h, if_pos h]
  · rw [dif_neg h, if_neg h]

end Cert.Reference3Ideal.In

end
-- ==== Proof.InValue.lean ====
module

public import proofs.«01_k».proof.Defs
public import proofs.«01_k».proof.Proof.InPure
public import proofs.«01_k».proof.Proof.InRef
public import proofs.«01_k».proof.Proof.Gen.Reference3Ideal.Run
public import proofs.«01_k».proof.Proof.Gen.Kernel3Ideal.Value
public import Idealize.ShloMosaic.Lib.Pipeline.ValueKit
public import Idealize.ShloMosaic.Lib.Pointwise

@[expose] public section

/-! The call that begins a layer: its blocks in the arguments, and the equality with the reference. -/

set_option maxRecDepth 16384

noncomputable section

namespace Cert.Kernel3Ideal.In

open Cert.Kernel3Ideal Cert.Kernel3Ideal.Gen Cert.In
open Idealize.ShloMosaic Idealize.ShloMosaic.TcCoe Idealize.SL.Sem

/-- The combined weights' column that a column of the result is projected with. -/
def col (d : ℕ) : ℕ := if d < 2048 then 4616 + d else d - 2048

theorem col_lt (d : Fin 6656) : col d.val < 6664 := by
  unfold col
  split <;> omega

/-- The heads' weights as the call forms them. -/
def wm (w : FVec Ideal S1024x6664 .f32) : FVec Ideal S1024x6656 .bf16 :=
  truncf (F := Ideal) (s := S1024x6656) (φ := .f32) .bf16 (concatenate S1024x6656 1 [⟨S1024x2048, extractStridedSlice S1024x2048 ![0, 4616] w slices_S1024x6664_S1024x2048_0_4616⟩, ⟨S1024x4608, extractStridedSlice S1024x4608 ![0, 0] w slices_S1024x6664_S1024x4608_0_0⟩] concatenates_S1024x2048_S1024x4608_S1024x6656_d1) bitsLt_bf16_f32

/-- The heads' offsets as the call forms them. -/
def bm (b : FVec Ideal S6664 .f32) : FVec Ideal S1x6656 .f32 :=
  broadcastInDim S1x6656 ![1] bcast_S6656_S1x6656_1 (concatenate S6656 0 [⟨S2048, extractStridedSlice S2048 ![4616] b slices_S6664_S2048_4616⟩, ⟨S4608, extractStridedSlice S4608 ![0] b slices_S6664_S4608_0⟩] concatenates_S2048_S4608_S6656_d0)

/-- The gates' weights, padded with noughts. -/
def wg (w : FVec Ideal S1024x6664 .f32) : FVec Ideal S1024x128 .bf16 :=
  truncf (F := Ideal) (s := S1024x128) (φ := .f32) .bf16 (pad S1024x128 ![0, 0] ![0, 120] ![0, 0] (extractStridedSlice S1024x8 ![0, 4608] w slices_S1024x6664_S1024x8_0_4608) (sitofp (F := Ideal) (s := S_) .f32 (constantI S_ 32 0#32)) pads_S1024x8_S1024x128_000_01200 h_S_) bitsLt_bf16_f32

/-- The gates' offsets, padded with noughts. -/
def bg (b : FVec Ideal S6664 .f32) : FVec Ideal S1x128 .f32 :=
  broadcastInDim S1x128 ![1] bcast_S128_S1x128_1 (pad S128 ![0] ![120] ![0] (extractStridedSlice S8 ![4608] b slices_S6664_S8_4608) (sitofp (F := Ideal) (s := S_) .f32 (constantI S_ 32 0#32)) pads_S8_S128_01200 h_S_)

theorem wm_apply (w : FVec Ideal S1024x6664 .f32) (k : Fin 1024) (d : Fin 6656) : wm w (ix2 k d) = w (ix2 k ⟨col d.val, col_lt d⟩) := by
  pointwise [wm]
  by_cases h : d.val < 2048
  · rw [dif_pos h]
    exact congrArg (fun q => w (ix2 k q)) (Fin.ext (show 4616 + d.val = col d.val by rw [col, if_pos h]))
  · rw [dif_neg h]
    exact congrArg (fun q => w (ix2 k q)) (Fin.ext (show d.val - 2048 = col d.val by rw [col, if_neg h]))

theorem bm_apply (b : FVec Ideal S6664 .f32) (d : Fin 6656) : bm b (ix2 0 d) = b (ix1 ⟨col d.val, col_lt d⟩) := by
  pointwise [bm]
  by_cases h : d.val < 2048
  · rw [dif_pos h]
    exact congrArg (fun q => b (ix1 q)) (Fin.ext (show 4616 + d.val = col d.val by rw [col, if_pos h]))
  · rw [dif_neg h]
    exact congrArg (fun q => b (ix1 q)) (Fin.ext (show d.val - 2048 = col d.val by rw [col, if_neg h]))

theorem wg_apply (w : FVec Ideal S1024x6664 .f32) (k : Fin 1024) (d : Fin 128) : wg w (ix2 k d) = if h : d.val < 8 then w (ix2 k ⟨4608 + d.val, by omega⟩) else (0 : EReal) := by
  pointwise [wg]
  rw [Cert.Reference3Ideal.In.sitofp_zero]

theorem bg_apply (b : FVec Ideal S6664 .f32) (d : Fin 128) : bg b (ix2 0 d) = if h : d.val < 8 then b (ix1 ⟨4608 + d.val, by omega⟩) else (0 : EReal) := by
  pointwise [bg]
  rw [Cert.Reference3Ideal.In.sitofp_zero]

variable (m : (ℓ : Loc nD τ sig) → Buf (Elt Ideal) ℓ)

theorem V_3 (c : Dev nD) : V (F := Ideal) m c main_v3 = wm (m ((c : Thread nD τ).loc main_arg2)) := by
  simp only [V, hostOps0, hostOps0_1, hostOps0_2, hostOps0_3, hostOps0_4, List.flatten_cons, List.flatten_nil, List.cons_append, List.nil_append, List.append_nil]
  after_results
  rfl

theorem V_7 (c : Dev nD) : V (F := Ideal) m c main_v7 = bm (m ((c : Thread nD τ).loc main_arg3)) := by
  simp only [V, hostOps0, hostOps0_1, hostOps0_2, hostOps0_3, hostOps0_4, List.flatten_cons, List.flatten_nil, List.cons_append, List.nil_append, List.append_nil]
  after_results
  rfl

theorem V_10 (c : Dev nD) : V (F := Ideal) m c main_v10 = wg (m ((c : Thread nD τ).loc main_arg2)) := by
  simp only [V, hostOps0, hostOps0_1, hostOps0_2, hostOps0_3, hostOps0_4, List.flatten_cons, List.flatten_nil, List.cons_append, List.nil_append, List.append_nil]
  after_results
  rfl

theorem V_13 (c : Dev nD) : V (F := Ideal) m c main_v13 = bg (m ((c : Thread nD τ).loc main_arg3)) := by
  simp only [V, hostOps0, hostOps0_1, hostOps0_2, hostOps0_3, hostOps0_4, List.flatten_cons, List.flatten_nil, List.cons_append, List.nil_append, List.append_nil]
  after_results
  rfl

theorem V_14 (c : Dev nD) : V (F := Ideal) m c main_v14 = broadcastInDim S1x1024 ![1] bcast_S1024_S1x1024_1 (m ((c : Thread nD τ).loc main_arg5)) := by
  simp only [V, hostOps0, hostOps0_1, hostOps0_2, hostOps0_3, hostOps0_4, List.flatten_cons, List.flatten_nil, List.cons_append, List.nil_append, List.append_nil]
  after_results

/-- Grid point `t` works on tokens `512 t, …`, with the eight before them, of sequence `t / 4`; the weights are whole. -/
theorem idx0 : ∀ (t : Fin cfg0.N) (a : Fin 2), win0_0.index t a = ![t.val, 0] a := by decide +kernel
theorem idx1 : ∀ (t : Fin cfg0.N) (a : Fin 2), win0_1.index t a = ![64 * t.val - 1, 0] a := by decide +kernel
theorem idx2 : ∀ (t : Fin cfg0.N) (a : Fin 4), win0_2.index t a = ![t.val / 4, 0, 0, 0] a := by decide +kernel
theorem idx3 : ∀ (t : Fin cfg0.N) (a : Fin 2), win0_3.index t a = ![0, 0] a := by decide +kernel
theorem idx4 : ∀ (t : Fin cfg0.N) (a : Fin 2), win0_4.index t a = ![0, 0] a := by decide +kernel
theorem idx5 : ∀ (t : Fin cfg0.N) (a : Fin 2), win0_5.index t a = ![0, 0] a := by decide +kernel
theorem idx6 : ∀ (t : Fin cfg0.N) (a : Fin 2), win0_6.index t a = ![0, 0] a := by decide +kernel
theorem idx7 : ∀ (t : Fin cfg0.N) (a : Fin 2), win0_7.index t a = ![0, 0] a := by decide +kernel
theorem idx8 : ∀ (t : Fin cfg0.N) (a : Fin 2), win0_8.index t a = ![0, 0] a := by decide +kernel
theorem idx9 : ∀ (t : Fin cfg0.N) (a : Fin 2), win0_9.index t a = ![t.val, 0] a := by decide +kernel
theorem idx10 : ∀ (t : Fin cfg0.N) (a : Fin 2), win0_10.index t a = ![t.val, 0] a := by decide +kernel

theorem tN (t : Fin cfg0.N) : t.val < 128 := lt_of_lt_of_eq t.isLt (by decide +kernel)

/-- A block is the first of its sequence where the point's number is a multiple of four. -/
theorem first_eq : ∀ t : Fin cfg0.N, first (grid0.coords t) = if t.val % 4 = 0 then 1#1 else 0#1 := by decide +kernel

theorem blk0 (c : Dev nD) (t : Fin cfg0.N) (r : Fin 512) (k : Fin 1024) (h : 512 * t.val + r.val < 65536) :
    iblk (F := Ideal) m c 0 t (ix2 r k) = (m ((c : Thread nD τ).loc main_arg0) : FVec Ideal S65536x1024 .f32) (ix2 ⟨512 * t.val + r.val, h⟩ k) := by
  blk_simp [iblk]
  refine congrArg (m ((c : Thread nD τ).loc main_arg0) : FVec Ideal S65536x1024 .f32) (funext fun a => Fin.ext ?_)
  match a with
  | ⟨0, _⟩ => show win0_0.index t 0 * 512 + 1 * r.val = 512 * t.val + r.val; rw [idx0]; show t.val * 512 + 1 * r.val = _; omega
  | ⟨1, _⟩ => show win0_0.index t 1 * 1024 + 1 * k.val = k.val; rw [idx0]; show 0 * 1024 + 1 * k.val = _; omega

theorem blk1 (c : Dev nD) (t : Fin cfg0.N) (ht : 0 < t.val) (r : Fin 8) (k : Fin 1024) (h : 512 * t.val + r.val - 8 < 65536) :
    iblk (F := Ideal) m c 1 t (ix2 r k) = (m ((c : Thread nD τ).loc main_arg0) : FVec Ideal S65536x1024 .f32) (ix2 ⟨512 * t.val + r.val - 8, h⟩ k) := by
  blk_simp [iblk]
  refine congrArg (m ((c : Thread nD τ).loc main_arg0) : FVec Ideal S65536x1024 .f32) (funext fun a => Fin.ext ?_)
  match a with
  | ⟨0, _⟩ => show win0_1.index t 0 * 8 + 1 * r.val = 512 * t.val + r.val - 8; rw [idx1]; show (64 * t.val - 1) * 8 + 1 * r.val = _; omega
  | ⟨1, _⟩ => show win0_1.index t 1 * 1024 + 1 * k.val = k.val; rw [idx1]; show 0 * 1024 + 1 * k.val = _; omega

theorem blk2 (c : Dev nD) (t : Fin cfg0.N) (j : Fin 3) (k : Fin 1024) (h : t.val / 4 < 32) :
    iblk (F := Ideal) m c 2 t (ix4 (0 : Fin 1) j (0 : Fin 1) k) = (m ((c : Thread nD τ).loc main_arg1) : FVec Ideal S32x3x1x1024 .f32) (ix4 ⟨t.val / 4, h⟩ j 0 k) := by
  blk_simp [iblk]
  refine congrArg (m ((c : Thread nD τ).loc main_arg1) : FVec Ideal S32x3x1x1024 .f32) (funext fun a => Fin.ext ?_)
  match a with
  | ⟨0, _⟩ => show win0_2.index t 0 * 1 + 1 * 0 = t.val / 4; rw [idx2]; show t.val / 4 * 1 + 0 = _; omega
  | ⟨1, _⟩ => show win0_2.index t 1 * 3 + 1 * j.val = j.val; rw [idx2]; show 0 * 3 + 1 * j.val = _; omega
  | ⟨2, _⟩ => show win0_2.index t 2 * 1 + 1 * 0 = 0; rw [idx2]; rfl
  | ⟨3, _⟩ => show win0_2.index t 3 * 1024 + 1 * k.val = k.val; rw [idx2]; show 0 * 1024 + 1 * k.val = _; omega

theorem whole3 (c : Dev nD) (t : Fin cfg0.N) (k : Fin 1024) (d : Fin 6656) :
    iblk (F := Ideal) m c 3 t (ix2 k d) = wm (m ((c : Thread nD τ).loc main_arg2)) (ix2 k d) := by
  blk_simp [iblk]
  show V (F := Ideal) m c main_v3 _ = _
  rw [V_3]
  refine congrArg (wm (m ((c : Thread nD τ).loc main_arg2))) (funext fun a => Fin.ext ?_)
  match a with
  | ⟨0, _⟩ => show win0_3.index t 0 * 1024 + 1 * k.val = k.val; rw [idx3]; show 0 * 1024 + 1 * k.val = _; omega
  | ⟨1, _⟩ => show win0_3.index t 1 * 6656 + 1 * d.val = d.val; rw [idx3]; show 0 * 6656 + 1 * d.val = _; omega

theorem whole4 (c : Dev nD) (t : Fin cfg0.N) (d : Fin 6656) :
    iblk (F := Ideal) m c 4 t (ix2 (0 : Fin 1) d) = bm (m ((c : Thread nD τ).loc main_arg3)) (ix2 (0 : Fin 1) d) := by
  blk_simp [iblk]
  show V (F := Ideal) m c main_v7 _ = _
  rw [V_7]
  refine congrArg (bm (m ((c : Thread nD τ).loc main_arg3))) (funext fun a => Fin.ext ?_)
  match a with
  | ⟨0, _⟩ => show win0_4.index t 0 * 1 + 1 * 0 = 0; rw [idx4]; rfl
  | ⟨1, _⟩ => show win0_4.index t 1 * 6656 + 1 * d.val = d.val; rw [idx4]; show 0 * 6656 + 1 * d.val = _; omega

theorem whole5 (c : Dev nD) (t : Fin cfg0.N) (k : Fin 1024) (d : Fin 128) :
    iblk (F := Ideal) m c 5 t (ix2 k d) = wg (m ((c : Thread nD τ).loc main_arg2)) (ix2 k d) := by
  blk_simp [iblk]
  show V (F := Ideal) m c main_v10 _ = _
  rw [V_10]
  refine congrArg (wg (m ((c : Thread nD τ).loc main_arg2))) (funext fun a => Fin.ext ?_)
  match a with
  | ⟨0, _⟩ => show win0_5.index t 0 * 1024 + 1 * k.val = k.val; rw [idx5]; show 0 * 1024 + 1 * k.val = _; omega
  | ⟨1, _⟩ => show win0_5.index t 1 * 128 + 1 * d.val = d.val; rw [idx5]; show 0 * 128 + 1 * d.val = _; omega

theorem whole6 (c : Dev nD) (t : Fin cfg0.N) (d : Fin 128) :
    iblk (F := Ideal) m c 6 t (ix2 (0 : Fin 1) d) = bg (m ((c : Thread nD τ).loc main_arg3)) (ix2 (0 : Fin 1) d) := by
  blk_simp [iblk]
  show V (F := Ideal) m c main_v13 _ = _
  rw [V_13]
  refine congrArg (bg (m ((c : Thread nD τ).loc main_arg3))) (funext fun a => Fin.ext ?_)
  match a with
  | ⟨0, _⟩ => show win0_6.index t 0 * 1 + 1 * 0 = 0; rw [idx6]; rfl
  | ⟨1, _⟩ => show win0_6.index t 1 * 128 + 1 * d.val = d.val; rw [idx6]; show 0 * 128 + 1 * d.val = _; omega

theorem blk7 (c : Dev nD) (t : Fin cfg0.N) (j : Fin 4) (k : Fin 1024) :
    iblk (F := Ideal) m c 7 t (ix2 j k) = (m ((c : Thread nD τ).loc main_arg4) : FVec Ideal S4x1024 .f32) (ix2 j k) := by
  blk_simp [iblk]
  refine congrArg (m ((c : Thread nD τ).loc main_arg4) : FVec Ideal S4x1024 .f32) (funext fun a => Fin.ext ?_)
  match a with
  | ⟨0, _⟩ => show win0_7.index t 0 * 4 + 1 * j.val = j.val; rw [idx7]; show 0 * 4 + 1 * j.val = _; omega
  | ⟨1, _⟩ => show win0_7.index t 1 * 1024 + 1 * k.val = k.val; rw [idx7]; show 0 * 1024 + 1 * k.val = _; omega

theorem blk8 (c : Dev nD) (t : Fin cfg0.N) (k : Fin 1024) :
    iblk (F := Ideal) m c 8 t (ix2 (0 : Fin 1) k) = (m ((c : Thread nD τ).loc main_arg5) : FVec Ideal S1024 .f32) (ix1 k) := by
  blk_simp [iblk]
  show V (F := Ideal) m c main_v14 _ = _
  rw [V_14]
  refine broadcastInDim_apply _ bcast_S1024_S1x1024_1 (m ((c : Thread nD τ).loc main_arg5) : FVec Ideal S1024 .f32) _ (ix1 k) fun a => ?_
  match a with
  | ⟨0, _⟩ => show k.val = if (1024 : Nat) = 1 then 0 else win0_8.index t 1 * 1024 + 1 * k.val; rw [idx8]; show k.val = 0 * 1024 + 1 * k.val; omega

/-- A block's row is projected as its token. -/
theorem row_P (c : Dev nD) (t : Fin cfg0.N) (r d : ℕ) (hr : r < 512) (hd : d < 6656) :
    row (iblk (F := Ideal) m c 0 t) (iblk (F := Ideal) m c 2 t) (iblk (F := Ideal) m c 3 t) (iblk (F := Ideal) m c 4 t) r d = Cert.Reference3Ideal.In.P (m ((c : Thread nD τ).loc main_arg0)) (m ((c : Thread nD τ).loc main_arg1)) (m ((c : Thread nD τ).loc main_arg2)) (m ((c : Thread nD τ).loc main_arg3)) (512 * t.val + r) (col d) := by
  have ht := tN t
  have h : 512 * t.val + r < 65536 := by omega
  have hb : (⟨(512 * t.val + r) / 2048, by omega⟩ : Fin 32) = ⟨t.val / 4, by omega⟩ := Fin.ext (by dsimp only; omega)
  rw [row, dif_pos ⟨hr, hd⟩, Cert.Reference3Ideal.In.P, dif_pos ⟨h, col_lt ⟨d, hd⟩⟩, hb]
  simp only [blk0 m c t ⟨r, hr⟩ _ h, blk2 m c t _ _ (show t.val / 4 < 32 by omega), whole3, whole4, wm_apply, bm_apply]

/-- A row before the block is projected as its token, where the block is not the first of its sequence. -/
theorem halo_P (c : Dev nD) (t : Fin cfg0.N) (h4 : t.val % 4 ≠ 0) (r d : ℕ) (hr : r < 8) (hd : d < 6656) :
    halo (iblk (F := Ideal) m c 1 t) (iblk (F := Ideal) m c 2 t) (iblk (F := Ideal) m c 3 t) (iblk (F := Ideal) m c 4 t) r d = Cert.Reference3Ideal.In.P (m ((c : Thread nD τ).loc main_arg0)) (m ((c : Thread nD τ).loc main_arg1)) (m ((c : Thread nD τ).loc main_arg2)) (m ((c : Thread nD τ).loc main_arg3)) (512 * t.val + r - 8) (col d) := by
  have ht := tN t
  have h : 512 * t.val + r - 8 < 65536 := by omega
  have hb : (⟨(512 * t.val + r - 8) / 2048, by omega⟩ : Fin 32) = ⟨t.val / 4, by omega⟩ := Fin.ext (by dsimp only; omega)
  rw [halo, dif_pos ⟨hr, hd⟩, Cert.Reference3Ideal.In.P, dif_pos ⟨h, col_lt ⟨d, hd⟩⟩, hb]
  simp only [blk1 m c t (by omega) ⟨r, hr⟩ _ h, blk2 m c t _ _ (show t.val / 4 < 32 by omega), whole3, whole4, wm_apply, bm_apply]

/-- The row `n` before is the token `n` before, within the sequence. -/
theorem past_P (c : Dev nD) (t : Fin cfg0.N) (n r d : ℕ) (hn : n ≤ 3) (hr : r < 512) (hd : d < 6656) :
    past (iblk (F := Ideal) m c 0 t) (iblk (F := Ideal) m c 1 t) (iblk (F := Ideal) m c 2 t) (iblk (F := Ideal) m c 3 t) (iblk (F := Ideal) m c 4 t) (first (grid0.coords t)) n r d
      = if n ≤ (512 * t.val + r) % 2048 then Cert.Reference3Ideal.In.P (m ((c : Thread nD τ).loc main_arg0)) (m ((c : Thread nD τ).loc main_arg1)) (m ((c : Thread nD τ).loc main_arg2)) (m ((c : Thread nD τ).loc main_arg3)) (512 * t.val + r - n) (col d) else 0 := by
  rw [past, first_eq t]
  by_cases h : n ≤ r
  · rw [if_pos h, if_pos (by omega), row_P m c t (r - n) d (by omega) hd]
    exact congrArg (fun q => Cert.Reference3Ideal.In.P (m ((c : Thread nD τ).loc main_arg0)) (m ((c : Thread nD τ).loc main_arg1)) (m ((c : Thread nD τ).loc main_arg2)) (m ((c : Thread nD τ).loc main_arg3)) q (col d)) (by omega)
  · rw [if_neg h]
    by_cases h4 : t.val % 4 = 0
    · rw [if_pos h4, if_neg (by omega)]
      rfl
    · rw [if_neg h4, if_pos (by omega), halo_P m c t h4 (8 + r - n) d (by omega) hd]
      exact congrArg (fun q => Cert.Reference3Ideal.In.P (m ((c : Thread nD τ).loc main_arg0)) (m ((c : Thread nD τ).loc main_arg1)) (m ((c : Thread nD τ).loc main_arg2)) (m ((c : Thread nD τ).loc main_arg3)) q (col d)) (by omega)

/-- A block's convolution is its token's. -/
theorem kC_C (c : Dev nD) (t : Fin cfg0.N) (r e : ℕ) (hr : r < 512) (he : e < 1024) :
    kC (iblk (F := Ideal) m c 0 t) (iblk (F := Ideal) m c 1 t) (iblk (F := Ideal) m c 2 t) (iblk (F := Ideal) m c 3 t) (iblk (F := Ideal) m c 4 t) (iblk (F := Ideal) m c 7 t) (iblk (F := Ideal) m c 8 t) (first (grid0.coords t)) r e = Cert.Reference3Ideal.In.C (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (512 * t.val + r) e := by
  have hc : col (4096 + e) = 2048 + e := by
    rw [col, if_neg (by omega)]
    omega
  rw [kC, dif_pos he, Cert.Reference3Ideal.In.C, dif_pos he]
  simp only [blk7, blk8, past_P m c t _ r (4096 + e) (Nat.sub_le 3 _) hr (by omega), hc]

/-- A block's columns are its token's. -/
theorem kG_G (c : Dev nD) (t : Fin cfg0.N) (r d : ℕ) (hr : r < 512) (hd : d < 6656) :
    kG (iblk (F := Ideal) m c 0 t) (iblk (F := Ideal) m c 1 t) (iblk (F := Ideal) m c 2 t) (iblk (F := Ideal) m c 3 t) (iblk (F := Ideal) m c 4 t) (iblk (F := Ideal) m c 7 t) (iblk (F := Ideal) m c 8 t) (first (grid0.coords t)) r d = Cert.Reference3Ideal.In.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (512 * t.val + r) d := by
  rw [kG, Cert.Reference3Ideal.In.G, row_P m c t r d hr hd]
  by_cases h0 : d < 2048
  · rw [if_pos h0, if_pos h0, col, if_pos h0]
  rw [if_neg h0, if_neg h0, col, if_neg h0]
  by_cases h1 : d < 4096
  · rw [if_pos h1, if_pos h1]
  rw [if_neg h1, if_neg h1]
  by_cases h2 : d < 5120
  · rw [kC_C m c t r (d - 4096) hr (by omega)]
  rw [if_neg h2, if_neg h2, if_neg (show ¬ d < 4608 by omega), if_neg (show ¬ d < 4608 by omega)]

/-- The heads' columns are the reference's: every row is written once, by the point that holds it. -/
theorem final_main (c : Dev nD) :
    (dats (F := Ideal) m 0 c).arrAt 9 cfg0.N = Cert.Reference3Ideal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats (F := Ideal) m 0 c).arrAt_eq_of_covers 9 _ (by decide +kernel) fun t hf y => ?_
  blk_simp
  rw [after0_9]
  have ht := tN t
  have q0 : (y 0).val < 512 := (y 0).isLt
  have q1 : (y 1).val < 6656 := (y 1).isLt
  obtain ⟨r, l, rfl⟩ : ∃ (r : Fin 512) (l : Fin 6656), y = ix2 r l := ⟨⟨_, q0⟩, ⟨_, q1⟩, by
    funext a
    match a with
    | ⟨0, _⟩ => rfl
    | ⟨1, _⟩ => rfl⟩
  have hr := r.isLt
  have he : (win0_9.blk t).view.emb (ix2 r l) = ix2 (⟨512 * t.val + r.val, by omega⟩ : Fin 65536) l :=
    funext fun a => Fin.ext (by
      match a with
      | ⟨0, _⟩ => show win0_9.index t 0 * 512 + 1 * r.val = 512 * t.val + r.val; rw [idx9]; show t.val * 512 + 1 * r.val = _; omega
      | ⟨1, _⟩ => show win0_9.index t 1 * 6656 + 1 * l.val = l.val; rw [idx9]; show 0 * 6656 + 1 * l.val = _; omega)
  refine (out9_apply _ _ _ _ _ _ _ _ _ _ r l).trans (Eq.trans ?_ ((congrArg _ he).trans (Cert.Reference3Ideal.In.main_apply _ _ _ _ _ _ (⟨512 * t.val + r.val, by omega⟩ : Fin 65536) l)).symm)
  exact kG_G m c t r.val l.val r.isLt l.isLt

/-- The gates' columns are the reference's. -/
theorem final_gates (c : Dev nD) :
    (dats (F := Ideal) m 0 c).arrAt 10 cfg0.N = Cert.Reference3Ideal.Read.val_main_v67 (F := Ideal) (m ((c : Thread nD τ).loc main_arg0)) (m ((c : Thread nD τ).loc main_arg1)) (m ((c : Thread nD τ).loc main_arg2)) (m ((c : Thread nD τ).loc main_arg3)) := by
  refine (dats (F := Ideal) m 0 c).arrAt_eq_of_covers 10 _ (by decide +kernel) fun t hf y => ?_
  blk_simp
  rw [after0_10]
  have ht := tN t
  have q0 : (y 0).val < 512 := (y 0).isLt
  have q1 : (y 1).val < 128 := (y 1).isLt
  obtain ⟨r, l, rfl⟩ : ∃ (r : Fin 512) (l : Fin 128), y = ix2 r l := ⟨⟨_, q0⟩, ⟨_, q1⟩, by
    funext a
    match a with
    | ⟨0, _⟩ => rfl
    | ⟨1, _⟩ => rfl⟩
  have hr := r.isLt
  have he : (win0_10.blk t).view.emb (ix2 r l) = ix2 (⟨512 * t.val + r.val, by omega⟩ : Fin 65536) l :=
    funext fun a => Fin.ext (by
      match a with
      | ⟨0, _⟩ => show win0_10.index t 0 * 512 + 1 * r.val = 512 * t.val + r.val; rw [idx10]; show t.val * 512 + 1 * r.val = _; omega
      | ⟨1, _⟩ => show win0_10.index t 1 * 128 + 1 * l.val = l.val; rw [idx10]; show 0 * 128 + 1 * l.val = _; omega)
  have h : 512 * t.val + r.val < 65536 := by omega
  have hb : (⟨(512 * t.val + r.val) / 2048, by omega⟩ : Fin 32) = ⟨t.val / 4, by omega⟩ := Fin.ext (by dsimp only; omega)
  refine (out10_apply _ _ _ _ _ _ _ _ _ _ r l).trans (Eq.trans ?_ ((congrArg _ he).trans (Cert.Reference3Ideal.In.gates_apply _ _ _ _ (⟨512 * t.val + r.val, h⟩ : Fin 65536) l)).symm)
  simp only [blk0 m c t _ _ h, blk2 m c t _ _ (show t.val / 4 < 32 by omega), whole5, whole6, wg_apply, bg_apply]
  by_cases h8 : l.val < 8
  · simp only [dif_pos h8]
    rw [if_pos h8, Cert.Reference3Ideal.In.P, dif_pos ⟨h, by omega⟩, hb]
  · rw [if_neg h8]
    simp only [dif_neg h8, lin, mul_zero, Finset.sum_const_zero, add_zero]

/-- The claim: the kernel and the reference end with equal results. -/
theorem algebraic : Cert.algebraic_Kernel3Ideal_Reference3Ideal := by
  intro m ρ m' ρ' _ hagree
  refine ⟨fun c => (dats (F := Ideal) m 0 c).arrAt 9 cfg0.N, fun c => (dats (F := Ideal) m 0 c).arrAt 10 cfg0.N, Cert.Kernel3Ideal.Value.run_blocks (F := Ideal) m ρ, ?_⟩
  refine (θ_run Cert.Reference3Ideal.defs _ _).mono (fun _ h c => ⟨(h c).1.trans ?_, (h c).2.1.trans ?_, (h c).2.2⟩) (Cert.Reference3Ideal.Value.run (F := Ideal) m' ρ')
  · obtain ⟨g0, g1, g2, g3, g4, g5⟩ := hagree c
    refine (Cert.Reference3Ideal.Read.val_main_v66_eq (F := Ideal) m' c).trans (Eq.trans ?_ (final_main m c).symm)
    exact congr (congr (congr (congr (congr (congrArg _ g0) g1) g2) g3) g4) g5
  · obtain ⟨g0, g1, g2, g3, g4, g5⟩ := hagree c
    refine (Cert.Reference3Ideal.Read.val_main_v67_eq (F := Ideal) _ _ _ _).trans (Eq.trans ?_ (final_gates m c).symm)
    exact congr (congr (congr (congrArg _ g0) g1) g2) g3

end Cert.Kernel3Ideal.In

end
-- ==== Proof.AdaValue.lean ====
module

public import proofs.«01_k».proof.Defs
public import proofs.«01_k».proof.Proof.Gen.Reference4Ideal.Run
public import proofs.«01_k».proof.Proof.Gen.Reference4Ideal.Read
public import proofs.«01_k».proof.Proof.Gen.Kernel4Ideal.Value
public import Idealize.ShloMosaic.Lib.Pipeline.ValueKit
public import Idealize.ShloMosaic.Lib.Pointwise

@[expose] public section

/-! The modulation call: a block's columns of one layer, and the equality with the reference. -/

set_option maxRecDepth 16384

noncomputable section

namespace Cert.Ada

open Idealize.ShloMosaic

/-- The SiLU. -/
def silu (y : EReal) : EReal := y * Ideal.div 1 (1 + Ideal.exp (-y))

/-- One modulation value: the activated conditioning row against one column of the weights, and the bias. -/
def row (c w : Fin 1024 → EReal) (b : EReal) : EReal := (∑ k : Fin 1024, silu (c k) * w k) + b

end Cert.Ada

namespace Cert.Reference4Ideal.Ada

open Cert.Reference4Ideal Cert.Reference4Ideal.Gen Cert.Reference4Ideal.Read Cert.Ada
open Idealize.ShloMosaic

/-- The reference's result at a layer, a batch row and a column. -/
theorem ref_apply (x0 : FVec Ideal S32x1024 .f32) (x1 : FVec Ideal S4x1024x3072 .f32) (x2 : FVec Ideal S4x3072 .f32) (l : Fin 4) (b : Fin 32) (e : Fin 3072) :
    val_main_v5 (F := Ideal) x0 x1 x2 (ix3 l b e) = row (fun k => x0 (ix2 b k)) (fun k => x1 (ix3 l k e)) (x2 (ix2 l e)) := by
  pointwise [val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  exact congrArg (fun u : EReal => u + x2 (ix2 l e)) (Finset.sum_congr rfl fun k _ => mul_comm (x1 (ix3 l k e) : EReal) (silu (x0 (ix2 b k))))

end Cert.Reference4Ideal.Ada

namespace Cert.Kernel4Ideal.Ada

open Cert.Kernel4Ideal Cert.Kernel4Ideal.Gen Cert.Ada
open Idealize.ShloMosaic Idealize.ShloMosaic.TcCoe Idealize.SL.Sem

/-- The block's value at a batch row and a column. -/
theorem pay_apply (v0 : FVec Ideal S32x1024 .f32) (v10 : FVec Ideal S1x1024x1024 .f32) (v14 : FVec Ideal S1x1x1024 .f32) (b : Fin 32) (e : Fin 1024) :
    k0_pay1 (F := Ideal) v0 v10 v14 (ix3 (0 : Fin 1) b e) = row (fun k => v0 (ix2 b k)) (fun k => v10 (ix3 0 k e)) (v14 (ix3 0 0 e)) := by
  pointwise [k0_pay1]
  simp only [zero_sub]
  rfl

variable (m : (ℓ : Loc nD τ sig) → Buf (Elt Ideal) ℓ)

/-- The biases the window stages are the argument with a new axis. -/
theorem V0 (c : Dev nD) : V (F := Ideal) m c main_v0 = shapeCast S4x1x3072 (m ((c : Thread nD τ).loc main_arg2) : FVec Ideal S4x3072 .f32) shapeCasts_S4x3072_S4x1x3072 := by
  simp only [V, hostOps0]
  after_results
  rfl

/-- Grid point `t` works on layer `t / 3`, columns `1024 (t % 3), …`. -/
theorem idx0 : ∀ (t : Fin cfg0.N) (a : Fin 2), win0_0.index t a = ![0, 0] a := by decide +kernel
theorem idx1 : ∀ (t : Fin cfg0.N) (a : Fin 3), win0_1.index t a = ![t.val / 3, 0, t.val % 3] a := by decide +kernel
theorem idx2 : ∀ (t : Fin cfg0.N) (a : Fin 3), win0_2.index t a = ![t.val / 3, 0, t.val % 3] a := by decide +kernel
theorem idx3 : ∀ (t : Fin cfg0.N) (a : Fin 3), win0_3.index t a = ![t.val / 3, 0, t.val % 3] a := by decide +kernel

theorem tN (t : Fin cfg0.N) : t.val < 12 := lt_of_lt_of_eq t.isLt (by decide +kernel)

theorem blk0 (c : Dev nD) (t : Fin cfg0.N) (r : Fin 32) (k : Fin 1024) :
    iblk (F := Ideal) m c 0 t (ix2 r k) = (m ((c : Thread nD τ).loc main_arg0) : FVec Ideal S32x1024 .f32) (ix2 r k) := by
  blk_simp [iblk]
  refine congrArg (m ((c : Thread nD τ).loc main_arg0) : FVec Ideal S32x1024 .f32) (funext fun a => Fin.ext ?_)
  match a with
  | ⟨0, _⟩ => show win0_0.index t 0 * 32 + 1 * r.val = r.val; rw [idx0]; show 0 * 32 + 1 * r.val = _; omega
  | ⟨1, _⟩ => show win0_0.index t 1 * 1024 + 1 * k.val = k.val; rw [idx0]; show 0 * 1024 + 1 * k.val = _; omega

theorem blk1 (c : Dev nD) (t : Fin cfg0.N) (k e : Fin 1024) (h : t.val / 3 < 4) (h' : 1024 * (t.val % 3) + e.val < 3072) :
    iblk (F := Ideal) m c 1 t (ix3 (0 : Fin 1) k e) = (m ((c : Thread nD τ).loc main_arg1) : FVec Ideal S4x1024x3072 .f32) (ix3 ⟨t.val / 3, h⟩ k ⟨1024 * (t.val % 3) + e.val, h'⟩) := by
  blk_simp [iblk]
  refine congrArg (m ((c : Thread nD τ).loc main_arg1) : FVec Ideal S4x1024x3072 .f32) (funext fun a => Fin.ext ?_)
  match a with
  | ⟨0, _⟩ => show win0_1.index t 0 * 1 + 1 * 0 = t.val / 3; rw [idx1]; show t.val / 3 * 1 + 1 * 0 = _; omega
  | ⟨1, _⟩ => show win0_1.index t 1 * 1024 + 1 * k.val = k.val; rw [idx1]; show 0 * 1024 + 1 * k.val = _; omega
  | ⟨2, _⟩ => show win0_1.index t 2 * 1024 + 1 * e.val = 1024 * (t.val % 3) + e.val; rw [idx1]; show t.val % 3 * 1024 + 1 * e.val = _; omega

/-- The biases with the unit axis dropped. -/
theorem bias_read (x : FVec Ideal S4x3072 .f32) (l : Fin 4) (e : Fin 3072) :
    shapeCast S4x1x3072 x shapeCasts_S4x3072_S4x1x3072 (ix3 l (0 : Fin 1) e) = x (ix2 l e) := by
  pointwise

theorem blk2 (c : Dev nD) (t : Fin cfg0.N) (e : Fin 1024) (h : t.val / 3 < 4) (h' : 1024 * (t.val % 3) + e.val < 3072) :
    iblk (F := Ideal) m c 2 t (ix3 (0 : Fin 1) (0 : Fin 1) e) = (m ((c : Thread nD τ).loc main_arg2) : FVec Ideal S4x3072 .f32) (ix2 ⟨t.val / 3, h⟩ ⟨1024 * (t.val % 3) + e.val, h'⟩) := by
  blk_simp [iblk]
  show V (F := Ideal) m c main_v0 _ = _
  rw [V0]
  refine Eq.trans (congrArg (shapeCast S4x1x3072 (m ((c : Thread nD τ).loc main_arg2) : FVec Ideal S4x3072 .f32) shapeCasts_S4x3072_S4x1x3072) (show _ = ix3 (⟨t.val / 3, h⟩ : Fin 4) (0 : Fin 1) (⟨1024 * (t.val % 3) + e.val, h'⟩ : Fin 3072) from funext fun a => Fin.ext ?_)) (bias_read (m ((c : Thread nD τ).loc main_arg2) : FVec Ideal S4x3072 .f32) ⟨t.val / 3, h⟩ ⟨1024 * (t.val % 3) + e.val, h'⟩)
  match a with
  | ⟨0, _⟩ => show win0_2.index t 0 * 1 + 1 * 0 = t.val / 3; rw [idx2]; show t.val / 3 * 1 + 1 * 0 = _; omega
  | ⟨1, _⟩ => show win0_2.index t 1 * 1 + 1 * 0 = 0; rw [idx2]; rfl
  | ⟨2, _⟩ => show win0_2.index t 2 * 1024 + 1 * e.val = 1024 * (t.val % 3) + e.val; rw [idx2]; show t.val % 3 * 1024 + 1 * e.val = _; omega

/-- The result is the reference's: every value is written once, by the point that holds it. -/
theorem final (c : Dev nD) :
    (dats (F := Ideal) m 0 c).arrAt 3 cfg0.N = Cert.Reference4Ideal.Read.val_main_v5 (F := Ideal) (m ((c : Thread nD τ).loc main_arg0)) (m ((c : Thread nD τ).loc main_arg1)) (m ((c : Thread nD τ).loc main_arg2)) := by
  refine (dats (F := Ideal) m 0 c).arrAt_eq_of_covers 3 _ (by decide +kernel) fun t hf y => ?_
  blk_simp
  rw [after0_3]
  unfold out0_3
  frame_out
  have ht := tN t
  have q0 : (y 0).val < 1 := (y 0).isLt
  have q1 : (y 1).val < 32 := (y 1).isLt
  have q2 : (y 2).val < 1024 := (y 2).isLt
  obtain ⟨b, e, rfl⟩ : ∃ (b : Fin 32) (e : Fin 1024), y = ix3 (0 : Fin 1) b e := ⟨⟨_, q1⟩, ⟨_, q2⟩, by
    funext a
    match a with
    | ⟨0, _⟩ => exact Fin.ext (show (y 0).val = 0 by omega)
    | ⟨1, _⟩ => rfl
    | ⟨2, _⟩ => rfl⟩
  have h : t.val / 3 < 4 := by omega
  have h' : 1024 * (t.val % 3) + e.val < 3072 := by have := e.isLt; omega
  have he : (win0_3.blk t).view.emb (ix3 (0 : Fin 1) b e) = ix3 (⟨t.val / 3, h⟩ : Fin 4) b (⟨1024 * (t.val % 3) + e.val, h'⟩ : Fin 3072) :=
    funext fun a => Fin.ext (by
      match a with
      | ⟨0, _⟩ => show win0_3.index t 0 * 1 + 1 * 0 = t.val / 3; rw [idx3]; show t.val / 3 * 1 + 1 * 0 = _; omega
      | ⟨1, _⟩ => show win0_3.index t 1 * 32 + 1 * b.val = b.val; rw [idx3]; show 0 * 32 + 1 * b.val = _; omega
      | ⟨2, _⟩ => show win0_3.index t 2 * 1024 + 1 * e.val = 1024 * (t.val % 3) + e.val; rw [idx3]; show t.val % 3 * 1024 + 1 * e.val = _; omega)
  refine (pay_apply _ _ _ b e).trans (Eq.trans ?_ ((congrArg _ he).trans (Cert.Reference4Ideal.Ada.ref_apply _ _ _ _ b _)).symm)
  simp only [blk0, blk1 m c t _ _ h h', blk2 m c t _ h h']

/-- The claim: the kernel and the reference end with equal results. -/
theorem algebraic : Cert.algebraic_Kernel4Ideal_Reference4Ideal := by
  intro m ρ m' ρ' _ hagree
  refine ⟨fun c => (dats (F := Ideal) m 0 c).arrAt 3 cfg0.N, Cert.Kernel4Ideal.Value.run_blocks (F := Ideal) m ρ, ?_⟩
  refine (θ_run Cert.Reference4Ideal.defs _ _).mono (fun _ h c => ⟨(h c).1.trans ?_, (h c).2⟩) (Cert.Reference4Ideal.Value.run (F := Ideal) m' ρ')
  obtain ⟨g0, g1, g2⟩ := hagree c
  refine (Cert.Reference4Ideal.Read.val_main_v5_eq (F := Ideal) _ _ _).trans (Eq.trans ?_ (final m c).symm)
  exact congr (congr (congrArg _ g0) g1) g2

end Cert.Kernel4Ideal.Ada

end
-- ==== Proof.MlMath.lean ====
module

public import proofs.«01_k».proof.Proof.SbMath

@[expose] public section

/-! The mathematics of one head of the mLSTM over the reals: its weighted sums, how a chunk of 256 rows joins the running state,
and that the stabiliser is a common factor of numerator and denominator. -/

set_option maxRecDepth 16384

noncomputable section

namespace Cert.Ml

open Idealize.ShloMosaic Cert.Sb

/-- The running sum of the logarithms of the forget gate. -/
def cum (L : ℕ → ℝ) (n : ℕ) : ℝ := ∑ i ∈ Finset.range n, L i

/-- The values, and a one in each lane after them. -/
def va (v : ℕ → Fin 128 → ℝ) (s : ℕ) (e : Fin 256) : ℝ := if h : e.val < 128 then v s ⟨e.val, h⟩ else 1

/-- The weighted sum of the values at row `t`; its lanes after the values hold the sum of the weights. -/
def num (L ig : ℕ → ℝ) (q k : ℕ → Fin 128 → ℝ) (v : ℕ → Fin 128 → ℝ) (t : ℕ) (e : Fin 256) : ℝ :=
  ∑ s ∈ Finset.range (t + 1), Real.exp (cum L (t + 1) - cum L (s + 1) + ig s) * (∑ d, q t d * k s d) * va v s e

/-- The state at the start of row `T`, without its stabiliser. -/
def st (L ig : ℕ → ℝ) (k : ℕ → Fin 128 → ℝ) (v : ℕ → Fin 128 → ℝ) (T : ℕ) (d : Fin 128) (e : Fin 256) : ℝ :=
  ∑ s ∈ Finset.range T, Real.exp (cum L T - cum L (s + 1) + ig s) * k s d * va v s e

/-- The running sum from the start of a chunk. -/
def loc (L : ℕ → ℝ) (T r : ℕ) : ℝ := cum L (T + r + 1) - cum L T

theorem loc_eq (L : ℕ → ℝ) (T r : ℕ) : loc L T r = ∑ i ∈ Finset.range (r + 1), L (T + i) := by
  unfold loc cum
  rw [add_assoc, Finset.sum_range_add, add_sub_cancel_left]

section
variable (L ig : ℕ → ℝ) (q k : ℕ → Fin 128 → ℝ) (v : ℕ → Fin 128 → ℝ) (T : ℕ)

/-- What the state and the chunk's own rows add to a row, over the stabiliser. -/
theorem readout (M mt : ℝ) (r : Fin 256) (e : Fin 256) :
    Real.exp (loc L T r.val + M - mt) * ∑ d, q (T + r.val) d * (Real.exp (-M) * st L ig k v T d e)
      + ∑ x : Fin 256, ((if x.val ≤ r.val then Real.exp (loc L T r.val + (ig (T + x.val) - loc L T x.val) - mt) else 0)
          * ∑ d, q (T + r.val) d * k (T + x.val) d) * va v (T + x.val) e
      = Real.exp (-mt) * num L ig q k v (T + r.val) e := by
  have hr := r.isLt
  unfold num
  rw [show T + r.val + 1 = T + (r.val + 1) by omega, Finset.sum_range_add, mul_add]
  refine congrArg₂ (· + ·) ?_ ?_
  · unfold st
    simp only [Finset.mul_sum, Finset.sum_mul]
    rw [Finset.sum_comm]
    refine Finset.sum_congr rfl fun s _ => Finset.sum_congr rfl fun d _ => ?_
    unfold loc
    rw [show cum L (T + r.val + 1) - cum L T + M - mt = (cum L (T + (r.val + 1)) - cum L T) + M + -mt by rw [add_assoc T]; ring,
      show cum L (T + (r.val + 1)) - cum L (s + 1) + ig s = (cum L (T + (r.val + 1)) - cum L T) + (cum L T - cum L (s + 1) + ig s) by ring]
    simp only [Real.exp_add, Real.exp_neg]
    field_simp
  · rw [Fin.sum_univ_eq_sum_range (fun x => ((if x ≤ r.val then Real.exp (loc L T r.val + (ig (T + x) - loc L T x) - mt) else 0)
          * ∑ d, q (T + r.val) d * k (T + x) d) * va v (T + x) e) 256, Finset.mul_sum,
      ← Finset.sum_subset (s₁ := Finset.range (r.val + 1)) (fun a ha => by simp at ha ⊢; omega) fun a _ ha => by
        simp at ha; rw [if_neg (by omega), zero_mul, zero_mul]]
    refine Finset.sum_congr rfl fun x hx => ?_
    simp at hx
    rw [if_pos (by omega)]
    unfold loc
    rw [show cum L (T + r.val + 1) - cum L T + (ig (T + x) - (cum L (T + x + 1) - cum L T)) - mt
      = -mt + (cum L (T + (r.val + 1)) - cum L (T + x + 1) + ig (T + x)) by rw [add_assoc T r.val]; ring, Real.exp_add]
    ring

/-- The state at the start of the next chunk, over the new stabiliser. -/
theorem update (M mn : ℝ) (d : Fin 128) (e : Fin 256) :
    Real.exp (loc L T 255 + M - mn) * (Real.exp (-M) * st L ig k v T d e)
      + ∑ x : Fin 256, k (T + x.val) d * (Real.exp (loc L T 255 - loc L T x.val + ig (T + x.val) - mn) * va v (T + x.val) e)
      = Real.exp (-mn) * st L ig k v (T + 256) d e := by
  unfold st
  rw [Finset.sum_range_add, mul_add]
  refine congrArg₂ (· + ·) ?_ ?_
  · simp only [Finset.mul_sum]
    refine Finset.sum_congr rfl fun s _ => ?_
    unfold loc
    rw [show T + 255 + 1 = T + 256 by omega,
      show cum L (T + 256) - cum L T + M - mn = (cum L (T + 256) - cum L T) + M + -mn by ring,
      show cum L (T + 256) - cum L (s + 1) + ig s = (cum L (T + 256) - cum L T) + (cum L T - cum L (s + 1) + ig s) by ring]
    simp only [Real.exp_add, Real.exp_neg]
    field_simp
  · rw [Fin.sum_univ_eq_sum_range (fun x => k (T + x) d * (Real.exp (loc L T 255 - loc L T x + ig (T + x) - mn) * va v (T + x) e)) 256,
      Finset.mul_sum]
    refine Finset.sum_congr rfl fun x _ => ?_
    unfold loc
    rw [show T + 255 + 1 = T + 256 by omega,
      show cum L (T + 256) - cum L T - (cum L (T + x + 1) - cum L T) + ig (T + x) - mn
        = -mn + (cum L (T + 256) - cum L (T + x + 1) + ig (T + x)) by ring, Real.exp_add]
    ring

theorem st_zero (d : Fin 128) (e : Fin 256) : st L ig k v 0 d e = 0 := by unfold st; simp

end

/-- A maximum started at minus infinity of entries under infinity is under infinity. -/
theorem fold_lt (f : Fin 256 → EReal) (h : ∀ x, f x < ⊤) : Finset.fold max ⊥ f Finset.univ < ⊤ :=
  (Finset.fold_max_lt (c := (⊤ : EReal))).mpr ⟨bot_lt_top, fun x _ => h x⟩

/-- The maximum of a real number and something under infinity is a real number. -/
theorem max_real (a : ℝ) (y : EReal) (h : y < ⊤) : ∃ r : ℝ, max (a : EReal) y = (r : EReal) := by
  induction y with
  | bot => exact ⟨a, max_bot_right _⟩
  | top => exact absurd h (lt_irrefl _)
  | coe b => exact ⟨max a b, (coe_max a b).symm⟩

/-- The stabiliser cancels between the numerator and the larger of the denominator and the stabilised one. -/
theorem quot (mt n D : ℝ) :
    Ideal.div ((Real.exp (-mt) * n : ℝ) : EReal) (max (max ((Real.exp (-mt) * D : ℝ) : EReal) (-((Real.exp (-mt) * D : ℝ) : EReal))) (Ideal.exp (0 - (mt : EReal))))
      = ((n / max |D| 1 : ℝ) : EReal) := by
  have hp := Real.exp_pos (-mt)
  have hm : (0 : ℝ) < max |D| 1 := lt_max_of_lt_right one_pos
  rw [zero_sub, ← EReal.coe_neg mt, Ideal.exp_coe, ← EReal.coe_neg, ← coe_max, ← coe_max,
    show max (max (Real.exp (-mt) * D) (-(Real.exp (-mt) * D))) (Real.exp (-mt)) = Real.exp (-mt) * max |D| 1 by
      rw [show max (Real.exp (-mt) * D) (-(Real.exp (-mt) * D)) = |Real.exp (-mt) * D| from rfl, abs_mul, abs_of_pos hp,
        mul_max_of_nonneg _ _ hp.le, mul_one],
    Ideal.div_coe (mul_pos hp hm).ne', ← EReal.coe_mul]
  refine congrArg _ ?_
  field_simp

theorem quot_ref (n D : ℝ) :
    Ideal.div (n : EReal) (max (max (D : EReal) (-(D : EReal))) 1) = ((n / max |D| 1 : ℝ) : EReal) := by
  have hm : (0 : ℝ) < max |D| 1 := lt_max_of_lt_right one_pos
  rw [← EReal.coe_neg, ← coe_max, ← EReal.coe_one, ← coe_max, show max (max D (-D)) 1 = max |D| 1 from rfl,
    Ideal.div_coe hm.ne', ← EReal.coe_mul]
  refine congrArg _ ?_
  ring

/-- The kernel's logarithm of the sigmoid of a real number. -/
theorem log_sig (x : ℝ) :
    min (x : EReal) 0 - Ideal.log (1 + Ideal.exp (0 - max (x : EReal) (-(x : EReal)))) = ((-sp (-x) : ℝ) : EReal) := by
  have h1 : 1 + Real.exp (0 - max x (-x)) > 0 := by have := Real.exp_pos (0 - max x (-x)); linarith
  rw [← EReal.coe_neg, ← coe_max x (-x), ← EReal.coe_zero, ← EReal.coe_sub, Ideal.exp_coe, ← EReal.coe_one, ← EReal.coe_add,
    Ideal.log_coe, if_neg (by linarith), ← EReal.coe_strictMono.monotone.map_min, ← EReal.coe_sub]
  refine congrArg _ ?_
  unfold sp
  rw [neg_neg, max_comm (-x) x]
  rcases le_total x 0 with h | h
  · rw [min_eq_left h, max_eq_left (by linarith : (0:ℝ) ≤ -x)]; ring
  · rw [min_eq_right h, max_eq_right (by linarith : -x ≤ (0:ℝ))]; ring

theorem select_sle {α : Type} (a b : ℕ) (ha : a < 2 ^ 31) (hb : b < 2 ^ 31) (u v : α) :
    Scalar.select (IntOp.cmpi .sle (BitVec.ofNat 32 a) (BitVec.ofNat 32 b)) u v = if a ≤ b then u else v := by
  rw [WordCmp.cmpi_sle_ofNat ha hb]
  unfold Scalar.select
  by_cases h : a ≤ b <;> simp [h]

/-- The chunk's running sum, computed by two products with the lower triangle, one of the rounded summands and one of what the
    rounding left, is over the reals the running sum itself. -/
theorem tril_products (l : Fin 256 → EReal) (f : ℕ → ℝ) (T : ℕ) (hl : ∀ x : Fin 256, l x = (f (T + x.val) : EReal)) (r : Fin 256) :
    (∑ x : Fin 256, Scalar.select (IntOp.cmpi .sle (BitVec.ofNat 32 x.val) (BitVec.ofNat 32 r.val)) (l x) 0)
      + ∑ x : Fin 256, Scalar.select (IntOp.cmpi .sle (BitVec.ofNat 32 x.val) (BitVec.ofNat 32 r.val)) (l x - l x) 0
      = (loc f T r.val : EReal) := by
  have h2 : ∀ x : Fin 256, x.val < 2 ^ 31 := fun x => by have := x.isLt; omega
  have hr := r.isLt
  trans (∑ x : Fin 256, (((if x.val ≤ r.val then f (T + x.val) else 0) : ℝ) : EReal)) + 0
  · refine congrArg₂ (· + ·) (Finset.sum_congr rfl fun x _ => ?_) (Finset.sum_eq_zero fun x _ => ?_)
    · rw [select_sle _ _ (h2 x) (h2 r), hl]
      by_cases h : x.val ≤ r.val
      · rw [if_pos h, if_pos h]
      · rw [if_neg h, if_neg h, EReal.coe_zero]
    · rw [select_sle _ _ (h2 x) (h2 r), hl, ← EReal.coe_sub, sub_self, EReal.coe_zero, ite_self]
  · rw [add_zero, ← coe_sum, loc_eq]
    refine congrArg _ ?_
    rw [Fin.sum_univ_eq_sum_range (fun x => if x ≤ r.val then f (T + x) else 0) 256,
      ← Finset.sum_subset (s₁ := Finset.range (r.val + 1)) (fun a ha => by simp at ha ⊢; omega) fun a _ ha => by
        simp at ha; rw [if_neg (by omega)]]
    exact Finset.sum_congr rfl fun x hx => by simp at hx; rw [if_pos (by omega)]

/-- The lanes after the values hold the sum of the weights. -/
theorem num_one (L ig : ℕ → ℝ) (q k : ℕ → Fin 128 → ℝ) (v : ℕ → Fin 128 → ℝ) (t : ℕ) (e : Fin 256) (h : 128 ≤ e.val) :
    num L ig q k v t e = ∑ s ∈ Finset.range (t + 1), Real.exp (cum L (t + 1) - cum L (s + 1) + ig s) * (∑ d, q t d * k s d) := by
  unfold num va
  exact Finset.sum_congr rfl fun s _ => by rw [dif_neg (by omega), mul_one]

/-- A head's row of read-outs. -/
def hidr (L ig : ℕ → ℝ) (q k : ℕ → Fin 128 → ℝ) (v : ℕ → Fin 128 → ℝ) (t : ℕ) (e : Fin 128) : ℝ :=
  num L ig q k v t ⟨e.val, by omega⟩ / max |num L ig q k v t ⟨128, by omega⟩| 1

/-- The mean over the lanes, as both programs compute it. -/
def mean (x : Fin 128 → EReal) : EReal := Ideal.div (∑ y, x y) (Ideal.ofBits .f32 1124073472#32)

/-- The norm over the lanes and the gates, as both programs compute them. -/
def gate (x : Fin 128 → EReal) (e : Fin 128) (g o z : EReal) : EReal :=
  (x e - mean x) * Ideal.rsqrt (mean (fun y => (x y - mean x) * (x y - mean x)) + Ideal.ofBits .f32 925353388#32) * g
    * Ideal.div 1 (1 + Ideal.exp (-o)) * (z * Ideal.div 1 (1 + Ideal.exp (-z)))

theorem ofBits_bot : Ideal.ofBits .f32 4286578688#32 = ⊥ := by simp [Ideal.ofBits, Ideal.ieee]

end Cert.Ml

end
-- ==== Proof.MlPure.lean ====
module

public import proofs.«01_k».proof.Proof.Gen.Kernel5Ideal.Value
public import proofs.«01_k».proof.Proof.MlMath
public import Idealize.ShloMosaic.Lib.Pipeline.ValueKit
public import Idealize.ShloMosaic.Lib.Pointwise

@[expose] public section

/-! The four heads of a chunk of the mLSTM are one computation; what it gives at an entry, and what that is over the reals. -/

set_option maxRecDepth 16384

noncomputable section

namespace Cert.Kernel5Ideal.Ml

open Cert.Kernel5Ideal Cert.Kernel5Ideal.Gen Cert.Ml Cert.Sb
open Idealize.ShloMosaic Idealize.ShloMosaic.TcCoe Idealize.SL.Sem

/-- A head's new stabiliser. -/
def headM (bc ic : FVec Ideal S256x1 .f32) (mm : Vec Ideal S1x1x128 .f32) : FVec Ideal S1x1x128 .f32 :=
  k0_pay20 (F := Ideal) bc ic (k0_pay12 mm)

/-- A head's new state. -/
def headC (k v : Vec Ideal S256x128 .bf16) (bc ic : FVec Ideal S256x1 .f32) (mm : Vec Ideal S1x1x128 .f32)
    (cc : Vec Ideal S1x128x256 .f32) : FVec Ideal S1x128x256 .f32 :=
  k0_pay19 (F := Ideal) k (k0_pay9 v) bc ic (k0_pay12 mm) (k0_pay13 cc)

/-- A head's read-out less its mean over the lanes. -/
def headH (bc : FVec Ideal S256x1 .f32) (br ir : FVec Ideal S1x256 .f32) (q k v : Vec Ideal S256x128 .bf16)
    (mm : Vec Ideal S1x1x128 .f32) (cc : Vec Ideal S1x128x256 .f32) : FVec Ideal S256x128 .f32 :=
  k0_pay43 (F := Ideal) k0_pay5 q k (k0_pay9 v) bc br ir (k0_pay12 mm) cc

/-- A head's output: its read-out normed and gated. -/
def headO (bc : FVec Ideal S256x1 .f32) (br ir : FVec Ideal S1x256 .f32) (q k v : Vec Ideal S256x128 .bf16)
    (mm : Vec Ideal S1x1x128 .f32) (cc : Vec Ideal S1x128x256 .f32) (g : Vec Ideal S1x128 .f32) (o z : Vec Ideal S256x128 .bf16) :
    FVec Ideal S256x128 .bf16 :=
  k0_pay46 (F := Ideal) (headH bc br ir q k v mm cc) (k0_pay44 k0_pay5 q k (k0_pay9 v) bc br ir (k0_pay12 mm) cc) k0_pay45 g o z

/-- The decay matrix: minus infinity above the diagonal. -/
def dm (bc : FVec Ideal S256x1 .f32) (br ir : FVec Ideal S1x256 .f32) (r x : Fin 256) : EReal :=
  Scalar.select (IntOp.cmpi .sle (BitVec.ofNat 32 x.val) (BitVec.ofNat 32 r.val))
    (bc (ix2 r 0) + (ir (ix2 0 x) - br (ix2 0 x)) : EReal) (Ideal.ofBits .f32 4286578688#32)

/-- A row's stabiliser. -/
def mt (bc : FVec Ideal S256x1 .f32) (br ir : FVec Ideal S1x256 .f32) (mm : Vec Ideal S1x1x128 .f32) (r : Fin 256) : EReal :=
  max (bc (ix2 r 0) + mm (ix3 0 0 0) : EReal) (Finset.fold max (Ideal.ofBits .f32 4286578688#32) (fun x => dm bc br ir r x) Finset.univ)

/-- A row's read-out. -/
def rd (bc : FVec Ideal S256x1 .f32) (br ir : FVec Ideal S1x256 .f32) (q k v : Vec Ideal S256x128 .bf16)
    (mm : Vec Ideal S1x1x128 .f32) (cc : Vec Ideal S1x128x256 .f32) (r : Fin 256) (e : Fin 128) : EReal :=
  Ideal.div
    (Ideal.exp ((bc (ix2 r 0) + mm (ix3 0 0 0) : EReal) - mt bc br ir mm r) * (∑ x : Fin 128, (q (ix2 r x) : EReal) * cc (ix3 0 x (⟨e.val, by omega⟩ : Fin 256)))
      + ∑ x : Fin 256, Ideal.exp (dm bc br ir r x - mt bc br ir mm r) * (∑ y : Fin 128, (q (ix2 r y) : EReal) * k (ix2 x y)) * v (ix2 x e))
    (max (FloatOps.absf (F := Ideal) (φ := .f32)
      (Ideal.exp ((bc (ix2 r 0) + mm (ix3 0 0 0) : EReal) - mt bc br ir mm r) * (∑ x : Fin 128, (q (ix2 r x) : EReal) * cc (ix3 0 x (⟨128 + e.val, by omega⟩ : Fin 256)))
      + ∑ x : Fin 256, Ideal.exp (dm bc br ir r x - mt bc br ir mm r) * (∑ y : Fin 128, (q (ix2 r y) : EReal) * k (ix2 x y)) : EReal) : EReal)
      (Ideal.exp (0 - mt bc br ir mm r)))

section
variable (bc ic : FVec Ideal S256x1 .f32) (br ir : FVec Ideal S1x256 .f32) (q k v : Vec Ideal S256x128 .bf16)
  (mm : Vec Ideal S1x1x128 .f32) (cc : Vec Ideal S1x128x256 .f32) (g : Vec Ideal S1x128 .f32) (o z : Vec Ideal S256x128 .bf16)
  (x5 : Vec Ideal S256x128 .f32)

theorem headH_apply (r : Fin 256) (e : Fin 128) :
    headH bc br ir q k v mm cc (ix2 r e) = (rd bc br ir q k v mm cc r e - mean (rd bc br ir q k v mm cc r) : EReal) := by
  unfold headH
  pointwise [k0_pay43, k0_pay42, k0_pay5, k0_pay9, k0_pay8, k0_pay12]
  rfl

theorem headO_apply (r : Fin 256) (e : Fin 128) :
    headO bc br ir q k v mm cc g o z (ix2 r e)
      = gate (rd bc br ir q k v mm cc r) e (g (ix2 0 e)) (o (ix2 r e)) (z (ix2 r e)) := by
  unfold headO
  pointwise [k0_pay46, k0_pay45, k0_pay44]
  rw [show k0_pay43 (F := Ideal) k0_pay5 q k (k0_pay9 v) bc br ir (k0_pay12 mm) cc = headH bc br ir q k v mm cc from rfl]
  simp only [headH_apply, zero_sub]
  rfl

/-- The chunk's running sums of the logarithm of the forget gate. -/
theorem pay6_apply (f : ℕ → ℝ) (T : ℕ) (e : Fin 128) (hf : ∀ x : Fin 256, x5 (ix2 x e) = (f (T + x.val) : EReal)) (r : Fin 256) :
    k0_pay6 (F := Ideal) x5 (ix2 r e) = (loc (fun s => -sp (-f s)) T r.val : EReal) := by
  pointwise [k0_pay6, k0_pay5]
  exact tril_products (fun x => min (x5 (ix2 x e) : EReal) 0 - Ideal.log (1 + Ideal.exp (0 - max (x5 (ix2 x e) : EReal) (-(x5 (ix2 x e) : EReal)))))
    (fun s => -sp (-f s)) T (fun x => by rw [hf]; exact log_sig _) r

theorem pay7_lo (r : Fin 128) (e : Fin 256) (h : r.val < 4) : k0_pay7 (F := Ideal) x5 (ix2 r e) = x5 (ix2 e r) := by
  pointwise [k0_pay7]
  rw [select_slt _ 4 (by omega) (by omega), if_pos h]

theorem pay7_hi (r : Fin 128) (e : Fin 256) (h : ¬ r.val < 4) : k0_pay7 (F := Ideal) x5 (ix2 r e) = k0_pay6 (F := Ideal) x5 (ix2 e r) := by
  pointwise [k0_pay7]
  rw [select_slt _ 4 (by omega) (by omega), if_neg h]

section real
variable (L ig : ℕ → ℝ) (qf kf vf : ℕ → Fin 128 → ℝ) (T : ℕ) (M : ℝ)

/-- A row's read-out over the reals. -/
theorem rd_real (hbc : ∀ r : Fin 256, bc (ix2 r 0) = (loc L T r.val : EReal)) (hbr : ∀ x : Fin 256, br (ix2 0 x) = (loc L T x.val : EReal))
    (hir : ∀ x : Fin 256, ir (ix2 0 x) = (ig (T + x.val) : EReal)) (hq : ∀ (r : Fin 256) (d : Fin 128), q (ix2 r d) = (qf (T + r.val) d : EReal))
    (hk : ∀ (r : Fin 256) (d : Fin 128), k (ix2 r d) = (kf (T + r.val) d : EReal)) (hv : ∀ (r : Fin 256) (d : Fin 128), v (ix2 r d) = (vf (T + r.val) d : EReal))
    (hm : mm (ix3 0 0 0) = (M : EReal)) (hc : ∀ (d : Fin 128) (e : Fin 256), cc (ix3 0 d e) = ((Real.exp (-M) * st L ig kf vf T d e : ℝ) : EReal))
    (r : Fin 256) (e : Fin 128) : rd bc br ir q k v mm cc r e = (hidr L ig qf kf vf (T + r.val) e : EReal) := by
  have hr := r.isLt
  have hd : ∀ x : Fin 256, dm bc br ir r x = if x.val ≤ r.val then ((loc L T r.val + (ig (T + x.val) - loc L T x.val) : ℝ) : EReal) else ⊥ := fun x => by
    have hx := x.isLt
    unfold dm
    rw [select_sle _ _ (by omega) (by omega), hbc, hir, hbr, ofBits_bot, EReal.coe_add, EReal.coe_sub]
  obtain ⟨m, hm'⟩ : ∃ m : ℝ, mt bc br ir mm r = (m : EReal) := by
    unfold mt
    rw [hbc, hm, ← EReal.coe_add, ofBits_bot]
    refine max_real _ _ (fold_lt _ fun x => ?_)
    rw [hd]
    split
    · exact EReal.coe_lt_top _
    · exact bot_lt_top
  have hw : ∀ x : Fin 256, Ideal.exp (dm bc br ir r x - (m : EReal))
      = ((if x.val ≤ r.val then Real.exp (loc L T r.val + (ig (T + x.val) - loc L T x.val) - m) else 0 : ℝ) : EReal) := fun x => by
    rw [hd]
    by_cases h : x.val ≤ r.val
    · rw [if_pos h, if_pos h, ← EReal.coe_sub, Ideal.exp_coe]
    · rw [if_neg h, if_neg h, EReal.bot_sub]; rfl
  unfold rd
  rw [hm']
  simp only [hw, hq, hk, hv, hc, hbc, hm, ← EReal.coe_mul, ← EReal.coe_add, ← EReal.coe_sub, Ideal.exp_coe, ← coe_sum, Ideal.absf_def]
  have h1 := readout L ig qf kf vf T M m r (⟨e.val, by omega⟩ : Fin 256)
  have h2 := readout L ig qf kf vf T M m r (⟨128 + e.val, by omega⟩ : Fin 256)
  have va1 : ∀ s, va vf s (⟨e.val, by omega⟩ : Fin 256) = vf s e := fun s => by unfold va; exact dif_pos e.isLt
  have va2 : ∀ s, va vf s (⟨128 + e.val, by omega⟩ : Fin 256) = 1 := fun s => by unfold va; exact dif_neg (by simp)
  simp only [va1] at h1
  simp only [va2, mul_one] at h2
  rw [h1, h2, num_one _ _ _ _ _ _ (⟨128 + e.val, by omega⟩ : Fin 256) (by show 128 ≤ 128 + e.val; omega)]
  unfold hidr
  rw [num_one _ _ _ _ _ _ (⟨128, by omega⟩ : Fin 256) (le_refl _)]
  exact quot _ _ _

/-- The chunk's new stabiliser and state. -/
theorem step_real (hbc : ∀ r : Fin 256, bc (ix2 r 0) = (loc L T r.val : EReal))
    (hic : ∀ x : Fin 256, ic (ix2 x 0) = (ig (T + x.val) : EReal))
    (hk : ∀ (r : Fin 256) (d : Fin 128), k (ix2 r d) = (kf (T + r.val) d : EReal)) (hv : ∀ (r : Fin 256) (d : Fin 128), v (ix2 r d) = (vf (T + r.val) d : EReal))
    (hm : mm (ix3 0 0 0) = (M : EReal)) (hc : ∀ (d : Fin 128) (e : Fin 256), cc (ix3 0 d e) = ((Real.exp (-M) * st L ig kf vf T d e : ℝ) : EReal)) :
    ∃ M' : ℝ, (∀ l : Fin 128, headM bc ic mm (ix3 0 0 l) = (M' : EReal))
      ∧ ∀ (d : Fin 128) (e : Fin 256), headC k v bc ic mm cc (ix3 0 d e) = ((Real.exp (-M') * st L ig kf vf (T + 256) d e : ℝ) : EReal) := by
  obtain ⟨m, hm'⟩ : ∃ m : ℝ, max (bc (ix2 255 0) + mm (ix3 0 0 0) : EReal) (Finset.fold max (Ideal.ofBits FTy.f32 4286578688#32)
      (fun x : Fin 256 => (bc (ix2 255 0) - bc (ix2 x 0) + ic (ix2 x 0) : EReal)) Finset.univ) = (m : EReal) := by
    rw [hbc, hm, ← EReal.coe_add, ofBits_bot]
    refine max_real _ _ (fold_lt _ fun x => ?_)
    rw [hbc, hic, ← EReal.coe_sub, ← EReal.coe_add]
    exact EReal.coe_lt_top _
  refine ⟨m, fun l => ?_, fun d e => ?_⟩
  · unfold headM
    pointwise [k0_pay20, k0_pay18, k0_pay17, k0_pay16, k0_pay12]
    exact hm'
  · unfold headC
    pointwise [k0_pay19, k0_pay18, k0_pay17, k0_pay16, k0_pay12, k0_pay13, k0_pay9, k0_pay8]
    have hva : ∀ x : Fin 256, (if h : e.val < 128 then (v (ix2 x (⟨e.val, h⟩ : Fin 128)) : EReal) else 1) = (va vf (T + x.val) e : EReal) := fun x => by
      unfold va
      split
      · exact hv _ _
      · exact EReal.coe_one.symm
    refine Eq.trans ?_ (congrArg (fun y : ℝ => (y : EReal)) (update L ig kf vf T M m d e))
    erw [hm']
    rw [EReal.coe_add, EReal.coe_mul, coe_sum]
    refine congrArg₂ (· + ·) (congrArg₂ (· * ·) ?_ (hc d e)) (Finset.sum_congr rfl fun x _ => ?_)
    · rw [hbc, hm, ← EReal.coe_add, ← EReal.coe_sub, Ideal.exp_coe]; rfl
    · rw [EReal.coe_mul, EReal.coe_mul]
      refine congrArg₂ (· * ·) (hk x d) (congrArg₂ (· * ·) ?_ (hva x))
      rw [hbc, hbc, hic, ← EReal.coe_sub, ← EReal.coe_add, ← EReal.coe_sub, Ideal.exp_coe]; rfl

end real
end
end Cert.Kernel5Ideal.Ml

end
-- ==== Proof.MlBlock.lean ====
module

public import proofs.«01_k».proof.Proof.MlPure

@[expose] public section

/-! What a grid point of the mLSTM call leaves: its output block and its carried state, head by head, over its input blocks and the
state before it, which is zero where a sequence starts. -/

set_option maxRecDepth 16384

noncomputable section

namespace Cert.Kernel5Ideal.Ml

open Cert.Kernel5Ideal Cert.Kernel5Ideal.Gen Cert.Ml Cert.Sb
open Idealize.ShloMosaic Idealize.ShloMosaic.TcCoe Idealize.SL.Sem

/-- A head's slices of the gates and of their running sums. -/
def bcs (x5 : Vec Ideal S256x128 .f32) : Fin 4 → FVec Ideal S256x1 .f32
  | ⟨0, _⟩ => k0_pay10 (F := Ideal) (k0_pay6 x5) | ⟨1, _⟩ => k0_pay22 (F := Ideal) (k0_pay6 x5)
  | ⟨2, _⟩ => k0_pay37 (F := Ideal) (k0_pay6 x5) | ⟨3, _⟩ => k0_pay54 (F := Ideal) (k0_pay6 x5)
def ics (x5 : Vec Ideal S256x128 .f32) : Fin 4 → FVec Ideal S256x1 .f32
  | ⟨0, _⟩ => k0_pay11 (F := Ideal) x5 | ⟨1, _⟩ => k0_pay23 (F := Ideal) x5
  | ⟨2, _⟩ => k0_pay38 (F := Ideal) x5 | ⟨3, _⟩ => k0_pay55 (F := Ideal) x5
def brs (x5 : Vec Ideal S256x128 .f32) : Fin 4 → FVec Ideal S1x256 .f32
  | ⟨0, _⟩ => extractStridedSlice S1x256 ![4, 0] (k0_pay7 (F := Ideal) x5) (by decide) | ⟨1, _⟩ => extractStridedSlice S1x256 ![5, 0] (k0_pay7 (F := Ideal) x5) (by decide)
  | ⟨2, _⟩ => extractStridedSlice S1x256 ![6, 0] (k0_pay7 (F := Ideal) x5) (by decide) | ⟨3, _⟩ => extractStridedSlice S1x256 ![7, 0] (k0_pay7 (F := Ideal) x5) (by decide)
def irs (x5 : Vec Ideal S256x128 .f32) : Fin 4 → FVec Ideal S1x256 .f32
  | ⟨0, _⟩ => extractStridedSlice S1x256 ![0, 0] (k0_pay7 (F := Ideal) x5) (by decide) | ⟨1, _⟩ => extractStridedSlice S1x256 ![1, 0] (k0_pay7 (F := Ideal) x5) (by decide)
  | ⟨2, _⟩ => extractStridedSlice S1x256 ![2, 0] (k0_pay7 (F := Ideal) x5) (by decide) | ⟨3, _⟩ => extractStridedSlice S1x256 ![3, 0] (k0_pay7 (F := Ideal) x5) (by decide)

/-- A head's lanes of a block. -/
def cols (x : Vec Ideal S256x512 .bf16) : Fin 4 → Vec Ideal S256x128 .bf16
  | ⟨0, _⟩ => View.ld x (Rect.unit (s := S256x512) ![0, 0] S256x128.size inb_S256x512_S256x128_0_0)
  | ⟨1, _⟩ => View.ld x (Rect.unit (s := S256x512) ![0, 128] S256x128.size inb_S256x512_S256x128_0_128)
  | ⟨2, _⟩ => View.ld x (Rect.unit (s := S256x512) ![0, 256] S256x128.size inb_S256x512_S256x128_0_256)
  | ⟨3, _⟩ => View.ld x (Rect.unit (s := S256x512) ![0, 384] S256x128.size inb_S256x512_S256x128_0_384)
def gcols (x : Vec Ideal S1x512 .f32) : Fin 4 → Vec Ideal S1x128 .f32
  | ⟨0, _⟩ => View.ld x (Rect.unit (s := S1x512) ![0, 0] S1x128.size inb_S1x512_S1x128_0_0)
  | ⟨1, _⟩ => View.ld x (Rect.unit (s := S1x512) ![0, 128] S1x128.size inb_S1x512_S1x128_0_128)
  | ⟨2, _⟩ => View.ld x (Rect.unit (s := S1x512) ![0, 256] S1x128.size inb_S1x512_S1x128_0_256)
  | ⟨3, _⟩ => View.ld x (Rect.unit (s := S1x512) ![0, 384] S1x128.size inb_S1x512_S1x128_0_384)

/-- A head's part of the carried state. -/
def slM (M : Vec Ideal S4x1x128 .f32) : Fin 4 → Vec Ideal S1x1x128 .f32
  | ⟨0, _⟩ => View.ld M (Rect.unit (s := S4x1x128) ![0, 0, 0] S1x1x128.size inb_S4x1x128_S1x1x128_0_0_0)
  | ⟨1, _⟩ => View.ld M (Rect.unit (s := S4x1x128) ![1, 0, 0] S1x1x128.size inb_S4x1x128_S1x1x128_1_0_0)
  | ⟨2, _⟩ => View.ld M (Rect.unit (s := S4x1x128) ![2, 0, 0] S1x1x128.size inb_S4x1x128_S1x1x128_2_0_0)
  | ⟨3, _⟩ => View.ld M (Rect.unit (s := S4x1x128) ![3, 0, 0] S1x1x128.size inb_S4x1x128_S1x1x128_3_0_0)
def slC (C : Vec Ideal S4x128x256 .f32) : Fin 4 → Vec Ideal S1x128x256 .f32
  | ⟨0, _⟩ => View.ld C (Rect.unit (s := S4x128x256) ![0, 0, 0] S1x128x256.size inb_S4x128x256_S1x128x256_0_0_0)
  | ⟨1, _⟩ => View.ld C (Rect.unit (s := S4x128x256) ![1, 0, 0] S1x128x256.size inb_S4x128x256_S1x128x256_1_0_0)
  | ⟨2, _⟩ => View.ld C (Rect.unit (s := S4x128x256) ![2, 0, 0] S1x128x256.size inb_S4x128x256_S1x128x256_2_0_0)
  | ⟨3, _⟩ => View.ld C (Rect.unit (s := S4x128x256) ![3, 0, 0] S1x128x256.size inb_S4x128x256_S1x128x256_3_0_0)

section
variable (x0 x1 x2 x3 x4 : Vec Ideal S256x512 .bf16) (x5 : Vec Ideal S256x128 .f32) (x6 : Vec Ideal S1x512 .f32)
  (ms : Fin 4 → Vec Ideal S1x1x128 .f32) (cs : Fin 4 → Vec Ideal S1x128x256 .f32)

/-- The stores of the stabilisers, over what was stored before. -/
def pM (L : List (View.Piece (Elt Ideal) S4x1x128 .f32)) : List (View.Piece (Elt Ideal) S4x1x128 .f32) :=
  ⟨Rect.unit (s := S4x1x128) ![3, 0, 0] S1x1x128.size inb_S4x1x128_S1x1x128_3_0_0, headM (bcs x5 3) (ics x5 3) (ms 3)⟩
  :: ⟨Rect.unit (s := S4x1x128) ![2, 0, 0] S1x1x128.size inb_S4x1x128_S1x1x128_2_0_0, headM (bcs x5 2) (ics x5 2) (ms 2)⟩
  :: ⟨Rect.unit (s := S4x1x128) ![1, 0, 0] S1x1x128.size inb_S4x1x128_S1x1x128_1_0_0, headM (bcs x5 1) (ics x5 1) (ms 1)⟩
  :: ⟨Rect.unit (s := S4x1x128) ![0, 0, 0] S1x1x128.size inb_S4x1x128_S1x1x128_0_0_0, headM (bcs x5 0) (ics x5 0) (ms 0)⟩ :: L

/-- The stores of the states. -/
def pC (L : List (View.Piece (Elt Ideal) S4x128x256 .f32)) : List (View.Piece (Elt Ideal) S4x128x256 .f32) :=
  ⟨Rect.unit (s := S4x128x256) ![3, 0, 0] S1x128x256.size inb_S4x128x256_S1x128x256_3_0_0, headC (cols x1 3) (cols x2 3) (bcs x5 3) (ics x5 3) (ms 3) (cs 3)⟩
  :: ⟨Rect.unit (s := S4x128x256) ![2, 0, 0] S1x128x256.size inb_S4x128x256_S1x128x256_2_0_0, headC (cols x1 2) (cols x2 2) (bcs x5 2) (ics x5 2) (ms 2) (cs 2)⟩
  :: ⟨Rect.unit (s := S4x128x256) ![1, 0, 0] S1x128x256.size inb_S4x128x256_S1x128x256_1_0_0, headC (cols x1 1) (cols x2 1) (bcs x5 1) (ics x5 1) (ms 1) (cs 1)⟩
  :: ⟨Rect.unit (s := S4x128x256) ![0, 0, 0] S1x128x256.size inb_S4x128x256_S1x128x256_0_0_0, headC (cols x1 0) (cols x2 0) (bcs x5 0) (ics x5 0) (ms 0) (cs 0)⟩ :: L

/-- A head's output. -/
def ho (h : Fin 4) : FVec Ideal S256x128 .bf16 :=
  headO (bcs x5 h) (brs x5 h) (irs x5 h) (cols x0 h) (cols x1 h) (cols x2 h) (ms h) (cs h) (gcols x6 h) (cols x3 h) (cols x4 h)

/-- The stores of the outputs. -/
def pO : List (View.Piece (Elt Ideal) S256x512 .bf16) :=
  [⟨Rect.unit (s := S256x512) ![0, 384] S256x128.size inb_S256x512_S256x128_0_384, ho x0 x1 x2 x3 x4 x5 x6 ms cs 3⟩,
   ⟨Rect.unit (s := S256x512) ![0, 256] S256x128.size inb_S256x512_S256x128_0_256, ho x0 x1 x2 x3 x4 x5 x6 ms cs 2⟩,
   ⟨Rect.unit (s := S256x512) ![0, 128] S256x128.size inb_S256x512_S256x128_0_128, ho x0 x1 x2 x3 x4 x5 x6 ms cs 1⟩,
   ⟨Rect.unit (s := S256x512) ![0, 0] S256x128.size inb_S256x512_S256x128_0_0, ho x0 x1 x2 x3 x4 x5 x6 ms cs 0⟩]

/-- A store to one head's part leaves another head's. -/
theorem skipM (n : ℕ) (inb) (w) (L : List (View.Piece (Elt Ideal) S4x1x128 .f32)) (y : S4x1x128.Idx) (h : (y 0).val ≠ n) :
    View.canon (⟨Rect.unit (s := S4x1x128) ![n, 0, 0] S1x1x128.size inb, w⟩ :: L) y = View.canon L y := by
  refine View.canon_cons_of_not_mem _ L fun hm => h ?_
  obtain ⟨x, hx⟩ := LoadRect.exists_idx_of_mem (r := (Rect.unit (s := S4x1x128) ![n, 0, 0] S1x1x128.size inb).toLoadRect) hm
  have e : n + (x 0).val = (y 0).val := (Rect.idx_unit_val _ _ _ x 0).symm.trans (congrArg (fun j : S4x1x128.Idx => (j 0).val) hx)
  have : (x 0).val < 1 := (x 0).isLt
  omega
theorem skipC (n : ℕ) (inb) (w) (L : List (View.Piece (Elt Ideal) S4x128x256 .f32)) (y : S4x128x256.Idx) (h : (y 0).val ≠ n) :
    View.canon (⟨Rect.unit (s := S4x128x256) ![n, 0, 0] S1x128x256.size inb, w⟩ :: L) y = View.canon L y := by
  refine View.canon_cons_of_not_mem _ L fun hm => h ?_
  obtain ⟨x, hx⟩ := LoadRect.exists_idx_of_mem (r := (Rect.unit (s := S4x128x256) ![n, 0, 0] S1x128x256.size inb).toLoadRect) hm
  have e : n + (x 0).val = (y 0).val := (Rect.idx_unit_val _ _ _ x 0).symm.trans (congrArg (fun j : S4x128x256.Idx => (j 0).val) hx)
  have : (x 0).val < 1 := (x 0).isLt
  omega
theorem skipO (n : ℕ) (inb) (w) (L : List (View.Piece (Elt Ideal) S256x512 .bf16)) (y : S256x512.Idx) (h : (y 1).val < n ∨ n + 128 ≤ (y 1).val) :
    View.canon (⟨Rect.unit (s := S256x512) ![0, n] S256x128.size inb, w⟩ :: L) y = View.canon L y := by
  refine View.canon_cons_of_not_mem _ L fun hm => ?_
  obtain ⟨x, hx⟩ := LoadRect.exists_idx_of_mem (r := (Rect.unit (s := S256x512) ![0, n] S256x128.size inb).toLoadRect) hm
  have e : n + (x 1).val = (y 1).val := (Rect.idx_unit_val _ _ _ x 1).symm.trans (congrArg (fun j : S256x512.Idx => (j 1).val) hx)
  have : (x 1).val < 128 := (x 1).isLt
  omega

/-- A store to a head's part is read back there. -/
theorem hitM (n : ℕ) (hn : n < 4) (inb) (w) (L : List (View.Piece (Elt Ideal) S4x1x128 .f32)) (l : Fin 128) :
    View.canon (⟨Rect.unit (s := S4x1x128) ![n, 0, 0] S1x1x128.size inb, w⟩ :: L) (ix3 (⟨n, hn⟩ : Fin 4) (0 : Fin 1) l) = w (ix3 (0 : Fin 1) (0 : Fin 1) l) := by
  rw [← View.canon_cons_emb (Rect.unit (s := S4x1x128) ![n, 0, 0] S1x1x128.size inb) w L (ix3 (0 : Fin 1) (0 : Fin 1) l)]
  refine congrArg _ (funext fun a => Fin.ext ?_)
  match a with
  | ⟨0, _⟩ => show n = n + 1 * 0; omega
  | ⟨1, _⟩ => show 0 = 0 + 1 * 0; omega
  | ⟨2, _⟩ => show l.val = 0 + 1 * l.val; omega
theorem hitC (n : ℕ) (hn : n < 4) (inb) (w) (L : List (View.Piece (Elt Ideal) S4x128x256 .f32)) (d : Fin 128) (e : Fin 256) :
    View.canon (⟨Rect.unit (s := S4x128x256) ![n, 0, 0] S1x128x256.size inb, w⟩ :: L) (ix3 (⟨n, hn⟩ : Fin 4) d e) = w (ix3 (0 : Fin 1) d e) := by
  rw [← View.canon_cons_emb (Rect.unit (s := S4x128x256) ![n, 0, 0] S1x128x256.size inb) w L (ix3 (0 : Fin 1) d e)]
  refine congrArg _ (funext fun a => Fin.ext ?_)
  match a with
  | ⟨0, _⟩ => show n = n + 1 * 0; omega
  | ⟨1, _⟩ => show d.val = 0 + 1 * d.val; omega
  | ⟨2, _⟩ => show e.val = 0 + 1 * e.val; omega
theorem hitO (n : ℕ) (inb) (w) (L : List (View.Piece (Elt Ideal) S256x512 .bf16)) (r : Fin 256) (e : Fin 128) (h : n + e.val < 512) :
    View.canon (⟨Rect.unit (s := S256x512) ![0, n] S256x128.size inb, w⟩ :: L) (ix2 r (⟨n + e.val, h⟩ : Fin 512)) = w (ix2 r e) := by
  rw [← View.canon_cons_emb (Rect.unit (s := S256x512) ![0, n] S256x128.size inb) w L (ix2 r e)]
  refine congrArg _ (funext fun a => Fin.ext ?_)
  match a with
  | ⟨0, _⟩ => show r.val = 0 + 1 * r.val; omega
  | ⟨1, _⟩ => show n + e.val = n + 1 * e.val; omega

theorem canon_pM (L) (h : Fin 4) (l : Fin 128) :
    View.canon (pM x5 ms L) (ix3 h (0 : Fin 1) l) = headM (bcs x5 h) (ics x5 h) (ms h) (ix3 0 0 l) := by
  unfold pM
  match h with
  | ⟨0, _⟩ =>
    rw [skipM 3 _ _ _ _ (by decide : (0 : ℕ) ≠ 3), skipM 2 _ _ _ _ (by decide : (0 : ℕ) ≠ 2), skipM 1 _ _ _ _ (by decide : (0 : ℕ) ≠ 1)]
    exact hitM 0 _ _ _ _ _
  | ⟨1, _⟩ =>
    rw [skipM 3 _ _ _ _ (by decide : (1 : ℕ) ≠ 3), skipM 2 _ _ _ _ (by decide : (1 : ℕ) ≠ 2)]
    exact hitM 1 _ _ _ _ _
  | ⟨2, _⟩ =>
    rw [skipM 3 _ _ _ _ (by decide : (2 : ℕ) ≠ 3)]
    exact hitM 2 _ _ _ _ _
  | ⟨3, _⟩ => exact hitM 3 _ _ _ _ _

theorem canon_pC (L) (h : Fin 4) (d : Fin 128) (e : Fin 256) :
    View.canon (pC x1 x2 x5 ms cs L) (ix3 h d e) = headC (cols x1 h) (cols x2 h) (bcs x5 h) (ics x5 h) (ms h) (cs h) (ix3 0 d e) := by
  unfold pC
  match h with
  | ⟨0, _⟩ =>
    rw [skipC 3 _ _ _ _ (by decide : (0 : ℕ) ≠ 3), skipC 2 _ _ _ _ (by decide : (0 : ℕ) ≠ 2), skipC 1 _ _ _ _ (by decide : (0 : ℕ) ≠ 1)]
    exact hitC 0 _ _ _ _ _ _
  | ⟨1, _⟩ =>
    rw [skipC 3 _ _ _ _ (by decide : (1 : ℕ) ≠ 3), skipC 2 _ _ _ _ (by decide : (1 : ℕ) ≠ 2)]
    exact hitC 1 _ _ _ _ _ _
  | ⟨2, _⟩ =>
    rw [skipC 3 _ _ _ _ (by decide : (2 : ℕ) ≠ 3)]
    exact hitC 2 _ _ _ _ _ _
  | ⟨3, _⟩ => exact hitC 3 _ _ _ _ _ _

theorem canon_pO (h : Fin 4) (r : Fin 256) (e : Fin 128) :
    View.canon (pO x0 x1 x2 x3 x4 x5 x6 ms cs) (ix2 r (⟨h.val * 128 + e.val, by omega⟩ : Fin 512)) = ho x0 x1 x2 x3 x4 x5 x6 ms cs h (ix2 r e) := by
  have he := e.isLt
  unfold pO
  match h with
  | ⟨0, _⟩ =>
    rw [skipO 384 _ _ _ _ (.inl (show 0 * 128 + e.val < 384 by omega)), skipO 256 _ _ _ _ (.inl (show 0 * 128 + e.val < 256 by omega)),
      skipO 128 _ _ _ _ (.inl (show 0 * 128 + e.val < 128 by omega))]
    exact hitO 0 _ _ _ _ _ _
  | ⟨1, _⟩ =>
    rw [skipO 384 _ _ _ _ (.inl (show 1 * 128 + e.val < 384 by omega)), skipO 256 _ _ _ _ (.inl (show 1 * 128 + e.val < 256 by omega))]
    exact hitO 128 _ _ _ _ _ _
  | ⟨2, _⟩ =>
    rw [skipO 384 _ _ _ _ (.inl (show 2 * 128 + e.val < 384 by omega))]
    exact hitO 256 _ _ _ _ _ _
  | ⟨3, _⟩ => exact hitO 384 _ _ _ _ _ _

/-- The slices at an entry. -/
theorem bcs_apply (h : Fin 4) (r : Fin 256) : bcs x5 h (ix2 r (0 : Fin 1)) = k0_pay6 (F := Ideal) x5 (ix2 r (⟨4 + h.val, by omega⟩ : Fin 128)) := by
  match h with
  | ⟨0, _⟩ => unfold bcs; pointwise [k0_pay10]
  | ⟨1, _⟩ => unfold bcs; pointwise [k0_pay22]
  | ⟨2, _⟩ => unfold bcs; pointwise [k0_pay37]
  | ⟨3, _⟩ => unfold bcs; pointwise [k0_pay54]
theorem ics_apply (h : Fin 4) (r : Fin 256) : ics x5 h (ix2 r (0 : Fin 1)) = x5 (ix2 r (⟨h.val, by omega⟩ : Fin 128)) := by
  match h with
  | ⟨0, _⟩ => unfold ics; pointwise [k0_pay11]
  | ⟨1, _⟩ => unfold ics; pointwise [k0_pay23]
  | ⟨2, _⟩ => unfold ics; pointwise [k0_pay38]
  | ⟨3, _⟩ => unfold ics; pointwise [k0_pay55]
theorem brs_apply (h : Fin 4) (r : Fin 256) : brs x5 h (ix2 (0 : Fin 1) r) = k0_pay6 (F := Ideal) x5 (ix2 r (⟨4 + h.val, by omega⟩ : Fin 128)) := by
  rw [← pay7_hi x5 (⟨4 + h.val, by omega⟩ : Fin 128) r (by simp)]
  match h with
  | ⟨0, _⟩ => unfold brs; pointwise
  | ⟨1, _⟩ => unfold brs; pointwise
  | ⟨2, _⟩ => unfold brs; pointwise
  | ⟨3, _⟩ => unfold brs; pointwise
theorem irs_apply (h : Fin 4) (r : Fin 256) : irs x5 h (ix2 (0 : Fin 1) r) = x5 (ix2 r (⟨h.val, by omega⟩ : Fin 128)) := by
  rw [← pay7_lo x5 (⟨h.val, by omega⟩ : Fin 128) r h.isLt]
  match h with
  | ⟨0, _⟩ => unfold irs; pointwise
  | ⟨1, _⟩ => unfold irs; pointwise
  | ⟨2, _⟩ => unfold irs; pointwise
  | ⟨3, _⟩ => unfold irs; pointwise

theorem cols_apply (h : Fin 4) (r : Fin 256) (e : Fin 128) : cols x0 h (ix2 r e) = x0 (ix2 r (⟨h.val * 128 + e.val, by omega⟩ : Fin 512)) := by
  have key : ∀ (n : ℕ) (inb) (hn : n + e.val < 512), View.ld x0 (Rect.unit (s := S256x512) ![0, n] S256x128.size inb) (ix2 r e) = x0 (ix2 r (⟨n + e.val, hn⟩ : Fin 512)) := fun n inb hn => by
    show x0 _ = _
    refine congrArg x0 (funext fun a => Fin.ext ?_)
    match a with
    | ⟨0, _⟩ => show 0 + 1 * r.val = r.val; omega
    | ⟨1, _⟩ => show n + 1 * e.val = n + e.val; omega
  match h with
  | ⟨0, _⟩ => exact key 0 _ _
  | ⟨1, _⟩ => exact key 128 _ _
  | ⟨2, _⟩ => exact key 256 _ _
  | ⟨3, _⟩ => exact key 384 _ _
theorem gcols_apply (h : Fin 4) (e : Fin 128) : gcols x6 h (ix2 (0 : Fin 1) e) = x6 (ix2 (0 : Fin 1) (⟨h.val * 128 + e.val, by omega⟩ : Fin 512)) := by
  have key : ∀ (n : ℕ) (inb) (hn : n + e.val < 512), View.ld x6 (Rect.unit (s := S1x512) ![0, n] S1x128.size inb) (ix2 (0 : Fin 1) e) = x6 (ix2 (0 : Fin 1) (⟨n + e.val, hn⟩ : Fin 512)) := fun n inb hn => by
    show x6 _ = _
    refine congrArg x6 (funext fun a => Fin.ext ?_)
    match a with
    | ⟨0, _⟩ => show 0 + 1 * 0 = 0; omega
    | ⟨1, _⟩ => show n + 1 * e.val = n + e.val; omega
  match h with
  | ⟨0, _⟩ => exact key 0 _ _
  | ⟨1, _⟩ => exact key 128 _ _
  | ⟨2, _⟩ => exact key 256 _ _
  | ⟨3, _⟩ => exact key 384 _ _
theorem slM_apply (M : Vec Ideal S4x1x128 .f32) (h : Fin 4) (l : Fin 128) : slM M h (ix3 (0 : Fin 1) (0 : Fin 1) l) = M (ix3 h (0 : Fin 1) l) := by
  have key : ∀ (n : ℕ) (inb) (hn : n < 4), View.ld M (Rect.unit (s := S4x1x128) ![n, 0, 0] S1x1x128.size inb) (ix3 (0 : Fin 1) (0 : Fin 1) l) = M (ix3 (⟨n, hn⟩ : Fin 4) (0 : Fin 1) l) := fun n inb hn => by
    show M _ = _
    refine congrArg M (funext fun a => Fin.ext ?_)
    match a with
    | ⟨0, _⟩ => show n + 1 * 0 = n; omega
    | ⟨1, _⟩ => show 0 + 1 * 0 = 0; omega
    | ⟨2, _⟩ => show 0 + 1 * l.val = l.val; omega
  match h with
  | ⟨0, _⟩ => exact key 0 _ _
  | ⟨1, _⟩ => exact key 1 _ _
  | ⟨2, _⟩ => exact key 2 _ _
  | ⟨3, _⟩ => exact key 3 _ _
theorem slC_apply (C : Vec Ideal S4x128x256 .f32) (h : Fin 4) (d : Fin 128) (e : Fin 256) : slC C h (ix3 (0 : Fin 1) d e) = C (ix3 h d e) := by
  have key : ∀ (n : ℕ) (inb) (hn : n < 4), View.ld C (Rect.unit (s := S4x128x256) ![n, 0, 0] S1x128x256.size inb) (ix3 (0 : Fin 1) d e) = C (ix3 (⟨n, hn⟩ : Fin 4) d e) := fun n inb hn => by
    show C _ = _
    refine congrArg C (funext fun a => Fin.ext ?_)
    match a with
    | ⟨0, _⟩ => show n + 1 * 0 = n; omega
    | ⟨1, _⟩ => show 0 + 1 * d.val = d.val; omega
    | ⟨2, _⟩ => show 0 + 1 * e.val = e.val; omega
  match h with
  | ⟨0, _⟩ => exact key 0 _ _
  | ⟨1, _⟩ => exact key 1 _ _
  | ⟨2, _⟩ => exact key 2 _ _
  | ⟨3, _⟩ => exact key 3 _ _

end

section zero

theorem pay4_zero (y : S4x1x128.Idx) : k0_pay4 (F := Ideal) y = (0 : EReal) := Ideal.ofBits_zero_f32
theorem pay3_zero (y : S4x128x256.Idx) : k0_pay3 (F := Ideal) y = (0 : EReal) := Ideal.ofBits_zero_f32

/-- The zeroing store alone reads zero. -/
theorem wholeM (inb) (y : S4x1x128.Idx) :
    View.canon [(⟨Rect.unit (s := S4x1x128) ![0, 0, 0] ![4, 1, 128] inb, k0_pay4 (F := Ideal)⟩ : View.Piece (Elt Ideal) S4x1x128 .f32)] y = (0 : EReal) := by
  have e : (Rect.unit (s := S4x1x128) ![0, 0, 0] ![4, 1, 128] inb).emb y = y := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  have := View.canon_cons_emb (Val := Elt Ideal) (e := .f32) (Rect.unit (s := S4x1x128) ![0, 0, 0] ![4, 1, 128] inb) (k0_pay4 (F := Ideal)) [] y
  rw [e] at this
  exact this.trans (pay4_zero y)
theorem wholeC (inb) (y : S4x128x256.Idx) :
    View.canon [(⟨Rect.unit (s := S4x128x256) ![0, 0, 0] ![4, 128, 256] inb, k0_pay3 (F := Ideal)⟩ : View.Piece (Elt Ideal) S4x128x256 .f32)] y = (0 : EReal) := by
  have e : (Rect.unit (s := S4x128x256) ![0, 0, 0] ![4, 128, 256] inb).emb y = y := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  have := View.canon_cons_emb (Val := Elt Ideal) (e := .f32) (Rect.unit (s := S4x128x256) ![0, 0, 0] ![4, 128, 256] inb) (k0_pay3 (F := Ideal)) [] y
  rw [e] at this
  exact this.trans (pay3_zero y)
theorem rcM0 ( j iw) :
    (View.whole cc0_scratch1).readCov (Val := Elt Ideal) [⟨Rect.unit (s := S4x1x128) ![0, 0, 0] ![4, 1, 128] iw, k0_pay4 (F := Ideal)⟩]
      (Rect.unit (s := S4x1x128) ![0, 0, 0] ![1, 1, 128] j).toLoadRect = fun _ => (0 : EReal) := by
  rw [View.readCov_eq_canon']
  funext x
  exact wholeM _ _
theorem rcM1 (i0 j iw) (w0) :
    (View.whole cc0_scratch1).readCov (Val := Elt Ideal) [⟨Rect.unit (s := S4x1x128) ![0, 0, 0] ![1, 1, 128] i0, w0⟩, ⟨Rect.unit (s := S4x1x128) ![0, 0, 0] ![4, 1, 128] iw, k0_pay4 (F := Ideal)⟩]
      (Rect.unit (s := S4x1x128) ![1, 0, 0] ![1, 1, 128] j).toLoadRect = fun _ => (0 : EReal) := by
  rw [View.readCov_eq_canon']
  funext x
  have hx : (x 0).val < 1 := (x 0).isLt
  have e : (((Rect.unit (s := S4x1x128) ![1, 0, 0] ![1, 1, 128] j).toLoadRect.idx x) 0).val = 1 + 1 * (x 0).val := rfl
  rw [show View.canon _ ((Rect.unit (s := S4x1x128) ![1, 0, 0] ![1, 1, 128] j).toLoadRect.idx x) = _ from skipM 0 _ _ _ _ (by omega)]
  exact wholeM _ _
theorem rcM2 (i0 i1 j iw) (w0 w1) :
    (View.whole cc0_scratch1).readCov (Val := Elt Ideal) [⟨Rect.unit (s := S4x1x128) ![1, 0, 0] ![1, 1, 128] i1, w1⟩, ⟨Rect.unit (s := S4x1x128) ![0, 0, 0] ![1, 1, 128] i0, w0⟩, ⟨Rect.unit (s := S4x1x128) ![0, 0, 0] ![4, 1, 128] iw, k0_pay4 (F := Ideal)⟩]
      (Rect.unit (s := S4x1x128) ![2, 0, 0] ![1, 1, 128] j).toLoadRect = fun _ => (0 : EReal) := by
  rw [View.readCov_eq_canon']
  funext x
  have hx : (x 0).val < 1 := (x 0).isLt
  have e : (((Rect.unit (s := S4x1x128) ![2, 0, 0] ![1, 1, 128] j).toLoadRect.idx x) 0).val = 2 + 1 * (x 0).val := rfl
  rw [show View.canon _ ((Rect.unit (s := S4x1x128) ![2, 0, 0] ![1, 1, 128] j).toLoadRect.idx x) = _ from skipM 1 _ _ _ _ (by omega)]
  rw [show View.canon _ ((Rect.unit (s := S4x1x128) ![2, 0, 0] ![1, 1, 128] j).toLoadRect.idx x) = _ from skipM 0 _ _ _ _ (by omega)]
  exact wholeM _ _
theorem rcM3 (i0 i1 i2 j iw) (w0 w1 w2) :
    (View.whole cc0_scratch1).readCov (Val := Elt Ideal) [⟨Rect.unit (s := S4x1x128) ![2, 0, 0] ![1, 1, 128] i2, w2⟩, ⟨Rect.unit (s := S4x1x128) ![1, 0, 0] ![1, 1, 128] i1, w1⟩, ⟨Rect.unit (s := S4x1x128) ![0, 0, 0] ![1, 1, 128] i0, w0⟩, ⟨Rect.unit (s := S4x1x128) ![0, 0, 0] ![4, 1, 128] iw, k0_pay4 (F := Ideal)⟩]
      (Rect.unit (s := S4x1x128) ![3, 0, 0] ![1, 1, 128] j).toLoadRect = fun _ => (0 : EReal) := by
  rw [View.readCov_eq_canon']
  funext x
  have hx : (x 0).val < 1 := (x 0).isLt
  have e : (((Rect.unit (s := S4x1x128) ![3, 0, 0] ![1, 1, 128] j).toLoadRect.idx x) 0).val = 3 + 1 * (x 0).val := rfl
  rw [show View.canon _ ((Rect.unit (s := S4x1x128) ![3, 0, 0] ![1, 1, 128] j).toLoadRect.idx x) = _ from skipM 2 _ _ _ _ (by omega)]
  rw [show View.canon _ ((Rect.unit (s := S4x1x128) ![3, 0, 0] ![1, 1, 128] j).toLoadRect.idx x) = _ from skipM 1 _ _ _ _ (by omega)]
  rw [show View.canon _ ((Rect.unit (s := S4x1x128) ![3, 0, 0] ![1, 1, 128] j).toLoadRect.idx x) = _ from skipM 0 _ _ _ _ (by omega)]
  exact wholeM _ _
theorem rcC0 ( j iw) :
    (View.whole cc0_scratch0).readCov (Val := Elt Ideal) [⟨Rect.unit (s := S4x128x256) ![0, 0, 0] ![4, 128, 256] iw, k0_pay3 (F := Ideal)⟩]
      (Rect.unit (s := S4x128x256) ![0, 0, 0] ![1, 128, 256] j).toLoadRect = fun _ => (0 : EReal) := by
  rw [View.readCov_eq_canon']
  funext x
  exact wholeC _ _
theorem rcC1 (i0 j iw) (w0) :
    (View.whole cc0_scratch0).readCov (Val := Elt Ideal) [⟨Rect.unit (s := S4x128x256) ![0, 0, 0] ![1, 128, 256] i0, w0⟩, ⟨Rect.unit (s := S4x128x256) ![0, 0, 0] ![4, 128, 256] iw, k0_pay3 (F := Ideal)⟩]
      (Rect.unit (s := S4x128x256) ![1, 0, 0] ![1, 128, 256] j).toLoadRect = fun _ => (0 : EReal) := by
  rw [View.readCov_eq_canon']
  funext x
  have hx : (x 0).val < 1 := (x 0).isLt
  have e : (((Rect.unit (s := S4x128x256) ![1, 0, 0] ![1, 128, 256] j).toLoadRect.idx x) 0).val = 1 + 1 * (x 0).val := rfl
  rw [show View.canon _ ((Rect.unit (s := S4x128x256) ![1, 0, 0] ![1, 128, 256] j).toLoadRect.idx x) = _ from skipC 0 _ _ _ _ (by omega)]
  exact wholeC _ _
theorem rcC2 (i0 i1 j iw) (w0 w1) :
    (View.whole cc0_scratch0).readCov (Val := Elt Ideal) [⟨Rect.unit (s := S4x128x256) ![1, 0, 0] ![1, 128, 256] i1, w1⟩, ⟨Rect.unit (s := S4x128x256) ![0, 0, 0] ![1, 128, 256] i0, w0⟩, ⟨Rect.unit (s := S4x128x256) ![0, 0, 0] ![4, 128, 256] iw, k0_pay3 (F := Ideal)⟩]
      (Rect.unit (s := S4x128x256) ![2, 0, 0] ![1, 128, 256] j).toLoadRect = fun _ => (0 : EReal) := by
  rw [View.readCov_eq_canon']
  funext x
  have hx : (x 0).val < 1 := (x 0).isLt
  have e : (((Rect.unit (s := S4x128x256) ![2, 0, 0] ![1, 128, 256] j).toLoadRect.idx x) 0).val = 2 + 1 * (x 0).val := rfl
  rw [show View.canon _ ((Rect.unit (s := S4x128x256) ![2, 0, 0] ![1, 128, 256] j).toLoadRect.idx x) = _ from skipC 1 _ _ _ _ (by omega)]
  rw [show View.canon _ ((Rect.unit (s := S4x128x256) ![2, 0, 0] ![1, 128, 256] j).toLoadRect.idx x) = _ from skipC 0 _ _ _ _ (by omega)]
  exact wholeC _ _
theorem rcC3 (i0 i1 i2 j iw) (w0 w1 w2) :
    (View.whole cc0_scratch0).readCov (Val := Elt Ideal) [⟨Rect.unit (s := S4x128x256) ![2, 0, 0] ![1, 128, 256] i2, w2⟩, ⟨Rect.unit (s := S4x128x256) ![1, 0, 0] ![1, 128, 256] i1, w1⟩, ⟨Rect.unit (s := S4x128x256) ![0, 0, 0] ![1, 128, 256] i0, w0⟩, ⟨Rect.unit (s := S4x128x256) ![0, 0, 0] ![4, 128, 256] iw, k0_pay3 (F := Ideal)⟩]
      (Rect.unit (s := S4x128x256) ![3, 0, 0] ![1, 128, 256] j).toLoadRect = fun _ => (0 : EReal) := by
  rw [View.readCov_eq_canon']
  funext x
  have hx : (x 0).val < 1 := (x 0).isLt
  have e : (((Rect.unit (s := S4x128x256) ![3, 0, 0] ![1, 128, 256] j).toLoadRect.idx x) 0).val = 3 + 1 * (x 0).val := rfl
  rw [show View.canon _ ((Rect.unit (s := S4x128x256) ![3, 0, 0] ![1, 128, 256] j).toLoadRect.idx x) = _ from skipC 2 _ _ _ _ (by omega)]
  rw [show View.canon _ ((Rect.unit (s := S4x128x256) ![3, 0, 0] ![1, 128, 256] j).toLoadRect.idx x) = _ from skipC 1 _ _ _ _ (by omega)]
  rw [show View.canon _ ((Rect.unit (s := S4x128x256) ![3, 0, 0] ![1, 128, 256] j).toLoadRect.idx x) = _ from skipC 0 _ _ _ _ (by omega)]
  exact wholeC _ _

theorem rdM (X : Vec Ideal S4x1x128 .f32) (hw : (Memref.whole cc0_scratch1).IsWhole) :
    View.read (Elt Ideal) (View.whole cc0_scratch1) (hw.unread X) = X := hw.read_unread X
theorem rdC (X : Vec Ideal S4x128x256 .f32) (hw : (Memref.whole cc0_scratch0).IsWhole) :
    View.read (Elt Ideal) (View.whole cc0_scratch0) (hw.unread X) = X := hw.read_unread X

section step
variable (m : (ℓ : Loc nD τ sig) → Buf (Elt Ideal) ℓ) (c : Dev nD) (t : Fin cfg0.N)

/-- A first point leaves the stabilisers, the states and the outputs over zeros. -/
theorem outM_A (h : t.val % 8 = 0) : (outsAt0 m c t.val t.isLt).2.2 = View.canon (pM (iblk m c 5 t) (fun _ _ => (0 : EReal))
    [⟨Rect.unit (s := S4x1x128) ![0, 0, 0] ![4, 1, 128] inb_S4x1x128_S4x1x128_0_0_0, k0_pay4 (F := Ideal)⟩]) := by
  rw [outsAt0_A m c t h]
  frame_out
  rw [rcM0, rcM1, rcM2, rcM3]
  rfl
theorem outC_A (h : t.val % 8 = 0) : (outsAt0 m c t.val t.isLt).2.1
    = View.canon (pC (iblk m c 1 t) (iblk m c 2 t) (iblk m c 5 t) (fun _ _ => (0 : EReal)) (fun _ _ => (0 : EReal))
    [⟨Rect.unit (s := S4x128x256) ![0, 0, 0] ![4, 128, 256] inb_S4x128x256_S4x128x256_0_0_0, k0_pay3 (F := Ideal)⟩]) := by
  rw [outsAt0_A m c t h]
  frame_out
  rw [rcM0, rcM1, rcM2, rcM3, rcC0, rcC1, rcC2, rcC3]
  rfl
theorem outO_A (h : t.val % 8 = 0) : (outsAt0 m c t.val t.isLt).1
    = View.canon (pO (iblk m c 0 t) (iblk m c 1 t) (iblk m c 2 t) (iblk m c 3 t) (iblk m c 4 t) (iblk m c 5 t) (iblk m c 6 t)
      (fun _ _ => (0 : EReal)) (fun _ _ => (0 : EReal))) := by
  rw [outsAt0_A m c t h]
  frame_out
  rw [rcM0, rcM1, rcM2, rcM3, rcC0, rcC1, rcC2, rcC3]
  rfl

/-- A later point leaves them over the carried stabilisers and states. -/
theorem outM_B (h : ¬ t.val % 8 = 0) : (outsAt0 m c t.val t.isLt).2.2
    = View.canon (pM (iblk m c 5 t) (slM (outsAt0 m c (t.val - 1) (by omega)).2.2) []) := by
  rw [outsAt0_B m c t h]
  frame_out
  simp only [rdM]
  rfl
theorem outC_B (h : ¬ t.val % 8 = 0) : (outsAt0 m c t.val t.isLt).2.1
    = View.canon (pC (iblk m c 1 t) (iblk m c 2 t) (iblk m c 5 t) (slM (outsAt0 m c (t.val - 1) (by omega)).2.2)
      (slC (outsAt0 m c (t.val - 1) (by omega)).2.1) []) := by
  rw [outsAt0_B m c t h]
  frame_out
  simp only [rdM, rdC]
  rfl
theorem outO_B (h : ¬ t.val % 8 = 0) : (outsAt0 m c t.val t.isLt).1
    = View.canon (pO (iblk m c 0 t) (iblk m c 1 t) (iblk m c 2 t) (iblk m c 3 t) (iblk m c 4 t) (iblk m c 5 t) (iblk m c 6 t)
      (slM (outsAt0 m c (t.val - 1) (by omega)).2.2) (slC (outsAt0 m c (t.val - 1) (by omega)).2.1)) := by
  rw [outsAt0_B m c t h]
  frame_out
  simp only [rdM, rdC]
  rfl
end step

end zero
end Cert.Kernel5Ideal.Ml

end
-- ==== Proof.MlRef.lean ====
module

public import proofs.«01_k».proof.Proof.Gen.Reference5Ideal.Read
public import proofs.«01_k».proof.Proof.MlMath
public import Idealize.ShloMosaic.Lib.Pointwise

@[expose] public section

/-! The mLSTM reference read at an entry: the norm and gates of a row of read-outs, each a masked weighted sum over all rows. -/

set_option maxRecDepth 16384

noncomputable section

namespace Cert.Reference5Ideal.Ml

open Cert.Reference5Ideal Cert.Reference5Ideal.Read Cert.Ml Cert.Sb
open Idealize.ShloMosaic Idealize.ShloMosaic.TcCoe Idealize.SL.Sem

theorem foldl_add {α : Type} (g : α → EReal) (L : List α) (v : EReal) : L.foldl (fun r n => r + g n) v = v + (L.map g).sum := by
  induction L generalizing v with
  | nil => simp
  | cons a L ih => rw [List.foldl_cons, ih, List.map_cons, List.sum_cons, add_assoc]

/-- The windows' indices are their last coordinates. -/
def lastEquiv : (⟨3, ![1, 1, 2048]⟩ : Shape).Idx ≃ Fin 2048 where
  toFun i := ⟨(i 2).val, (i 2).isLt⟩
  invFun w := fun a => match a with
    | ⟨0, _⟩ => ⟨0, Nat.one_pos⟩
    | ⟨1, _⟩ => ⟨0, Nat.one_pos⟩
    | ⟨2, _⟩ => w
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl
  right_inv w := rfl

/-- The running sum: its entry is the sum from the start up to there. -/
theorem prefix_window (x : S32x4x2048.Idx → EReal) (v : EReal) (hv : v = 0)
    (h : S32x4x2048.ReduceWindows ![1, 1, 2048] ![1, 1, 1] ![0, 0, 2047] ![0, 0, 0] S32x4x2048)
    (j : S32x4x2048.Idx) (f : ℕ → ℝ)
    (hf : ∀ i : S32x4x2048.Idx, (i 0).val = (j 0).val → (i 1).val = (j 1).val → x i = (f (i 2).val : EReal)) :
    Ideal.hostReduceWindowAdd ![1, 1, 2048] ![1, 1, 1] ![0, 0, 2047] ![0, 0, 0] h x v j
      = (cum f ((j 2).val + 1) : EReal) := by
  subst hv
  unfold Ideal.hostReduceWindowAdd Host.reduceWindow
  dsimp only
  rw [foldl_add, zero_add, ← Fin.sum_univ_def]
  rw [← Equiv.sum_comp (Shape.rowMajor (⟨3, ![1, 1, 2048]⟩ : Shape))]
  rw [← Equiv.sum_comp lastEquiv.symm]
  have hj : (j 2).val < 2048 := (j 2).isLt
  trans ∑ w : Fin 2048, ((if 2047 ≤ (j 2).val + w.val then f ((j 2).val + w.val - 2047) else 0 : ℝ) : EReal)
  · refine Finset.sum_congr rfl fun w _ => ?_
    have hw := w.isLt
    have hq : ∀ a : Fin 3, (((⟨3, ![1, 1, 2048]⟩ : Shape).rowMajor.symm ((⟨3, ![1, 1, 2048]⟩ : Shape).rowMajor (lastEquiv.symm w))) a).val
        = (lastEquiv.symm w a).val := fun a => by rw [Equiv.symm_apply_apply]
    have p0 : ∀ a : Fin 3, a.val < 2 → (lastEquiv.symm w a).val = 0 := fun a ha => by
      match a with
      | ⟨0, _⟩ => rfl
      | ⟨1, _⟩ => rfl
      | ⟨2, _⟩ => exact absurd ha (by simp)
    have p2 : (lastEquiv.symm w 2).val = w.val := rfl
    by_cases hc : 2047 ≤ (j 2).val + w.val
    · rw [if_pos hc, dif_pos ?c]
      case c =>
        intro a
        rw [hq]
        match a with
        | ⟨0, _⟩ => have : (j 0).val < 32 := (j 0).isLt; exact ⟨Nat.zero_le _, by show (j 0).val * 1 + 0 - 0 < 32; omega⟩
        | ⟨1, _⟩ => have : (j 1).val < 4 := (j 1).isLt; exact ⟨Nat.zero_le _, by show (j 1).val * 1 + 0 - 0 < 4; omega⟩
        | ⟨2, _⟩ => exact ⟨by show 2047 ≤ (j 2).val * 1 + w.val; omega, by show (j 2).val * 1 + w.val - 2047 < 2048; omega⟩
      have q0 := hq 0
      have q1 := hq 1
      have q2 := hq 2
      rw [p0 _ (by decide)] at q0 q1
      rw [p2] at q2
      refine (hf _ ?_ ?_).trans ?_
      · show (j 0).val * 1 + _ - 0 = _
        erw [q0]; omega
      · show (j 1).val * 1 + _ - 0 = _
        erw [q1]; omega
      · refine congrArg (fun n => ((f n : ℝ) : EReal)) ?_
        show (j 2).val * 1 + _ - 2047 = _
        erw [q2]; omega
    · rw [if_neg hc, dif_neg, EReal.coe_zero]
      intro hin
      have := (hin 2).1
      rw [hq, p2] at this
      have : 2047 ≤ (j 2).val * 1 + w.val := this
      omega
  · rw [← coe_sum Finset.univ]
    refine congrArg _ ?_
    rw [Fin.sum_univ_eq_sum_range (fun w => if 2047 ≤ (j 2).val + w then f ((j 2).val + w - 2047) else 0) 2048, ← Finset.sum_filter]
    unfold cum
    refine Finset.sum_bij' (fun w _ => (j 2).val + w - 2047) (fun s _ => s + 2047 - (j 2).val) ?_ ?_ ?_ ?_ ?_
    · intro w hw; simp only [Finset.mem_filter, Finset.mem_range] at hw ⊢; omega
    · intro s hs; simp only [Finset.mem_filter, Finset.mem_range] at hs ⊢; omega
    · intro w hw; simp only [Finset.mem_filter, Finset.mem_range] at hw; omega
    · intro s hs; simp only [Finset.mem_range] at hs; omega
    · intro w hw; rfl

/-- The host's softplus of a real number. -/
theorem host_sp (w : EReal) (x : ℝ) (h : w = (x : EReal)) :
    Scalar.select (Ideal.cmp .une (w - 0) (w - 0)) (w + 0) (max w 0 + Ideal.log1p (Ideal.exp (-(max (w - 0) (-(w - 0)))))) = ((sp x : ℝ) : EReal) := by
  have hc : Ideal.cmp .une (w - 0) (w - 0) = 0#1 := by simp [Ideal.cmp]
  rw [hc]
  show max w 0 + Ideal.log (1 + Ideal.exp (-(max (w - 0) (-(w - 0))))) = _
  rw [h, sub_zero, ← sp_coe, zero_sub]

section
variable (x0 : (⟨S65536x6656, .bf16⟩ : BufTy).Contents (Elt Ideal)) (x1 : (⟨S65536x128, .f32⟩ : BufTy).Contents (Elt Ideal)) (x2 : (⟨S512, .f32⟩ : BufTy).Contents (Elt Ideal))

/-- The result at an entry: its row of read-outs normed and gated. -/
theorem out_apply (b : Fin 32) (h : Fin 4) (t : Fin 2048) (e : Fin 128) :
    val_main_v79 (F := Ideal) x0 x1 x2 (ix2 (⟨b.val * 2048 + t.val, by omega⟩ : Fin 65536) (⟨h.val * 128 + e.val, by omega⟩ : Fin 512))
      = gate (fun y => val_main_v46 (F := Ideal) x0 x1 (ix4 b h t y)) e (x2 (ix1 (⟨h.val * 128 + e.val, by omega⟩ : Fin 512)))
          (x0 (ix2 (⟨b.val * 2048 + t.val, by omega⟩ : Fin 65536) (⟨5632 + (h.val * 128 + e.val), by omega⟩ : Fin 6656)))
          (x0 (ix2 (⟨b.val * 2048 + t.val, by omega⟩ : Fin 65536) (⟨6144 + (h.val * 128 + e.val), by omega⟩ : Fin 6656))) := by
  pointwise [val_main_v79, val_main_v78, val_main_v77, val_main_v76, val_main_v75, val_main_v74, val_main_v73, val_main_v72,
    val_main_v71, val_main_v70, val_main_v69, val_main_v68, val_main_v67, val_main_v66, val_main_v65, val_main_v64, val_main_v63,
    val_main_v62, val_main_v61, val_main_v60, val_main_v59, val_main_v58, val_main_v57, val_main_v56, val_main_v55, val_main_v54,
    val_main_v53, val_main_v52, val_main_v51, val_main_v50, val_main_v49, val_main_v48, val_main_v47, val_main_v4, val_main_v5,
    val_main_v0, val_main_call3_v5, val_main_call3_v4, val_main_call3_v3, val_main_call3_v2, val_main_call3_v1, val_main_call3_v0,
    val_main_call3_cst, val_main_call3_cst_0, val_main_cst_2, val_main_cst_3, val_main_cst_4, val_main_cst_5, val_main_cst_6,
    val_main_cst_7, val_main_cst_8]
  rfl

/-- The bounds the arguments' indices meet. -/
theorem row_lt (b : Fin 32) (t : Fin 2048) : b.val * 2048 + t.val < 65536 := by omega
theorem gate_lt (h : Fin 4) : 4 + h.val < 128 := by omega
theorem head_lt (h : Fin 4) : h.val < 128 := by omega
theorem q_lt (h : Fin 4) (d : Fin 128) : 4096 + (h.val * 128 + d.val) < 6656 := by omega
theorem k_lt (h : Fin 4) (d : Fin 128) : 4608 + (h.val * 128 + d.val) < 6656 := by omega
theorem v_lt (h : Fin 4) (d : Fin 128) : 5120 + (h.val * 128 + d.val) < 6656 := by omega

section real
variable (b : Fin 32) (h : Fin 4) (fg ig : ℕ → ℝ) (qf kf vf : ℕ → Fin 128 → ℝ)
  (hf : ∀ t : Fin 2048, x1 (ix2 (⟨b.val * 2048 + t.val, row_lt b t⟩ : Fin 65536) (⟨4 + h.val, gate_lt h⟩ : Fin 128)) = (fg t.val : EReal))
  (hi : ∀ t : Fin 2048, x1 (ix2 (⟨b.val * 2048 + t.val, row_lt b t⟩ : Fin 65536) (⟨h.val, head_lt h⟩ : Fin 128)) = (ig t.val : EReal))
  (hq : ∀ (t : Fin 2048) (d : Fin 128), x0 (ix2 (⟨b.val * 2048 + t.val, row_lt b t⟩ : Fin 65536) (⟨4096 + (h.val * 128 + d.val), q_lt h d⟩ : Fin 6656)) = (qf t.val d : EReal))
  (hk : ∀ (t : Fin 2048) (d : Fin 128), x0 (ix2 (⟨b.val * 2048 + t.val, row_lt b t⟩ : Fin 65536) (⟨4608 + (h.val * 128 + d.val), k_lt h d⟩ : Fin 6656)) = (kf t.val d : EReal))
  (hv : ∀ (t : Fin 2048) (d : Fin 128), x0 (ix2 (⟨b.val * 2048 + t.val, row_lt b t⟩ : Fin 65536) (⟨5120 + (h.val * 128 + d.val), v_lt h d⟩ : Fin 6656)) = (vf t.val d : EReal))

include hf in
/-- The logarithm of the forget gate. -/
theorem log_f (t : Fin 2048) : val_main_v18 (F := Ideal) x1 (ix3 b h t) = ((-sp (-fg t.val) : ℝ) : EReal) := by
  have e15 : val_main_v15 (F := Ideal) x1 (ix2 (⟨b.val * 2048 + t.val, by omega⟩ : Fin 65536) h) = (fg t.val : EReal) := by
    pointwise [val_main_v15]
    exact hf t
  have e : val_main_v18 (F := Ideal) x1 (ix3 b h t) = (-(val_main_call0_v1 (F := Ideal) x1 (ix2 (⟨b.val * 2048 + t.val, by omega⟩ : Fin 65536) h) : EReal) : EReal) := by
    pointwise [val_main_v18, val_main_v17, val_main_v16]
  rw [e]
  simp only [val_main_call0_v1_apply, val_main_call0_call0_v4_apply, val_main_call0_call0_v6_apply,
    val_main_call0_call0_v11_apply, val_main_call0_call0_v3_apply, val_main_call0_call0_v1_apply, val_main_call0_call0_v10_apply,
    val_main_call0_call0_v9_apply, val_main_call0_call0_v8_apply, val_main_call0_call0_v7_apply, val_main_call0_v0_apply,
    val_main_call0_call0_v0_apply, val_main_call0_call0_v2_apply, val_main_call0_call0_v5_apply, val_main_call0_call0_cst_apply, e15,
    Ideal.ofBits_def, Ideal.ofBits_zero_f32]
  refine (congrArg (fun x : EReal => -x) (host_sp (-(fg t.val : EReal)) (-fg t.val) (EReal.coe_neg _).symm)).trans ?_
  rw [← EReal.coe_neg]

include hf in
/-- Its running sum. -/
theorem cum_f (t : Fin 2048) : val_main_v19 (F := Ideal) x1 (ix3 b h t) = (cum (fun s => -sp (-fg s)) (t.val + 1) : EReal) := by
  have h18 : ∀ i : S32x4x2048.Idx, (i 0).val = b.val → (i 1).val = h.val →
      val_main_v18 (F := Ideal) x1 i = ((-sp (-fg (i 2).val) : ℝ) : EReal) := fun i i0 i1 => by
    have e : i = ix3 b h (⟨(i 2).val, (i 2).isLt⟩ : Fin 2048) := funext fun a => Fin.ext (by
      match a with
      | ⟨0, _⟩ => exact i0
      | ⟨1, _⟩ => exact i1
      | ⟨2, _⟩ => rfl)
    rw [e]
    exact log_f x1 b h fg hf _
  have h0 : val_main_call1_call0_v0 (F := Ideal) (Shape.Idx.first Gen.h_S_) = (0 : EReal) := by
    rw [val_main_call1_call0_v0_apply, val_main_call1_call0_cst_apply, Ideal.ofBits_def, Ideal.ofBits_zero_f32]
  unfold val_main_v19 Host.reduceWindowAdd
  generalize val_main_v18 (F := Ideal) x1 = y at h18 ⊢
  generalize val_main_call1_call0_v0 (F := Ideal) (Shape.Idx.first Gen.h_S_) = v at h0 ⊢
  exact prefix_window y v h0 _ (ix3 b h t) (fun s => -sp (-fg s)) h18

include hf hi in
/-- The weight of a row. -/
theorem weight (t s : Fin 2048) : val_main_v36 (F := Ideal) x1 (ix4 b h t s)
    = ((if s.val ≤ t.val then Real.exp (cum (fun s => -sp (-fg s)) (t.val + 1) - cum (fun s => -sp (-fg s)) (s.val + 1) + ig s.val) else 0 : ℝ) : EReal) := by
  have ht := t.isLt
  have hs := s.isLt
  pointwise [val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v14, val_main_v13, val_main_v12, val_main_call2_v1, val_main_call2_v2, val_main_call2_v0, val_main_cst]
  rw [select_sle _ _ (by omega) (by omega), cum_f x1 b h fg hf, cum_f x1 b h fg hf, hi]
  by_cases c : s.val ≤ t.val
  · rw [if_pos c, if_pos c, ← EReal.coe_sub, ← EReal.coe_add, Ideal.exp_coe]
  · rw [if_neg c, if_neg c]
    show Ideal.ofBits .f32 0x00000000#32 = _
    rw [Ideal.ofBits_zero_f32, EReal.coe_zero]

include hf hi hq hk hv in
/-- A row's read-out over the reals. -/
theorem rd_real (t : Fin 2048) (e : Fin 128) :
    val_main_v46 (F := Ideal) x0 x1 (ix4 b h t e) = (hidr (fun s => -sp (-fg s)) ig qf kf vf t.val e : EReal) := by
  have ht := t.isLt
  have h37 : ∀ s : Fin 2048, val_main_v37 (F := Ideal) x0 (ix4 b h t s) = ((∑ d, qf t.val d * kf s.val d : ℝ) : EReal) := fun s => by
    pointwise [val_main_v37, val_main_v9, val_main_v8, val_main_v7, val_main_v6, val_main_v1, val_main_v2, val_main_v0]
    rw [coe_sum]
    exact Finset.sum_congr rfl fun d _ => by rw [hq, hk, EReal.coe_mul]
  have h11 : ∀ s : Fin 2048, val_main_v11 (F := Ideal) x0 (ix4 b h s e) = (vf s.val e : EReal) := fun s => by
    pointwise [val_main_v11, val_main_v10, val_main_v3, val_main_v0]
    exact hv s e
  have cut : ∀ g : ℕ → ℝ, (∑ s : Fin 2048, if s.val ≤ t.val then g s.val else 0) = ∑ s ∈ Finset.range (t.val + 1), g s := fun g => by
    rw [Fin.sum_univ_eq_sum_range (fun s => if s ≤ t.val then g s else 0) 2048,
      ← Finset.sum_subset (s₁ := Finset.range (t.val + 1)) (fun a ha => by simp at ha ⊢; omega) fun a _ ha => by
        simp at ha; rw [if_neg (by omega)]]
    exact Finset.sum_congr rfl fun s hs => by simp at hs; rw [if_pos (by omega)]
  have w := weight x1 b h fg ig hf hi t
  have hc0 : val_main_cst_0 (F := Ideal) (Shape.Idx.first Gen.h_S_) = (0 : EReal) := by
    rw [val_main_cst_0_apply, Ideal.ofBits_def, Ideal.ofBits_zero_f32]
  have hn : (∑ x : Fin 2048, (val_main_v36 (F := Ideal) x1 (ix4 b h t x) : EReal) * val_main_v37 (F := Ideal) x0 (ix4 b h t x) * val_main_v11 (F := Ideal) x0 (ix4 b h x e))
      = (num (fun s => -sp (-fg s)) ig qf kf vf t.val ⟨e.val, by omega⟩ : EReal) := by
    unfold num
    rw [← cut (fun s => _ * (∑ d, qf t.val d * kf s d) * va vf s ⟨e.val, by omega⟩), coe_sum]
    refine Finset.sum_congr rfl fun s _ => ?_
    rw [w, h37, h11, ← EReal.coe_mul, ← EReal.coe_mul]
    refine congrArg _ ?_
    rw [ite_mul, ite_mul, zero_mul, zero_mul, show va vf s.val ⟨e.val, by omega⟩ = vf s.val e from dif_pos e.isLt]
  have hd : (∑ x : Fin 2048, (val_main_v36 (F := Ideal) x1 (ix4 b h t x) : EReal) * val_main_v37 (F := Ideal) x0 (ix4 b h t x))
      = (num (fun s => -sp (-fg s)) ig qf kf vf t.val ⟨128, by omega⟩ : EReal) := by
    rw [num_one _ _ _ _ _ _ _ (le_refl _), ← cut (fun s => _ * (∑ d, qf t.val d * kf s d)), coe_sum]
    refine Finset.sum_congr rfl fun s _ => ?_
    rw [w, h37, ← EReal.coe_mul]
    refine congrArg _ ?_
    rw [ite_mul, zero_mul]
  pointwise [val_main_v46, val_main_v45, val_main_v44, val_main_v43, val_main_v42, val_main_v41, val_main_v40, val_main_v39,
    val_main_v38, val_main_cst_1]
  rw [hn, hc0, hd, zero_add]
  exact quot_ref _ _

end real
end
end Cert.Reference5Ideal.Ml

end
-- ==== Proof.MlValue.lean ====
module

public import proofs.«01_k».proof.Defs
public import proofs.«01_k».proof.Proof.MlBlock
public import proofs.«01_k».proof.Proof.MlRef
public import proofs.«01_k».proof.Proof.SbClaim
public import proofs.«01_k».proof.Proof.Gen.Reference5Ideal.Run
public import proofs.«01_k».proof.Proof.Gen.Pre_finite_mlstm
public import Idealize.ShloMosaic.Lib.Pointwise

@[expose] public section

/-! The mLSTM call: its result is the reference's wherever queries, keys, values and gates are finite. A head's carried state, times the
exponential of its stabiliser, is the decayed sum over all rows before. -/

set_option maxRecDepth 16384

noncomputable section

namespace Cert.Kernel5Ideal.Ml

open Cert.Kernel5Ideal Cert.Kernel5Ideal.Gen Cert.Ml Cert.Sb
open Idealize.ShloMosaic Idealize.ShloMosaic.TcCoe Idealize.SL.Sem

/-- A sequence's rows as functions of the step: 128 lanes from a column on, and one column of the gates. -/
def row0 (x : FVec Ideal S65536x6656 .bf16) (b n s : ℕ) (d : Fin 128) : ℝ :=
  if h : b * 2048 + s < 65536 ∧ n + d.val < 6656 then (x (ix2 (⟨b * 2048 + s, h.1⟩ : Fin 65536) (⟨n + d.val, h.2⟩ : Fin 6656)) : EReal).toReal else 0
def row1 (x : FVec Ideal S65536x128 .f32) (b n s : ℕ) : ℝ :=
  if h : b * 2048 + s < 65536 ∧ n < 128 then (x (ix2 (⟨b * 2048 + s, h.1⟩ : Fin 65536) (⟨n, h.2⟩ : Fin 128)) : EReal).toReal else 0

theorem row0_eq (x : FVec Ideal S65536x6656 .bf16) (b n s : ℕ) (d : Fin 128) (u : Fin 65536) (w : Fin 6656) (hu : u.val = b * 2048 + s) (hw : w.val = n + d.val)
    (hx : ((x (ix2 u w) : EReal).toReal : EReal) = x (ix2 u w)) : x (ix2 u w) = (row0 x b n s d : EReal) := by
  obtain ⟨u, h1⟩ := u
  obtain ⟨w, h2⟩ := w
  obtain rfl : u = b * 2048 + s := hu
  obtain rfl : w = n + d.val := hw
  unfold row0
  rw [dif_pos ⟨h1, h2⟩]
  exact hx.symm
theorem row1_eq (x : FVec Ideal S65536x128 .f32) (b n s : ℕ) (u : Fin 65536) (w : Fin 128) (hu : u.val = b * 2048 + s) (hw : w.val = n)
    (hx : ((x (ix2 u w) : EReal).toReal : EReal) = x (ix2 u w)) : x (ix2 u w) = (row1 x b n s : EReal) := by
  obtain ⟨u, h1⟩ := u
  obtain ⟨w, h2⟩ := w
  obtain rfl : u = b * 2048 + s := hu
  obtain rfl : w = n := hw
  unfold row1
  rw [dif_pos ⟨h1, h2⟩]
  exact hx.symm

section pre
variable (x0 : FVec Ideal S65536x6656 .bf16) (x1 : FVec Ideal S65536x128 .f32) (x2 : FVec Ideal S512 .f32)

theorem lt_top (y : EReal) (h : Ideal.cmp .olt (max y (-y)) (Ideal.ofBits .f32 0x7F800000#32) = 1#1) : ((y : EReal).toReal : EReal) = y := by
  have top : Ideal.ofBits .f32 0x7F800000#32 = ⊤ := by simp [Ideal.ofBits, Ideal.ieee]
  apply Cert.KernelIdeal.Sb.real_of_abs
  by_contra hc
  rw [top] at h
  simp [Ideal.cmp, hc] at h

/-- The precondition at an entry: queries, keys and values are real numbers, -/
theorem pre_main (h : Cert.Pre_finite_mlstm.fn (F := Ideal) x0 x1 x2 = fun _ => 1#1) (s : Fin 65536) (d : Fin 1536) :
    ((x0 (ix2 s (⟨4096 + d.val, by omega⟩ : Fin 6656)) : EReal).toReal : EReal) = x0 (ix2 s (⟨4096 + d.val, by omega⟩ : Fin 6656)) := by
  refine lt_top _ (Eq.trans ?_ (congrFun h (ix2 s (⟨d.val, by omega⟩ : Fin 1544))))
  symm
  pointwise [Cert.Pre_finite_mlstm.fn]
  rfl

/-- and the gates are. -/
theorem pre_gate (h : Cert.Pre_finite_mlstm.fn (F := Ideal) x0 x1 x2 = fun _ => 1#1) (s : Fin 65536) (d : Fin 8) :
    ((x1 (ix2 s (⟨d.val, by omega⟩ : Fin 128)) : EReal).toReal : EReal) = x1 (ix2 s (⟨d.val, by omega⟩ : Fin 128)) := by
  refine lt_top _ (Eq.trans ?_ (congrFun h (ix2 s (⟨1536 + d.val, by omega⟩ : Fin 1544))))
  symm
  pointwise [Cert.Pre_finite_mlstm.fn]
  rfl
end pre

/-- Grid point `t` works on rows `256 t, …`, chunk `t % 8` of sequence `t / 8`. -/
theorem idx0 : ∀ (t : Fin cfg0.N) (a : Fin 2), win0_0.index t a = ![t.val, 8] a := by decide +kernel
theorem idx1 : ∀ (t : Fin cfg0.N) (a : Fin 2), win0_1.index t a = ![t.val, 9] a := by decide +kernel
theorem idx2 : ∀ (t : Fin cfg0.N) (a : Fin 2), win0_2.index t a = ![t.val, 10] a := by decide +kernel
theorem idx3 : ∀ (t : Fin cfg0.N) (a : Fin 2), win0_3.index t a = ![t.val, 11] a := by decide +kernel
theorem idx4 : ∀ (t : Fin cfg0.N) (a : Fin 2), win0_4.index t a = ![t.val, 12] a := by decide +kernel
theorem idx5 : ∀ (t : Fin cfg0.N) (a : Fin 2), win0_5.index t a = ![t.val, 0] a := by decide +kernel
theorem idx6 : ∀ (t : Fin cfg0.N) (a : Fin 2), win0_6.index t a = ![0, 0] a := by decide +kernel
theorem idx7 : ∀ (t : Fin cfg0.N) (a : Fin 2), win0_7.index t a = ![t.val, 0] a := by decide +kernel

theorem lane (h : Fin 4) (e : Fin 128) : h.val * 128 + e.val < 512 := by omega
theorem tN (t : Fin cfg0.N) : t.val < 256 := lt_of_lt_of_eq t.isLt (by decide +kernel)

section value
variable (m : (ℓ : Loc nD τ sig) → Buf (Elt Ideal) ℓ) (c : Dev nD)

/-- The three arguments. -/
abbrev X0 : FVec Ideal S65536x6656 .bf16 := m ((c : Thread nD τ).loc main_arg0)
abbrev X1 : FVec Ideal S65536x128 .f32 := m ((c : Thread nD τ).loc main_arg1)
abbrev X2 : FVec Ideal S512 .f32 := m ((c : Thread nD τ).loc main_arg2)

theorem V0 : V (F := Ideal) m c main_v0 = broadcastInDim S1x512 ![1] bcast_S512_S1x512_1 (X2 m c) := by
  simp only [V, hostOps0]
  after_results

theorem blk0 (t : Fin cfg0.N) (r : Fin 256) (y : Fin 512) (h : t.val / 8 * 2048 + (256 * (t.val % 8) + r.val) < 65536) :
    iblk (F := Ideal) m c 0 t (ix2 r y) = X0 m c (ix2 (⟨t.val / 8 * 2048 + (256 * (t.val % 8) + r.val), h⟩ : Fin 65536) (⟨4096 + y.val, by omega⟩ : Fin 6656)) := by
  blk_simp [iblk]
  refine congrArg (X0 m c) (funext fun a => Fin.ext ?_)
  match a with
  | ⟨0, _⟩ => show win0_0.index t 0 * 256 + 1 * r.val = t.val / 8 * 2048 + (256 * (t.val % 8) + r.val); rw [idx0]; show t.val * 256 + 1 * r.val = _; omega
  | ⟨1, _⟩ => show win0_0.index t 1 * 512 + 1 * y.val = 4096 + y.val; rw [idx0]; show 8 * 512 + 1 * y.val = _; omega

theorem blk1 (t : Fin cfg0.N) (r : Fin 256) (y : Fin 512) (h : t.val / 8 * 2048 + (256 * (t.val % 8) + r.val) < 65536) :
    iblk (F := Ideal) m c 1 t (ix2 r y) = X0 m c (ix2 (⟨t.val / 8 * 2048 + (256 * (t.val % 8) + r.val), h⟩ : Fin 65536) (⟨4608 + y.val, by omega⟩ : Fin 6656)) := by
  blk_simp [iblk]
  refine congrArg (X0 m c) (funext fun a => Fin.ext ?_)
  match a with
  | ⟨0, _⟩ => show win0_1.index t 0 * 256 + 1 * r.val = t.val / 8 * 2048 + (256 * (t.val % 8) + r.val); rw [idx1]; show t.val * 256 + 1 * r.val = _; omega
  | ⟨1, _⟩ => show win0_1.index t 1 * 512 + 1 * y.val = 4608 + y.val; rw [idx1]; show 9 * 512 + 1 * y.val = _; omega

theorem blk2 (t : Fin cfg0.N) (r : Fin 256) (y : Fin 512) (h : t.val / 8 * 2048 + (256 * (t.val % 8) + r.val) < 65536) :
    iblk (F := Ideal) m c 2 t (ix2 r y) = X0 m c (ix2 (⟨t.val / 8 * 2048 + (256 * (t.val % 8) + r.val), h⟩ : Fin 65536) (⟨5120 + y.val, by omega⟩ : Fin 6656)) := by
  blk_simp [iblk]
  refine congrArg (X0 m c) (funext fun a => Fin.ext ?_)
  match a with
  | ⟨0, _⟩ => show win0_2.index t 0 * 256 + 1 * r.val = t.val / 8 * 2048 + (256 * (t.val % 8) + r.val); rw [idx2]; show t.val * 256 + 1 * r.val = _; omega
  | ⟨1, _⟩ => show win0_2.index t 1 * 512 + 1 * y.val = 5120 + y.val; rw [idx2]; show 10 * 512 + 1 * y.val = _; omega

theorem blk3 (t : Fin cfg0.N) (r : Fin 256) (y : Fin 512) (h : t.val / 8 * 2048 + (256 * (t.val % 8) + r.val) < 65536) :
    iblk (F := Ideal) m c 3 t (ix2 r y) = X0 m c (ix2 (⟨t.val / 8 * 2048 + (256 * (t.val % 8) + r.val), h⟩ : Fin 65536) (⟨5632 + y.val, by omega⟩ : Fin 6656)) := by
  blk_simp [iblk]
  refine congrArg (X0 m c) (funext fun a => Fin.ext ?_)
  match a with
  | ⟨0, _⟩ => show win0_3.index t 0 * 256 + 1 * r.val = t.val / 8 * 2048 + (256 * (t.val % 8) + r.val); rw [idx3]; show t.val * 256 + 1 * r.val = _; omega
  | ⟨1, _⟩ => show win0_3.index t 1 * 512 + 1 * y.val = 5632 + y.val; rw [idx3]; show 11 * 512 + 1 * y.val = _; omega

theorem blk4 (t : Fin cfg0.N) (r : Fin 256) (y : Fin 512) (h : t.val / 8 * 2048 + (256 * (t.val % 8) + r.val) < 65536) :
    iblk (F := Ideal) m c 4 t (ix2 r y) = X0 m c (ix2 (⟨t.val / 8 * 2048 + (256 * (t.val % 8) + r.val), h⟩ : Fin 65536) (⟨6144 + y.val, by omega⟩ : Fin 6656)) := by
  blk_simp [iblk]
  refine congrArg (X0 m c) (funext fun a => Fin.ext ?_)
  match a with
  | ⟨0, _⟩ => show win0_4.index t 0 * 256 + 1 * r.val = t.val / 8 * 2048 + (256 * (t.val % 8) + r.val); rw [idx4]; show t.val * 256 + 1 * r.val = _; omega
  | ⟨1, _⟩ => show win0_4.index t 1 * 512 + 1 * y.val = 6144 + y.val; rw [idx4]; show 12 * 512 + 1 * y.val = _; omega

theorem blk5 (t : Fin cfg0.N) (r : Fin 256) (y : Fin 128) (h : t.val / 8 * 2048 + (256 * (t.val % 8) + r.val) < 65536) :
    iblk (F := Ideal) m c 5 t (ix2 r y) = X1 m c (ix2 (⟨t.val / 8 * 2048 + (256 * (t.val % 8) + r.val), h⟩ : Fin 65536) y) := by
  blk_simp [iblk]
  refine congrArg (X1 m c) (funext fun a => Fin.ext ?_)
  match a with
  | ⟨0, _⟩ => show win0_5.index t 0 * 256 + 1 * r.val = t.val / 8 * 2048 + (256 * (t.val % 8) + r.val); rw [idx5]; show t.val * 256 + 1 * r.val = _; omega
  | ⟨1, _⟩ => show win0_5.index t 1 * 128 + 1 * y.val = y.val; rw [idx5]; show 0 * 128 + 1 * y.val = _; omega

/-- The scales with the unit axis dropped. -/
theorem scale_read (x : FVec Ideal S512 .f32) (y : Fin 512) : broadcastInDim S1x512 ![1] bcast_S512_S1x512_1 x (ix2 (0 : Fin 1) y) = x (ix1 y) := by
  pointwise

theorem blk6 (t : Fin cfg0.N) (y : Fin 512) : iblk (F := Ideal) m c 6 t (ix2 (0 : Fin 1) y) = X2 m c (ix1 y) := by
  blk_simp [iblk]
  show V (F := Ideal) m c main_v0 _ = _
  rw [V0]
  refine Eq.trans (congrArg (broadcastInDim S1x512 ![1] bcast_S512_S1x512_1 (X2 m c)) (show _ = ix2 (0 : Fin 1) y from funext fun a => Fin.ext ?_)) (scale_read (X2 m c) y)
  match a with
  | ⟨0, _⟩ => show win0_6.index t 0 * 1 + 1 * 0 = 0; rw [idx6]; rfl
  | ⟨1, _⟩ => show win0_6.index t 1 * 512 + 1 * y.val = y.val; rw [idx6]; show 0 * 512 + 1 * y.val = _; omega

variable (hx : ∀ (s : Fin 65536) (d : Fin 1536), ((X0 m c (ix2 s (⟨4096 + d.val, by omega⟩ : Fin 6656)) : EReal).toReal : EReal) = X0 m c (ix2 s (⟨4096 + d.val, by omega⟩ : Fin 6656)))
  (hg : ∀ (s : Fin 65536) (d : Fin 8), ((X1 m c (ix2 s (⟨d.val, by omega⟩ : Fin 128)) : EReal).toReal : EReal) = X1 m c (ix2 s (⟨d.val, by omega⟩ : Fin 128)))

/-- A head's sequences. -/
abbrev fgs (b h : ℕ) : ℕ → ℝ := row1 (X1 m c) b (4 + h)
abbrev Ls (b h : ℕ) : ℕ → ℝ := fun s => -sp (-fgs m c b h s)
abbrev igs (b h : ℕ) : ℕ → ℝ := row1 (X1 m c) b h
abbrev qs (b h : ℕ) : ℕ → Fin 128 → ℝ := row0 (X0 m c) b (4096 + h * 128)
abbrev ks (b h : ℕ) : ℕ → Fin 128 → ℝ := row0 (X0 m c) b (4608 + h * 128)
abbrev vs (b h : ℕ) : ℕ → Fin 128 → ℝ := row0 (X0 m c) b (5120 + h * 128)

section blocks
variable (t : Fin cfg0.N) (h : Fin 4)

include hg in
theorem f_ic (r : Fin 256) : ics (iblk m c 5 t) h (ix2 r (0 : Fin 1)) = (igs m c (t.val / 8) h.val (256 * (t.val % 8) + r.val) : EReal) := by
  have ht := tN t
  rw [ics_apply, blk5 m c t r _ (by omega)]
  exact row1_eq _ _ _ _ _ _ rfl rfl (hg _ ⟨h.val, by omega⟩)
include hg in
theorem f_ir (r : Fin 256) : irs (iblk m c 5 t) h (ix2 (0 : Fin 1) r) = (igs m c (t.val / 8) h.val (256 * (t.val % 8) + r.val) : EReal) := by
  have ht := tN t
  rw [irs_apply, blk5 m c t r _ (by omega)]
  exact row1_eq _ _ _ _ _ _ rfl rfl (hg _ ⟨h.val, by omega⟩)
include hg in
theorem f_6 (r : Fin 256) : k0_pay6 (F := Ideal) (iblk m c 5 t) (ix2 r (⟨4 + h.val, by omega⟩ : Fin 128))
    = (loc (Ls m c (t.val / 8) h.val) (256 * (t.val % 8)) r.val : EReal) := by
  have ht := tN t
  refine pay6_apply (iblk m c 5 t) (fgs m c (t.val / 8) h.val) (256 * (t.val % 8)) _ (fun x => ?_) r
  rw [blk5 m c t x _ (by omega)]
  exact row1_eq _ _ _ _ _ _ rfl rfl (hg _ ⟨4 + h.val, by omega⟩)
include hg in
theorem f_bc (r : Fin 256) : bcs (iblk m c 5 t) h (ix2 r (0 : Fin 1)) = (loc (Ls m c (t.val / 8) h.val) (256 * (t.val % 8)) r.val : EReal) :=
  (bcs_apply _ h r).trans (f_6 m c hg t h r)
include hg in
theorem f_br (r : Fin 256) : brs (iblk m c 5 t) h (ix2 (0 : Fin 1) r) = (loc (Ls m c (t.val / 8) h.val) (256 * (t.val % 8)) r.val : EReal) :=
  (brs_apply _ h r).trans (f_6 m c hg t h r)
include hx in
theorem f_q (r : Fin 256) (d : Fin 128) : cols (iblk m c 0 t) h (ix2 r d) = (qs m c (t.val / 8) h.val (256 * (t.val % 8) + r.val) d : EReal) := by
  have ht := tN t
  rw [cols_apply, blk0 m c t r _ (by omega)]
  exact row0_eq _ _ _ _ _ _ _ rfl (show 4096 + (h.val * 128 + d.val) = _ by omega) (hx _ ⟨h.val * 128 + d.val, by omega⟩)
include hx in
theorem f_k (r : Fin 256) (d : Fin 128) : cols (iblk m c 1 t) h (ix2 r d) = (ks m c (t.val / 8) h.val (256 * (t.val % 8) + r.val) d : EReal) := by
  have ht := tN t
  rw [cols_apply, blk1 m c t r _ (by omega), show (⟨4608 + (h.val * 128 + d.val), by omega⟩ : Fin 6656) = ⟨4096 + (512 + h.val * 128 + d.val), by omega⟩ from Fin.ext (by show 4608 + (h.val * 128 + d.val) = 4096 + (512 + h.val * 128 + d.val); omega)]
  exact row0_eq _ _ _ _ _ _ _ rfl (show 4096 + (512 + h.val * 128 + d.val) = 4608 + h.val * 128 + d.val by omega) (hx _ ⟨512 + h.val * 128 + d.val, by omega⟩)
include hx in
theorem f_v (r : Fin 256) (d : Fin 128) : cols (iblk m c 2 t) h (ix2 r d) = (vs m c (t.val / 8) h.val (256 * (t.val % 8) + r.val) d : EReal) := by
  have ht := tN t
  rw [cols_apply, blk2 m c t r _ (by omega), show (⟨5120 + (h.val * 128 + d.val), by omega⟩ : Fin 6656) = ⟨4096 + (1024 + h.val * 128 + d.val), by omega⟩ from Fin.ext (by show 5120 + (h.val * 128 + d.val) = 4096 + (1024 + h.val * 128 + d.val); omega)]
  exact row0_eq _ _ _ _ _ _ _ rfl (show 4096 + (1024 + h.val * 128 + d.val) = 5120 + h.val * 128 + d.val by omega) (hx _ ⟨1024 + h.val * 128 + d.val, by omega⟩)
end blocks

include hx hg in
/-- What a point reads of the state, and that it leaves its stores over it: a head's state is the decayed sum over the rows before the chunk,
over the exponential of its stabiliser. -/
theorem enter : ∀ (n : ℕ) (hn : n < cfg0.N) (h : Fin 4), ∃ (ms : Fin 4 → Vec Ideal S1x1x128 .f32) (cs : Fin 4 → Vec Ideal S1x128x256 .f32)
    (LM : List (View.Piece (Elt Ideal) S4x1x128 .f32)) (LC : List (View.Piece (Elt Ideal) S4x128x256 .f32)) (M : ℝ),
    (outsAt0 m c n hn).2.2 = View.canon (pM (iblk m c 5 ⟨n, hn⟩) ms LM)
    ∧ (outsAt0 m c n hn).2.1 = View.canon (pC (iblk m c 1 ⟨n, hn⟩) (iblk m c 2 ⟨n, hn⟩) (iblk m c 5 ⟨n, hn⟩) ms cs LC)
    ∧ (outsAt0 m c n hn).1 = View.canon (pO (iblk m c 0 ⟨n, hn⟩) (iblk m c 1 ⟨n, hn⟩) (iblk m c 2 ⟨n, hn⟩) (iblk m c 3 ⟨n, hn⟩) (iblk m c 4 ⟨n, hn⟩)
        (iblk m c 5 ⟨n, hn⟩) (iblk m c 6 ⟨n, hn⟩) ms cs)
    ∧ ms h (ix3 0 0 0) = (M : EReal)
    ∧ ∀ (d : Fin 128) (e : Fin 256), cs h (ix3 0 d e)
        = ((Real.exp (-M) * st (Ls m c (n / 8) h.val) (igs m c (n / 8) h.val) (ks m c (n / 8) h.val) (vs m c (n / 8) h.val) (256 * (n % 8)) d e : ℝ) : EReal) := by
  intro n
  induction n with
  | zero =>
    intro hn h
    exact ⟨_, _, _, _, 0, outM_A m c ⟨0, hn⟩ rfl, outC_A m c ⟨0, hn⟩ rfl, outO_A m c ⟨0, hn⟩ rfl, EReal.coe_zero.symm, fun d e => by
      rw [show 256 * (0 % 8) = 0 from rfl, st_zero, mul_zero, EReal.coe_zero]⟩
  | succ n ih =>
    intro hn h
    by_cases h0 : (n + 1) % 8 = 0
    · exact ⟨_, _, _, _, 0, outM_A m c ⟨n + 1, hn⟩ h0, outC_A m c ⟨n + 1, hn⟩ h0, outO_A m c ⟨n + 1, hn⟩ h0, EReal.coe_zero.symm, fun d e => by
        rw [h0, st_zero, mul_zero, EReal.coe_zero]⟩
    · have hn' : n < cfg0.N := by omega
      obtain ⟨ms, cs, LM, LC, M, e1, e2, -, hm, hc⟩ := ih hn' h
      obtain ⟨M', s1, s2⟩ := step_real (bcs (iblk m c 5 ⟨n, hn'⟩) h) (ics (iblk m c 5 ⟨n, hn'⟩) h) (cols (iblk m c 1 ⟨n, hn'⟩) h) (cols (iblk m c 2 ⟨n, hn'⟩) h)
        (ms h) (cs h) (Ls m c (n / 8) h.val) (igs m c (n / 8) h.val) (ks m c (n / 8) h.val) (vs m c (n / 8) h.val) (256 * (n % 8)) M
        (f_bc m c hg ⟨n, hn'⟩ h) (f_ic m c hg ⟨n, hn'⟩ h) (f_k m c hx ⟨n, hn'⟩ h) (f_v m c hx ⟨n, hn'⟩ h) hm hc
      refine ⟨_, _, _, _, M', outM_B m c ⟨n + 1, hn⟩ h0, outC_B m c ⟨n + 1, hn⟩ h0, outO_B m c ⟨n + 1, hn⟩ h0, ?_, fun d e => ?_⟩
      · rw [slM_apply]
        show (outsAt0 m c n hn').2.2 _ = _
        rw [e1, canon_pM, s1]
      · rw [slC_apply]
        show (outsAt0 m c n hn').2.1 _ = _
        rw [e2, canon_pC, s2, show (n + 1) / 8 = n / 8 by omega, show 256 * ((n + 1) % 8) = 256 * (n % 8) + 256 by omega]

include hx hg in
/-- The result is the reference's: every value is written once, by the point that holds it. -/
theorem final :
    (dats (F := Ideal) m 0 c).arrAt 7 cfg0.N = Cert.Reference5Ideal.Read.val_main_v79 (F := Ideal) (X0 m c) (X1 m c) (X2 m c) := by
  refine (dats (F := Ideal) m 0 c).arrAt_eq_of_covers 7 _ (by decide +kernel) fun t hf y => ?_
  blk_simp
  rw [after0_7]
  have ht := tN t
  have q0 : (y 0).val < 256 := (y 0).isLt
  have q1 : (y 1).val < 512 := (y 1).isLt
  obtain ⟨r, h, e, rfl⟩ : ∃ (r : Fin 256) (h : Fin 4) (e : Fin 128), y = ix2 r (⟨h.val * 128 + e.val, lane h e⟩ : Fin 512) :=
    ⟨⟨_, q0⟩, ⟨(y 1).val / 128, by omega⟩, ⟨(y 1).val % 128, by omega⟩, by
    funext a
    match a with
    | ⟨0, _⟩ => rfl
    | ⟨1, _⟩ => exact Fin.ext (show (y 1).val = (y 1).val / 128 * 128 + (y 1).val % 128 by omega)⟩
  have hr := r.isLt
  obtain ⟨b, hb⟩ : ∃ b : Fin 32, b.val = t.val / 8 := ⟨⟨t.val / 8, by omega⟩, rfl⟩
  obtain ⟨s, hs⟩ : ∃ s : Fin 2048, s.val = 256 * (t.val % 8) + r.val := ⟨⟨256 * (t.val % 8) + r.val, by omega⟩, rfl⟩
  have he : (win0_7.blk t).view.emb (ix2 r (⟨h.val * 128 + e.val, lane h e⟩ : Fin 512)) = ix2 (⟨b.val * 2048 + s.val, by omega⟩ : Fin 65536) (⟨h.val * 128 + e.val, lane h e⟩ : Fin 512) :=
    funext fun a => Fin.ext (by
      match a with
      | ⟨0, _⟩ => show win0_7.index t 0 * 256 + 1 * r.val = b.val * 2048 + s.val; rw [idx7]; show t.val * 256 + 1 * r.val = _; omega
      | ⟨1, _⟩ => show win0_7.index t 1 * 512 + 1 * (h.val * 128 + e.val) = h.val * 128 + e.val; rw [idx7]; show 0 * 512 + 1 * (h.val * 128 + e.val) = _; omega)
  obtain ⟨ms, cs, LM, LC, M, -, -, e3, hm, hc⟩ := enter m c hx hg t.val t.isLt h
  refine Eq.trans ?_ ((congrArg _ he).trans (Cert.Reference5Ideal.Ml.out_apply (X0 m c) (X1 m c) (X2 m c) b h s e)).symm
  refine ((congrFun e3 _).trans (canon_pO _ _ _ _ _ _ _ _ _ h r e)).trans ?_
  unfold ho
  rw [headO_apply]
  have er : rd (bcs (iblk m c 5 t) h) (brs (iblk m c 5 t) h) (irs (iblk m c 5 t) h) (cols (iblk m c 0 t) h) (cols (iblk m c 1 t) h) (cols (iblk m c 2 t) h) (ms h) (cs h) r
      = fun y => Cert.Reference5Ideal.Read.val_main_v46 (F := Ideal) (X0 m c) (X1 m c) (ix4 b h s y) := funext fun y => by
    rw [rd_real _ _ _ _ _ _ _ _ (Ls m c (t.val / 8) h.val) (igs m c (t.val / 8) h.val) (qs m c (t.val / 8) h.val) (ks m c (t.val / 8) h.val) (vs m c (t.val / 8) h.val)
      (256 * (t.val % 8)) M (f_bc m c hg t h) (f_br m c hg t h) (f_ir m c hg t h) (f_q m c hx t h) (f_k m c hx t h) (f_v m c hx t h) hm hc r y,
      Cert.Reference5Ideal.Ml.rd_real (X0 m c) (X1 m c) b h (fg := fgs m c b.val h.val) (ig := igs m c b.val h.val) (qf := qs m c b.val h.val) (kf := ks m c b.val h.val) (vf := vs m c b.val h.val)
        (hf := fun u => row1_eq _ _ _ _ _ _ rfl rfl (hg _ ⟨4 + h.val, by omega⟩))
        (hi := fun u => row1_eq _ _ _ _ _ _ rfl rfl (hg _ ⟨h.val, by omega⟩))
        (hq := fun u d => row0_eq _ _ _ _ _ _ _ rfl (show 4096 + (h.val * 128 + d.val) = _ by omega) (hx _ ⟨h.val * 128 + d.val, by omega⟩))
        (hk := fun u d => row0_eq _ _ _ _ _ _ _ rfl (show 4608 + (h.val * 128 + d.val) = _ by omega) (by
          have := hx ⟨b.val * 2048 + u.val, by omega⟩ ⟨512 + h.val * 128 + d.val, by omega⟩
          rwa [show (⟨4096 + (512 + h.val * 128 + d.val), by omega⟩ : Fin 6656) = ⟨4608 + (h.val * 128 + d.val), by omega⟩ from Fin.ext (by show 4096 + (512 + h.val * 128 + d.val) = 4608 + (h.val * 128 + d.val); omega)] at this))
        (hv := fun u d => row0_eq _ _ _ _ _ _ _ rfl (show 5120 + (h.val * 128 + d.val) = _ by omega) (by
          have := hx ⟨b.val * 2048 + u.val, by omega⟩ ⟨1024 + h.val * 128 + d.val, by omega⟩
          rwa [show (⟨4096 + (1024 + h.val * 128 + d.val), by omega⟩ : Fin 6656) = ⟨5120 + (h.val * 128 + d.val), by omega⟩ from Fin.ext (by show 4096 + (1024 + h.val * 128 + d.val) = 5120 + (h.val * 128 + d.val); omega)] at this)),
      hb, hs]
  rw [er, gcols_apply, cols_apply, cols_apply, blk6, blk3 m c t r _ (by omega), blk4 m c t r _ (by omega)]
  have ei : (⟨t.val / 8 * 2048 + (256 * (t.val % 8) + r.val), by omega⟩ : Fin 65536) = ⟨b.val * 2048 + s.val, by omega⟩ := Fin.ext (by show t.val / 8 * 2048 + (256 * (t.val % 8) + r.val) = b.val * 2048 + s.val; omega)
  rw [ei]

end value

/-- The claim: where queries, keys, values and gates are finite, the kernel and the reference end with equal results. -/
theorem algebraic : Cert.algebraic_Kernel5Ideal_Reference5Ideal_pre_finite_mlstm := by
  intro m ρ m' ρ' hpre hagree
  refine ⟨fun c => (dats (F := Ideal) m 0 c).arrAt 7 cfg0.N, Cert.Kernel5Ideal.Value.run_blocks (F := Ideal) m ρ, ?_⟩
  refine (θ_run Cert.Reference5Ideal.defs _ _).mono (fun _ h c => ⟨(h c).1.trans ?_, (h c).2⟩) (Cert.Reference5Ideal.Value.run (F := Ideal) m' ρ')
  obtain ⟨g0, g1, g2⟩ := hagree c
  refine (Cert.Reference5Ideal.Read.val_main_v79_eq (F := Ideal) _ _).trans (Eq.trans ?_ (final m c (pre_main _ _ _ (hpre c)) (pre_gate _ _ _ (hpre c))).symm)
  exact congr (congr (congrArg _ g0) g1) g2

end Cert.Kernel5Ideal.Ml

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_qk
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_mlstm
public import proofs.«01_k».proof.Proof.SbKernel
public import proofs.«01_k».proof.Proof.SbKernelIdeal
public import proofs.«01_k».proof.Proof.SbClaim
public import proofs.«01_k».proof.Proof.OutValue
public import proofs.«01_k».proof.Proof.InValue
public import proofs.«01_k».proof.Proof.AdaValue
public import proofs.«01_k».proof.Proof.MlValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite_qk.Gen.facts, Cert.Pre_finite_mlstm.Gen.facts,
  fun m ρ _ => Cert.Kernel.Sb.frame m ρ,
  fun m ρ _ => Cert.KernelIdeal.Sb.frame m ρ,
  fun m ρ _ => Cert.KernelIdeal.Sb.frame m ρ,
  fun m ρ _ => Cert.ReferenceIdeal.Sb.frame m ρ,
  fun m ρ _ => Cert.ReferenceIdeal.Sb.frame m ρ,
  fun m ρ _ => Cert.Kernel2.Gen.frame m ρ,
  fun m ρ _ => Cert.Kernel2Ideal.Gen.frame m ρ,
  fun m ρ _ => (θ_run _ _ _).mono (fun r h => ⟨fun c => (h c).2, Idealize.ShloMosaic.sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => (θ_run _ _ _).mono (fun r h => ⟨fun c => (h c).2.2, Idealize.ShloMosaic.sem_eq_zero_of_no_sems (by decide) r.2⟩) (Cert.Reference3Ideal.Value.run (F := Ideal) m ρ),
  fun m ρ _ => Cert.Kernel4.Gen.frame m ρ,
  fun m ρ _ => Cert.Kernel4Ideal.Gen.frame m ρ,
  fun m ρ _ => (θ_run _ _ _).mono (fun r h => ⟨fun c => (h c).2, Idealize.ShloMosaic.sem_eq_zero_of_no_sems (by decide) r.2⟩) (Cert.Reference4Ideal.Value.run (F := Ideal) m ρ),
  fun m ρ _ => Cert.Kernel5.Gen.frame m ρ,
  fun m ρ _ => Cert.Kernel5Ideal.Gen.frame m ρ,
  fun m ρ _ => Cert.Kernel5Ideal.Gen.frame m ρ,
  fun m ρ _ => (θ_run _ _ _).mono (fun r h => ⟨fun c => (h c).2, Idealize.ShloMosaic.sem_eq_zero_of_no_sems (by decide) r.2⟩) (Cert.Reference5Ideal.Value.run (F := Ideal) m ρ),
  fun m ρ _ => (θ_run _ _ _).mono (fun r h => ⟨fun c => (h c).2, Idealize.ShloMosaic.sem_eq_zero_of_no_sems (by decide) r.2⟩) (Cert.Reference5Ideal.Value.run (F := Ideal) m ρ),
  trivial,
  Cert.KernelIdeal.Sb.algebraic,
  trivial,
  Cert.Kernel2Ideal.Out.algebraic,
  trivial,
  Cert.Kernel3Ideal.In.algebraic,
  trivial,
  Cert.Kernel4Ideal.Ada.algebraic,
  trivial,
  Cert.Kernel5Ideal.Ml.algebraic⟩

end Cert.Proof

end
